-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_mlp [hPre_finite_mlp : Cert.Pre_finite_mlp.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_mlp.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_mlp [hPre_finite_mlp : Cert.Pre_finite_mlp.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_mlp.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mlp [hPre_finite_mlp : Cert.Pre_finite_mlp.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mlp [hPre_finite_mlp : Cert.Pre_finite_mlp.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_diff [hPre_finite_diff : Cert.Pre_finite_diff.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_diff.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_diff [hPre_finite_diff : Cert.Pre_finite_diff.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_diff.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_mlp [hKernel2Ideal : Cert.Kernel2Ideal.Facts] [hPre_finite_mlp : Cert.Pre_finite_mlp.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_mlp m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_mlp [hReference2Ideal : Cert.Reference2Ideal.Facts] [hPre_finite_mlp : Cert.Pre_finite_mlp.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_mlp m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_mlp [hKernel3Ideal : Cert.Kernel3Ideal.Facts] [hPre_finite_mlp : Cert.Pre_finite_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mlp m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_mlp [hReference3Ideal : Cert.Reference3Ideal.Facts] [hPre_finite_mlp : Cert.Pre_finite_mlp.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mlp m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_diff [hKernel8Ideal : Cert.Kernel8Ideal.Facts] [hPre_finite_diff : Cert.Pre_finite_diff.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_diff m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_diff [hReference8Ideal : Cert.Reference8Ideal.Facts] [hPre_finite_diff : Cert.Pre_finite_diff.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_diff m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_mlp [hKernel2Ideal : Cert.Kernel2Ideal.Facts] [hReference2Ideal : Cert.Reference2Ideal.Facts] [hPre_finite_mlp : Cert.Pre_finite_mlp.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_mlp m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_mlp [hKernel3Ideal : Cert.Kernel3Ideal.Facts] [hReference3Ideal : Cert.Reference3Ideal.Facts] [hPre_finite_mlp : Cert.Pre_finite_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mlp m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_diff [hKernel8Ideal : Cert.Kernel8Ideal.Facts] [hReference8Ideal : Cert.Reference8Ideal.Facts] [hPre_finite_diff : Cert.Pre_finite_diff.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_diff m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_mlp : Cert.Pre_finite_mlp.Facts) (hPre_finite_diff : Cert.Pre_finite_diff.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_mlp (hKernel2Ideal := hKernel2Ideal) (hPre_finite_mlp := hPre_finite_mlp)
    ∧ quiescent_Reference2Ideal (hReference2Ideal := hReference2Ideal)
    ∧ quiescent_Reference2Ideal_pre_finite_mlp (hReference2Ideal := hReference2Ideal) (hPre_finite_mlp := hPre_finite_mlp)
    ∧ quiescent_Kernel3 (hKernel3 := hKernel3)
    ∧ quiescent_Kernel3Ideal (hKernel3Ideal := hKernel3Ideal)
    ∧ quiescent_Kernel3Ideal_pre_finite_mlp (hKernel3Ideal := hKernel3Ideal) (hPre_finite_mlp := hPre_finite_mlp)
    ∧ quiescent_Reference3Ideal (hReference3Ideal := hReference3Ideal)
    ∧ quiescent_Reference3Ideal_pre_finite_mlp (hReference3Ideal := hReference3Ideal) (hPre_finite_mlp := hPre_finite_mlp)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_diff (hKernel8Ideal := hKernel8Ideal) (hPre_finite_diff := hPre_finite_diff)
    ∧ quiescent_Reference8Ideal (hReference8Ideal := hReference8Ideal)
    ∧ quiescent_Reference8Ideal_pre_finite_diff (hReference8Ideal := hReference8Ideal) (hPre_finite_diff := hPre_finite_diff)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_mlp (hKernel2Ideal := hKernel2Ideal) (hReference2Ideal := hReference2Ideal) (hPre_finite_mlp := hPre_finite_mlp)
    ∧ preserves_Kernel3_Kernel3Ideal
    ∧ algebraic_Kernel3Ideal_Reference3Ideal_pre_finite_mlp (hKernel3Ideal := hKernel3Ideal) (hReference3Ideal := hReference3Ideal) (hPre_finite_mlp := hPre_finite_mlp)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_diff (hKernel8Ideal := hKernel8Ideal) (hReference8Ideal := hReference8Ideal) (hPre_finite_diff := hPre_finite_diff)
-- ==== Pre_finite_diff.lean ====
abbrev S52x16384x128 : Shape := ⟨3, ![52, 16384, 128]⟩
abbrev S72x16384x128 : Shape := ⟨3, ![72, 16384, 128]⟩
abbrev S52x512x128 : Shape := ⟨3, ![52, 512, 128]⟩
abbrev S72x512x128 : Shape := ⟨3, ![72, 512, 128]⟩
abbrev S128 : Shape := ⟨1, ![128]⟩
abbrev S256 : Shape := ⟨1, ![256]⟩
abbrev S32x16384x128 : Shape := ⟨3, ![32, 16384, 128]⟩
abbrev S_ : Shape := ⟨0, ![]⟩
abbrev S16x512x128 : Shape := ⟨3, ![16, 512, 128]⟩
abbrev S16x16384x128 : Shape := ⟨3, ![16, 16384, 128]⟩

class Facts : Prop where
  slices_S52x16384x128_S32x16384x128_20_0_0 : S52x16384x128.Slices ![20, 0, 0] S32x16384x128
  bitsLt_bf16_f32 : FTy.bits .bf16 < FTy.bits .f32
  bcast_S_S32x16384x128 : S_.BroadcastsInDim S32x16384x128 (![] : Fin 0 → Fin S32x16384x128.rank)
  reducesTo_S32x16384x128_S_d0_1_2 : S32x16384x128.ReducesTo [0, 1, 2] S_
  h_S_ : 0 < S_.numel
  slices_S52x512x128_S16x512x128_36_0_0 : S52x512x128.Slices ![36, 0, 0] S16x512x128
  bcast_S_S16x512x128 : S_.BroadcastsInDim S16x512x128 (![] : Fin 0 → Fin S16x512x128.rank)
  reducesTo_S16x512x128_S_d0_1_2 : S16x512x128.ReducesTo [0, 1, 2] S_
  slices_S72x16384x128_S16x16384x128_56_0_0 : S72x16384x128.Slices ![56, 0, 0] S16x16384x128
  bcast_S_S16x16384x128 : S_.BroadcastsInDim S16x16384x128 (![] : Fin 0 → Fin S16x16384x128.rank)
  reducesTo_S16x16384x128_S_d0_1_2 : S16x16384x128.ReducesTo [0, 1, 2] S_
  slices_S72x512x128_S16x512x128_56_0_0 : S72x512x128.Slices ![56, 0, 0] S16x512x128
  bcast_S_S128 : S_.BroadcastsInDim S128 (![] : Fin 0 → Fin S128.rank)
  reducesTo_S128_S_d0 : S128.ReducesTo [0] S_

variable [Facts]

def fn_part2 {F : FTy → Type} [FloatOps F] (main_arg6 : FVec F S128 .f32) (main_arg7 : FVec F S128 .f32) (main_v31 : IVec S_ 1) (main_v35 : IVec S_ 1) : IVec S_ 1 :=
  let main_v36 : IVec S_ 1 := andi main_v31 main_v35
  let main_v37 : FVec F S128 .f32 := Host.absf main_arg6
  let main_cst_10 : FVec F S_ .f32 := constant S_ .f32 0x7F800000#32
  let main_v38 : FVec F S128 .f32 := broadcastInDim S128 ![] bcast_S_S128 main_cst_10
  let main_v39 : IVec S128 1 := cmpf .olt main_v37 main_v38
  let main_c_11 : IVec S_ 1 := constantI S_ 1 1#1
  let main_v40 : IVec S_ 1 := (fun x v => Host.reduce IntOp.andi x v reducesTo_S128_S_d0 h_S_) main_v39 main_c_11
  let main_v41 : IVec S_ 1 := andi main_v36 main_v40
  let main_v42 : FVec F S128 .f32 := Host.absf main_arg7
  let main_cst_12 : FVec F S_ .f32 := constant S_ .f32 0x7F800000#32
  let main_v43 : FVec F S128 .f32 := broadcastInDim S128 ![] bcast_S_S128 main_cst_12
  let main_v44 : IVec S128 1 := cmpf .olt main_v42 main_v43
  let main_c_13 : IVec S_ 1 := constantI S_ 1 1#1
  let main_v45 : IVec S_ 1 := (fun x v => Host.reduce IntOp.andi x v reducesTo_S128_S_d0 h_S_) main_v44 main_c_13
  let main_v46 : IVec S_ 1 := andi main_v41 main_v45
  main_v46

def fn_part1 {F : FTy → Type} [FloatOps F] (main_arg3 : FVec F S72x512x128 .bf16) (main_arg4 : FVec F S128 .f32) (main_arg5 : FVec F S128 .f32) (main_arg6 : FVec F S128 .f32) (main_arg7 : FVec F S128 .f32) (main_v12 : IVec S_ 1) (main_v17 : IVec S16x16384x128 1) (main_c_3 : IVec S_ 1) : IVec S_ 1 :=
  let main_v18 : IVec S_ 1 := (fun x v => Host.reduce IntOp.andi x v reducesTo_S16x16384x128_S_d0_1_2 h_S_) main_v17 main_c_3
  let main_v19 : IVec S_ 1 := andi main_v12 main_v18
  let main_v20 : FVec F S16x512x128 .bf16 := (extractStridedSlice S16x512x128 ![56, 0, 0] · slices_S72x512x128_S16x512x128_56_0_0) main_arg3
  let main_v21 : FVec F S16x512x128 .f32 := (extf .f32 · bitsLt_bf16_f32) main_v20
  let main_v22 : FVec F S16x512x128 .f32 := Host.absf main_v21
  let main_cst_4 : FVec F S_ .f32 := constant S_ .f32 0x7F800000#32
  let main_v23 : FVec F S16x512x128 .f32 := broadcastInDim S16x512x128 ![] bcast_S_S16x512x128 main_cst_4
  let main_v24 : IVec S16x512x128 1 := cmpf .olt main_v22 main_v23
  let main_c_5 : IVec S_ 1 := constantI S_ 1 1#1
  let main_v25 : IVec S_ 1 := (fun x v => Host.reduce IntOp.andi x v reducesTo_S16x512x128_S_d0_1_2 h_S_) main_v24 main_c_5
  let main_v26 : IVec S_ 1 := andi main_v19 main_v25
  let main_v27 : FVec F S128 .f32 := Host.absf main_arg4
  let main_cst_6 : FVec F S_ .f32 := constant S_ .f32 0x7F800000#32
  let main_v28 : FVec F S128 .f32 := broadcastInDim S128 ![] bcast_S_S128 main_cst_6
  let main_v29 : IVec S128 1 := cmpf .olt main_v27 main_v28
  let main_c_7 : IVec S_ 1 := constantI S_ 1 1#1
  let main_v30 : IVec S_ 1 := (fun x v => Host.reduce IntOp.andi x v reducesTo_S128_S_d0 h_S_) main_v29 main_c_7
  let main_v31 : IVec S_ 1 := andi main_v26 main_v30
  let main_v32 : FVec F S128 .f32 := Host.absf main_arg5
  let main_cst_8 : FVec F S_ .f32 := constant S_ .f32 0x7F800000#32
  let main_v33 : FVec F S128 .f32 := broadcastInDim S128 ![] bcast_S_S128 main_cst_8
  let main_v34 : IVec S128 1 := cmpf .olt main_v32 main_v33
  let main_c_9 : IVec S_ 1 := constantI S_ 1 1#1
  let main_v35 : IVec S_ 1 := (fun x v => Host.reduce IntOp.andi x v reducesTo_S128_S_d0 h_S_) main_v34 main_c_9
  fn_part2 (F := F) main_arg6 main_arg7 main_v31 main_v35

def fn {F : FTy → Type} [FloatOps F] (main_arg0 : FVec F S52x16384x128 .bf16) (main_arg1 : FVec F S72x16384x128 .bf16) (main_arg2 : FVec F S52x512x128 .bf16) (main_arg3 : FVec F S72x512x128 .bf16) (main_arg4 : FVec F S128 .f32) (main_arg5 : FVec F S128 .f32) (main_arg6 : FVec F S128 .f32) (main_arg7 : FVec F S128 .f32) (main_arg8 : FVec F S256 .f32) : IVec S_ 1 :=
  let main_v0 : FVec F S32x16384x128 .bf16 := (extractStridedSlice S32x16384x128 ![20, 0, 0] · slices_S52x16384x128_S32x16384x128_20_0_0) main_arg0
  let main_v1 : FVec F S32x16384x128 .f32 := (extf .f32 · bitsLt_bf16_f32) main_v0
  let main_v2 : FVec F S32x16384x128 .f32 := Host.absf main_v1
  let main_cst : FVec F S_ .f32 := constant S_ .f32 0x7F800000#32
  let main_v3 : FVec F S32x16384x128 .f32 := broadcastInDim S32x16384x128 ![] bcast_S_S32x16384x128 main_cst
  let main_v4 : IVec S32x16384x128 1 := cmpf .olt main_v2 main_v3
  let main_c : IVec S_ 1 := constantI S_ 1 1#1
  let main_v5 : IVec S_ 1 := (fun x v => Host.reduce IntOp.andi x v reducesTo_S32x16384x128_S_d0_1_2 h_S_) main_v4 main_c
  let main_v6 : FVec F S16x512x128 .bf16 := (extractStridedSlice S16x512x128 ![36, 0, 0] · slices_S52x512x128_S16x512x128_36_0_0) main_arg2
  let main_v7 : FVec F S16x512x128 .f32 := (extf .f32 · bitsLt_bf16_f32) main_v6
  let main_v8 : FVec F S16x512x128 .f32 := Host.absf main_v7
  let main_cst_0 : FVec F S_ .f32 := constant S_ .f32 0x7F800000#32
  let main_v9 : FVec F S16x512x128 .f32 := broadcastInDim S16x512x128 ![] bcast_S_S16x512x128 main_cst_0
  let main_v10 : IVec S16x512x128 1 := cmpf .olt main_v8 main_v9
  let main_c_1 : IVec S_ 1 := constantI S_ 1 1#1
  let main_v11 : IVec S_ 1 := (fun x v => Host.reduce IntOp.andi x v reducesTo_S16x512x128_S_d0_1_2 h_S_) main_v10 main_c_1
  let main_v12 : IVec S_ 1 := andi main_v5 main_v11
  let main_v13 : FVec F S16x16384x128 .bf16 := (extractStridedSlice S16x16384x128 ![56, 0, 0] · slices_S72x16384x128_S16x16384x128_56_0_0) main_arg1
  let main_v14 : FVec F S16x16384x128 .f32 := (extf .f32 · bitsLt_bf16_f32) main_v13
  let main_v15 : FVec F S16x16384x128 .f32 := Host.absf main_v14
  let main_cst_2 : FVec F S_ .f32 := constant S_ .f32 0x7F800000#32
  let main_v16 : FVec F S16x16384x128 .f32 := broadcastInDim S16x16384x128 ![] bcast_S_S16x16384x128 main_cst_2
  let main_v17 : IVec S16x16384x128 1 := cmpf .olt main_v15 main_v16
  let main_c_3 : IVec S_ 1 := constantI S_ 1 1#1
  fn_part1 (F := F) main_arg3 main_arg4 main_arg5 main_arg6 main_arg7 main_v12 main_v17 main_c_3
-- ==== Pre_finite_mlp.lean ====
abbrev S16384x4096 : Shape := ⟨2, ![16384, 4096]⟩
abbrev S4096 : Shape := ⟨1, ![4096]⟩
abbrev S8x6x1x4096 : Shape := ⟨4, ![8, 6, 1, 4096]⟩
abbrev S4096x16384 : Shape := ⟨2, ![4096, 16384]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S8x6x1x4096 : S_.BroadcastsInDim S8x6x1x4096 (![] : Fin 0 → Fin S8x6x1x4096.rank)
  reducesTo_S8x6x1x4096_S_d0_1_2_3 : S8x6x1x4096.ReducesTo [0, 1, 2, 3] S_
  bitsLt_bf16_f32 : FTy.bits .bf16 < FTy.bits .f32
  bcast_S_S4096x16384 : S_.BroadcastsInDim S4096x16384 (![] : Fin 0 → Fin S4096x16384.rank)
  reducesTo_S4096x16384_S_d0_1 : S4096x16384.ReducesTo [0, 1] S_
  bcast_S_S16384x4096 : S_.BroadcastsInDim S16384x4096 (![] : Fin 0 → Fin S16384x4096.rank)
  reducesTo_S16384x4096_S_d0_1 : S16384x4096.ReducesTo [0, 1] S_

variable [Facts]

def fn_part1 {F : FTy → Type} [FloatOps F] (main_v14 : IVec S_ 1) (main_v16 : FVec F S16384x4096 .f32) (main_cst_4 : FVec F S_ .f32) : IVec S_ 1 :=
  let main_v17 : FVec F S16384x4096 .f32 := broadcastInDim S16384x4096 ![] bcast_S_S16384x4096 main_cst_4
  let main_v18 : IVec S16384x4096 1 := cmpf .olt main_v16 main_v17
  let main_c_5 : IVec S_ 1 := constantI S_ 1 1#1
  let main_v19 : IVec S_ 1 := (fun x v => Host.reduce IntOp.andi x v reducesTo_S16384x4096_S_d0_1 h_S_) main_v18 main_c_5
  let main_v20 : IVec S_ 1 := andi main_v14 main_v19
  main_v20

def fn {F : FTy → Type} [FloatOps F] (main_arg0 : FVec F S16384x4096 .f32) (main_arg1 : FVec F S4096 .f32) (main_arg2 : FVec F S8x6x1x4096 .f32) (main_arg3 : FVec F S4096x16384 .bf16) (main_arg4 : FVec F S16384x4096 .bf16) (main_arg5 : FVec F S4096 .f32) : IVec S_ 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S8x6x1x4096 .f32 := Host.absf main_arg2
  let main_cst_0 : FVec F S_ .f32 := constant S_ .f32 0x7F800000#32
  let main_v5 : FVec F S8x6x1x4096 .f32 := broadcastInDim S8x6x1x4096 ![] bcast_S_S8x6x1x4096 main_cst_0
  let main_v6 : IVec S8x6x1x4096 1 := cmpf .olt main_v4 main_v5
  let main_c_1 : IVec S_ 1 := constantI S_ 1 1#1
  let main_v7 : IVec S_ 1 := (fun x v => Host.reduce IntOp.andi x v reducesTo_S8x6x1x4096_S_d0_1_2_3 h_S_) main_v6 main_c_1
  let main_v8 : IVec S_ 1 := andi main_v3 main_v7
  let main_v9 : FVec F S4096x16384 .f32 := (extf .f32 · bitsLt_bf16_f32) main_arg3
  let main_v10 : FVec F S4096x16384 .f32 := Host.absf main_v9
  let main_cst_2 : FVec F S_ .f32 := constant S_ .f32 0x7F800000#32
  let main_v11 : FVec F S4096x16384 .f32 := broadcastInDim S4096x16384 ![] bcast_S_S4096x16384 main_cst_2
  let main_v12 : IVec S4096x16384 1 := cmpf .olt main_v10 main_v11
  let main_c_3 : IVec S_ 1 := constantI S_ 1 1#1
  let main_v13 : IVec S_ 1 := (fun x v => Host.reduce IntOp.andi x v reducesTo_S4096x16384_S_d0_1 h_S_) main_v12 main_c_3
  let main_v14 : IVec S_ 1 := andi main_v8 main_v13
  let main_v15 : FVec F S16384x4096 .f32 := (extf .f32 · bitsLt_bf16_f32) main_arg4
  let main_v16 : FVec F S16384x4096 .f32 := Host.absf main_v15
  let main_cst_4 : FVec F S_ .f32 := constant S_ .f32 0x7F800000#32
  fn_part1 (F := F) main_v14 main_v16 main_cst_4
-- ==== Pre_finite_qk.lean ====
abbrev S52x16384x128 : Shape := ⟨3, ![52, 16384, 128]⟩
abbrev S72x16384x128 : Shape := ⟨3, ![72, 16384, 128]⟩
abbrev S52x512x128 : Shape := ⟨3, ![52, 512, 128]⟩
abbrev S72x512x128 : Shape := ⟨3, ![72, 512, 128]⟩
abbrev S20x16384x128 : Shape := ⟨3, ![20, 16384, 128]⟩
abbrev S_ : Shape := ⟨0, ![]⟩
abbrev S4x512x128 : Shape := ⟨3, ![4, 512, 128]⟩

class Facts : Prop where
  slices_S52x16384x128_S20x16384x128_0_0_0 : S52x16384x128.Slices ![0, 0, 0] S20x16384x128
  bitsLt_bf16_f32 : FTy.bits .bf16 < FTy.bits .f32
  bcast_S_S20x16384x128 : S_.BroadcastsInDim S20x16384x128 (![] : Fin 0 → Fin S20x16384x128.rank)
  reducesTo_S20x16384x128_S_d0_1_2 : S20x16384x128.ReducesTo [0, 1, 2] S_
  h_S_ : 0 < S_.numel
  slices_S52x512x128_S4x512x128_16_0_0 : S52x512x128.Slices ![16, 0, 0] S4x512x128
  bcast_S_S4x512x128 : S_.BroadcastsInDim S4x512x128 (![] : Fin 0 → Fin S4x512x128.rank)
  reducesTo_S4x512x128_S_d0_1_2 : S4x512x128.ReducesTo [0, 1, 2] S_

variable [Facts]

def fn {F : FTy → Type} [FloatOps F] (main_arg0 : FVec F S52x16384x128 .bf16) (main_arg1 : FVec F S72x16384x128 .bf16) (main_arg2 : FVec F S52x512x128 .bf16) (main_arg3 : FVec F S72x512x128 .bf16) : IVec S_ 1 :=
  let main_v0 : FVec F S20x16384x128 .bf16 := (extractStridedSlice S20x16384x128 ![0, 0, 0] · slices_S52x16384x128_S20x16384x128_0_0_0) main_arg0
  let main_v1 : FVec F S20x16384x128 .f32 := (extf .f32 · bitsLt_bf16_f32) main_v0
  let main_v2 : FVec F S20x16384x128 .f32 := Host.absf main_v1
  let main_cst : FVec F S_ .f32 := constant S_ .f32 0x7F800000#32
  let main_v3 : FVec F S20x16384x128 .f32 := broadcastInDim S20x16384x128 ![] bcast_S_S20x16384x128 main_cst
  let main_v4 : IVec S20x16384x128 1 := cmpf .olt main_v2 main_v3
  let main_c : IVec S_ 1 := constantI S_ 1 1#1
  let main_v5 : IVec S_ 1 := (fun x v => Host.reduce IntOp.andi x v reducesTo_S20x16384x128_S_d0_1_2 h_S_) main_v4 main_c
  let main_v6 : FVec F S4x512x128 .bf16 := (extractStridedSlice S4x512x128 ![16, 0, 0] · slices_S52x512x128_S4x512x128_16_0_0) main_arg2
  let main_v7 : FVec F S4x512x128 .f32 := (extf .f32 · bitsLt_bf16_f32) main_v6
  let main_v8 : FVec F S4x512x128 .f32 := Host.absf main_v7
  let main_cst_0 : FVec F S_ .f32 := constant S_ .f32 0x7F800000#32
  let main_v9 : FVec F S4x512x128 .f32 := broadcastInDim S4x512x128 ![] bcast_S_S4x512x128 main_cst_0
  let main_v10 : IVec S4x512x128 1 := cmpf .olt main_v8 main_v9
  let main_c_1 : IVec S_ 1 := constantI S_ 1 1#1
  let main_v11 : IVec S_ 1 := (fun x v => Host.reduce IntOp.andi x v reducesTo_S4x512x128_S_d0_1_2 h_S_) main_v10 main_c_1
  let main_v12 : IVec S_ 1 := andi main_v5 main_v11
  main_v12
-- ==== Kernel.lean ====
abbrev S52x16384x128 : Shape := ⟨3, ![52, 16384, 128]⟩
abbrev S72x16384x128 : Shape := ⟨3, ![72, 16384, 128]⟩
abbrev S52x512x128 : Shape := ⟨3, ![52, 512, 128]⟩
abbrev S72x512x128 : Shape := ⟨3, ![72, 512, 128]⟩
abbrev S16384x2048 : Shape := ⟨2, ![16384, 2048]⟩
abbrev S4x256x128 : Shape := ⟨3, ![4, 256, 128]⟩
abbrev S1x8192x128 : Shape := ⟨3, ![1, 8192, 128]⟩
abbrev S1x256x128 : Shape := ⟨3, ![1, 256, 128]⟩
abbrev S256x512 : Shape := ⟨2, ![256, 512]⟩
abbrev S8x128x1024 : Shape := ⟨3, ![8, 128, 1024]⟩
abbrev S128x256 : Shape := ⟨2, ![128, 256]⟩
abbrev S256x128 : Shape := ⟨2, ![256, 128]⟩
abbrev S1x1024x128 : Shape := ⟨3, ![1, 1024, 128]⟩
abbrev S1024x128 : Shape := ⟨2, ![1024, 128]⟩
abbrev S128x1024 : Shape := ⟨2, ![128, 1024]⟩
abbrev S1x128x1024 : Shape := ⟨3, ![1, 128, 1024]⟩
abbrev S1x1024 : Shape := ⟨2, ![1, 1024]⟩
abbrev S1024x1024 : Shape := ⟨2, ![1024, 1024]⟩
abbrev S1024 : Shape := ⟨1, ![1024]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S52x16384x128, .bf16⟩
  | .hbm, ⟨1, _⟩ => ⟨S72x16384x128, .bf16⟩
  | .hbm, ⟨2, _⟩ => ⟨S52x512x128, .bf16⟩
  | .hbm, ⟨3, _⟩ => ⟨S72x512x128, .bf16⟩
  | .hbm, ⟨4, _⟩ => ⟨S16384x2048, .bf16⟩
  | .local _ .vmem, ⟨0, _⟩ => ⟨S4x256x128, .bf16⟩
  | .local _ .vmem, ⟨1, _⟩ => ⟨S4x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S256x512, .bf16⟩
  | .local _ .vmem, ⟨11, _⟩ => ⟨S256x512, .bf16⟩
  | .local _ .vmem, ⟨12, _⟩ => ⟨S8x128x1024, .bf16⟩
  | .local _ .vmem, ⟨13, _⟩ => ⟨S128x256, .bf16⟩
  | _, _ => ⟨S52x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_91 : BitVec 32 := 0#32
  let c8_i32 : BitVec 32 := 8#32
  let v230 : BitVec 32 := Scalar.addi c0_i32_91 c8_i32
  let c1_i32 : BitVec 32 := 1#32
  ⟨c0_i32_91, v230, c1_i32⟩
def k0_mult1 (k0_t1 : Fin k0_t1_loop.trips) : BitVec 32 :=
  let c0_i32_91 : BitVec 32 := 0#32
  let c1_i32 : BitVec 32 := 1#32
  let arg11 : BitVec 32 := Scf.iv c0_i32_91 c1_i32 k0_t1
  let c1024_i32 : BitVec 32 := 1024#32
  let v231 : BitVec 32 := Scalar.muli arg11 c1024_i32
  v231
def k0_off1 (k0_t1 : Fin k0_t1_loop.trips) : Fin 3 → Nat :=
  let c0_93 : Index := 0#32
  let c0_i32_91 : BitVec 32 := 0#32
  let c1_i32 : BitVec 32 := 1#32
  let arg11 : BitVec 32 := Scf.iv c0_i32_91 c1_i32 k0_t1
  let c1024_i32 : BitVec 32 := 1024#32
  let v231 : BitVec 32 := Scalar.muli arg11 c1024_i32
  let v232 : BitVec 32 := v231
  let v233 : Index := Scalar.indexCast v232
  let c0_94 : Index := 0#32
  ![0, v233.toNat, 0]
def k0_off2 (k0_t1 : Fin k0_t1_loop.trips) : Fin 3 → Nat :=
  let c0_i32_91 : BitVec 32 := 0#32
  let c1_i32 : BitVec 32 := 1#32
  let arg11 : BitVec 32 := Scf.iv c0_i32_91 c1_i32 k0_t1
  let v239 : Index := Scalar.indexCast arg11
  let c0_95 : Index := 0#32
  let c0_96 : Index := 0#32
  ![v239.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S52x16384x128 : Shape := ⟨3, ![52, 16384, 128]⟩
abbrev S72x16384x128 : Shape := ⟨3, ![72, 16384, 128]⟩
abbrev S52x512x128 : Shape := ⟨3, ![52, 512, 128]⟩
abbrev S72x512x128 : Shape := ⟨3, ![72, 512, 128]⟩
abbrev S16x16384x128 : Shape := ⟨3, ![16, 16384, 128]⟩
abbrev S16x2x8192x128 : Shape := ⟨4, ![16, 2, 8192, 128]⟩
abbrev S4x4x2x8192x128 : Shape := ⟨5, ![4, 4, 2, 8192, 128]⟩
abbrev S4x16384x128 : Shape := ⟨3, ![4, 16384, 128]⟩
abbrev S4x2x8192x128 : Shape := ⟨4, ![4, 2, 8192, 128]⟩
abbrev S4x512x128 : Shape := ⟨3, ![4, 512, 128]⟩
abbrev S4x2x256x128 : Shape := ⟨4, ![4, 2, 256, 128]⟩
abbrev S4x2x8448x128 : Shape := ⟨4, ![4, 2, 8448, 128]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S2x4x128x4x8192 : Shape := ⟨5, ![2, 4, 128, 4, 8192]⟩
abbrev S2x8192x4x4x128 : Shape := ⟨5, ![2, 8192, 4, 4, 128]⟩
abbrev S16384x2048 : Shape := ⟨2, ![16384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S52x16384x128, .bf16⟩
  | .hbm, ⟨1, _⟩ => ⟨S72x16384x128, .bf16⟩
  | .hbm, ⟨2, _⟩ => ⟨S52x512x128, .bf16⟩
  | .hbm, ⟨3, _⟩ => ⟨S72x512x128, .bf16⟩
  | .hbm, ⟨4, _⟩ => ⟨S16x16384x128, .bf16⟩
  | .hbm, ⟨5, _⟩ => ⟨S16x2x8192x128, .bf16⟩
  | .hbm, ⟨6, _⟩ => ⟨S16x2x8192x128, .f32⟩
  | .hbm, ⟨7, _⟩ => ⟨S4x4x2x8192x128, .f32⟩
  | .hbm, ⟨8, _⟩ => ⟨S4x16384x128, .bf16⟩
  | .hbm, ⟨9, _⟩ => ⟨S4x2x8192x128, .bf16⟩
  | .hbm, ⟨10, _⟩ => ⟨S4x2x8192x128, .f32⟩
  | .hbm, ⟨11, _⟩ => ⟨S4x512x128, .bf16⟩
  | .hbm, ⟨12, _⟩ => ⟨S4x2x256x128, .bf16⟩
  | .hbm, ⟨13, _⟩ => ⟨S4x2x256x128, .f32⟩
  | .hbm, ⟨14, _⟩ => ⟨S4x2x8448x128, .f32⟩
  | .hbm, ⟨15, _⟩ => ⟨S4x16384x128, .bf16⟩
  | .hbm, ⟨16, _⟩ => ⟨S4x2x8192x128, .bf16⟩
  | .hbm, ⟨17, _⟩ => ⟨S4x2x8192x128, .f32⟩
  | .hbm, ⟨18, _⟩ => ⟨S4x512x128, .bf16⟩
  | .hbm, ⟨19, _⟩ => ⟨S4x2x256x128, .bf16⟩
  | .hbm, ⟨20, _⟩ => ⟨S4x2x256x128, .f32⟩
  | .hbm, ⟨21, _⟩ => ⟨S4x2x8448x128, .f32⟩
  | .hbm, ⟨22, _⟩ => ⟨S4x2x4x8192x8448, .f32⟩
  | .hbm, ⟨23, _⟩ => ⟨S_, .f32⟩
  | .hbm, ⟨24, _⟩ => ⟨S_, .f32⟩
  | .hbm, ⟨25, _⟩ => ⟨S4x2x4x8192x8448, .f32⟩
  | .hbm, ⟨26, _⟩ => ⟨S4x2x4x8192x8448, .f32⟩
  | .hbm, ⟨27, _⟩ => ⟨S_, .f32⟩
  | .hbm, ⟨28, _⟩ => ⟨S4x2x4x8192, .f32⟩
  | .hbm, ⟨29, _⟩ => ⟨S_, .f32⟩
  | .hbm, ⟨30, _⟩ => ⟨S4x2x4x8192, .f32⟩
  | .hbm, ⟨31, _⟩ => ⟨S4x2x4x8192, .f32⟩
  | .hbm, ⟨32, _⟩ => ⟨S4x2x4x8192x1, .f32⟩
  | .hbm, ⟨33, _⟩ => ⟨S4x2x4x8192x8448, .f32⟩
  | .hbm, ⟨34, _⟩ => ⟨S4x2x4x8192x8448, .f32⟩
  | .hbm, ⟨35, _⟩ => ⟨S4x2x4x8192x8448, .f32⟩
  | .hbm, ⟨36, _⟩ => ⟨S_, .f32⟩
  | .hbm, ⟨37, _⟩ => ⟨S4x2x4x8192, .f32⟩
  | .hbm, ⟨38, _⟩ => ⟨S4x2x4x8192x1, .f32⟩
  | .hbm, ⟨39, _⟩ => ⟨S4x2x4x8192x8448, .f32⟩
  | .hbm, ⟨40, _⟩ => ⟨S4x2x4x8192x8448, .f32⟩
  | .hbm, ⟨41, _⟩ => ⟨S2x4x128x4x8192, .f32⟩
  | .hbm, ⟨42, _⟩ => ⟨S2x8192x4x4x128, .f32⟩
  | .hbm, ⟨43, _⟩ => ⟨S16384x2048, .f32⟩
  | .hbm, ⟨44, _⟩ => ⟨S16384x2048, .bf16⟩
  | _, _ => ⟨S52x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Kernel2.lean ====
abbrev S16384x4096 : Shape := ⟨2, ![16384, 4096]⟩
abbrev S4096 : Shape := ⟨1, ![4096]⟩
abbrev S8x6x1x4096 : Shape := ⟨4, ![8, 6, 1, 4096]⟩
abbrev S4096x16384 : Shape := ⟨2, ![4096, 16384]⟩
abbrev S1x4096 : Shape := ⟨2, ![1, 4096]⟩
abbrev S1x1x1x4096 : Shape := ⟨4, ![1, 1, 1, 4096]⟩
abbrev S4096x512 : Shape := ⟨2, ![4096, 512]⟩
abbrev S512x4096 : Shape := ⟨2, ![512, 4096]⟩
abbrev S1024x4096 : Shape := ⟨2, ![1024, 4096]⟩
abbrev S1024x512 : Shape := ⟨2, ![1024, 512]⟩
abbrev S16x4096 : Shape := ⟨2, ![16, 4096]⟩
abbrev S16 : Shape := ⟨1, ![16]⟩
abbrev S16x1 : Shape := ⟨2, ![16, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x6x1x4096, .f32⟩
  | .hbm, ⟨3, _⟩ => ⟨S4096x16384, .bf16⟩
  | .hbm, ⟨4, _⟩ => ⟨S16384x4096, .bf16⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S1x4096, .f32⟩
  | .local _ .vmem, ⟨1, _⟩ => ⟨S1x1x1x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x4096, .bf16⟩
  | .local _ .vmem, ⟨10, _⟩ => ⟨S512x4096, .bf16⟩
  | .local _ .vmem, ⟨11, _⟩ => ⟨S1x4096, .f32⟩
  | .local _ .vmem, ⟨12, _⟩ => ⟨S1024x4096, .f32⟩
  | .local _ .vmem, ⟨13, _⟩ => ⟨S1024x4096, .f32⟩
  | .local _ .vmem, ⟨14, _⟩ => ⟨S1024x4096, .bf16⟩
  | .local _ .vmem, ⟨15, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![513], ![false]⟩

def k0_cond1 (i : grid0.Coords) : BitVec 1 :=
  let arg0 : BitVec 32 := BitVec.ofNat 32 (i 0).val
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi arg0 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c0_i32_5 : BitVec 32 := 0#32
  let v12 : BitVec 1 := Scalar.cmpi .eq v11 c0_i32_5
  let c512_i32 : BitVec 32 := 512#32
  let v13 : BitVec 1 := Scalar.cmpi .slt arg0 c512_i32
  let v14 : BitVec 1 := Scalar.andi v12 v13
  let v15 : BitVec 32 := Scalar.extui v14
  let c0_i32_6 : BitVec 32 := 0#32
  let v16 : BitVec 1 := Scalar.cmpi .ne v15 c0_i32_6
  v16

@[reducible] def k0_t1_loop : Scf.Loop 32 :=
  let c0_i32_56 : BitVec 32 := 0#32
  let c64_i32 : BitVec 32 := 64#32
  let v79 : BitVec 32 := Scalar.addi c0_i32_56 c64_i32
  let c1_i32_57 : BitVec 32 := 1#32
  ⟨c0_i32_56, v79, c1_i32_57⟩
def k0_mult1 (k0_t1 : Fin k0_t1_loop.trips) : BitVec 32 :=
  let c0_i32_56 : BitVec 32 := 0#32
  let c1_i32_57 : BitVec 32 := 1#32
  let arg12 : BitVec 32 := Scf.iv c0_i32_56 c1_i32_57 k0_t1
  let c16_i32 : BitVec 32 := 16#32
  let v80 : BitVec 32 := Scalar.muli arg12 c16_i32
  v80
def k0_off1 (k0_t1 : Fin k0_t1_loop.trips) : Fin 2 → Nat :=
  let c0_i32_56 : BitVec 32 := 0#32
  let c1_i32_57 : BitVec 32 := 1#32
  let arg12 : BitVec 32 := Scf.iv c0_i32_56 c1_i32_57 k0_t1
  let c16_i32 : BitVec 32 := 16#32
  let v80 : BitVec 32 := Scalar.muli arg12 c16_i32
  let v81 : BitVec 32 := v80
  let v82 : Index := Scalar.indexCast v81
  let c0_59 : Index := 0#32
  ![v82.toNat, 0]
def k0_cond3 (i : grid0.Coords) : BitVec 1 :=
  let arg0 : BitVec 32 := BitVec.ofNat 32 (i 0).val
  let c0_i32_9 : BitVec 32 := 0#32
  let v20 : BitVec 1 := Scalar.cmpi .sgt arg0 c0_i32_9
  let c1_i32 : BitVec 32 := 1#32
  let v0 : BitVec 32 := Scalar.subi arg0 c1_i32
  let c0_i32 : BitVec 32 := 0#32
  let v1 : BitVec 32 := Scalar.maxsi v0 c0_i32
  let c32_i32_10 : BitVec 32 := 32#32
  let c0_i32_11 : BitVec 32 := 0#32
  let v21 : BitVec 1 := Scalar.cmpi .eq c32_i32_10 c0_i32_11
  let c1_i32_12 : BitVec 32 := 1#32
  let v22 : BitVec 32 := Scalar.select v21 c1_i32_12 c32_i32_10
  let v23 : BitVec 32 := Scalar.remsi v1 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c0_i32_16 : BitVec 32 := 0#32
  let v31 : BitVec 1 := Scalar.cmpi .eq v30 c0_i32_16
  let v32 : BitVec 1 := Scalar.andi v20 v31
  let v33 : BitVec 32 := Scalar.extui v32
  let c0_i32_17 : BitVec 32 := 0#32
  let v34 : BitVec 1 := Scalar.cmpi .ne v33 c0_i32_17
  v34

@[reducible] def k0_t2_loop : Scf.Loop 32 :=
  let c0_i32_45 : BitVec 32 := 0#32
  let c64_i32 : BitVec 32 := 64#32
  let v71 : BitVec 32 := Scalar.addi c0_i32_45 c64_i32
  let c1_i32_46 : BitVec 32 := 1#32
  ⟨c0_i32_45, v71, c1_i32_46⟩
def k0_mult2 (k0_t2 : Fin k0_t2_loop.trips) : BitVec 32 :=
  let c0_i32_45 : BitVec 32 := 0#32
  let c1_i32_46 : BitVec 32 := 1#32
  let arg12 : BitVec 32 := Scf.iv c0_i32_45 c1_i32_46 k0_t2
  let c16_i32 : BitVec 32 := 16#32
  let v72 : BitVec 32 := Scalar.muli arg12 c16_i32
  v72
def k0_off2 (k0_t2 : Fin k0_t2_loop.trips) : Fin 2 → Nat :=
  let c0_i32_45 : BitVec 32 := 0#32
  let c1_i32_46 : BitVec 32 := 1#32
  let arg12 : BitVec 32 := Scf.iv c0_i32_45 c1_i32_46 k0_t2
  let c16_i32 : BitVec 32 := 16#32
  let v72 : BitVec 32 := Scalar.muli arg12 c16_i32
  let v73 : BitVec 32 := v72
  let v74 : Index := Scalar.indexCast v73
  let c0_48 : Index := 0#32
  ![v74.toNat, 0]
def k0_cond4 (i : grid0.Coords) : BitVec 1 :=
  let arg0 : BitVec 32 := BitVec.ofNat 32 (i 0).val
  let c0_i32_37 : BitVec 32 := 0#32
  let v56 : BitVec 1 := Scalar.cmpi .sgt arg0 c0_i32_37
  let c1_i32 : BitVec 32 := 1#32
  let v0 : BitVec 32 := Scalar.subi arg0 c1_i32
  let c0_i32 : BitVec 32 := 0#32
  let v1 : BitVec 32 := Scalar.maxsi v0 c0_i32
  let c32_i32_38 : BitVec 32 := 32#32
  let c0_i32_39 : BitVec 32 := 0#32
  let v57 : BitVec 1 := Scalar.cmpi .eq c32_i32_38 c0_i32_39
  let c1_i32_40 : BitVec 32 := 1#32
  let v58 : BitVec 32 := Scalar.select v57 c1_i32_40 c32_i32_38
  let v59 : BitVec 32 := Scalar.remsi v1 v58
  let c0_i32_42 : BitVec 32 := 0#32
  let v61 : BitVec 1 := Scalar.cmpi .slt v59 c0_i32_42
  let c0_i32_43 : BitVec 32 := 0#32
  let v62 : BitVec 1 := Scalar.cmpi .slt v58 c0_i32_43
  let v63 : BitVec 1 := Scalar.xori v61 v62
  let c0_i32_41 : BitVec 32 := 0#32
  let v60 : BitVec 1 := Scalar.cmpi .ne v59 c0_i32_41
  let v64 : BitVec 1 := Scalar.andi v63 v60
  let v65 : BitVec 32 := Scalar.addi v59 v58
  let v66 : BitVec 32 := Scalar.select v64 v65 v59
  let c31_i32 : BitVec 32 := 31#32
  let v67 : BitVec 1 := Scalar.cmpi .eq v66 c31_i32
  let v68 : BitVec 1 := Scalar.andi v56 v67
  let v69 : BitVec 32 := Scalar.extui v68
  let c0_i32_44 : BitVec 32 := 0#32
  let v70 : BitVec 1 := Scalar.cmpi .ne v69 c0_i32_44
  v70

@[reducible] def k0_t3_loop : Scf.Loop 32 :=
  let c0_i32_47 : BitVec 32 := 0#32
  let c64_i32 : BitVec 32 := 64#32
  let v73 : BitVec 32 := Scalar.addi c0_i32_47 c64_i32
  let c1_i32_48 : BitVec 32 := 1#32
  ⟨c0_i32_47, v73, c1_i32_48⟩
def k0_mult3 (k0_t3 : Fin k0_t3_loop.trips) : BitVec 32 :=
  let c0_i32_47 : BitVec 32 := 0#32
  let c1_i32_48 : BitVec 32 := 1#32
  let arg12 : BitVec 32 := Scf.iv c0_i32_47 c1_i32_48 k0_t3
  let c16_i32 : BitVec 32 := 16#32
  let v74 : BitVec 32 := Scalar.muli arg12 c16_i32
  v74
def k0_off3 (k0_t3 : Fin k0_t3_loop.trips) : Fin 2 → Nat :=
  let c0_i32_47 : BitVec 32 := 0#32
  let c1_i32_48 : BitVec 32 := 1#32
  let arg12 : BitVec 32 := Scf.iv c0_i32_47 c1_i32_48 k0_t3
  let c16_i32 : BitVec 32 := 16#32
  let v74 : BitVec 32 := Scalar.muli arg12 c16_i32
  let v75 : BitVec 32 := v74
  let v76 : Index := Scalar.indexCast v75
  let c0_50 : Index := 0#32
  ![v76.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.minsi v16 c15_i32
  let c8_i32 : BitVec 32 := 8#32
  let v18 : BitVec 32 := Scalar.divsi v17 c8_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v17 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c3_i32 : BitVec 32 := 3#32
  let c0_i32_10 : BitVec 32 := 0#32
  let c0_i32_11 : BitVec 32 := 0#32
  let c0_i32_12 : BitVec 32 := 0#32
  ![v34.toNat, c3_i32.toNat, c0_i32_10.toNat, c0_i32_11.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.minsi v16 c15_i32
  let c8_i32 : BitVec 32 := 8#32
  let v18 : BitVec 32 := Scalar.divsi v17 c8_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v17 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let c0_i32_11 : BitVec 32 := 0#32
  let c0_i32_12 : BitVec 32 := 0#32
  ![v34.toNat, c4_i32.toNat, c0_i32_10.toNat, c0_i32_11.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.divsi v18 c8_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v18 c8_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c5_i32 : BitVec 32 := 5#32
  let c0_i32_12 : BitVec 32 := 0#32
  let c0_i32_13 : BitVec 32 := 0#32
  let c0_i32_14 : BitVec 32 := 0#32
  ![v35.toNat, c5_i32.toNat, c0_i32_12.toNat, c0_i32_13.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.minsi v16 c15_i32
  let c0_i32_4 : BitVec 32 := 0#32
  let c0_i32_5 : BitVec 32 := 0#32
  ![v17.toNat, c0_i32_4.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference2Ideal.lean ====
abbrev S16384x4096 : Shape := ⟨2, ![16384, 4096]⟩
abbrev S4096 : Shape := ⟨1, ![4096]⟩
abbrev S8x6x1x4096 : Shape := ⟨4, ![8, 6, 1, 4096]⟩
abbrev S4096x16384 : Shape := ⟨2, ![4096, 16384]⟩
abbrev S2x8192x4096 : Shape := ⟨3, ![2, 8192, 4096]⟩
abbrev S2x1x1x4096 : Shape := ⟨4, ![2, 1, 1, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x16384 : Shape := ⟨3, ![2, 8192, 16384]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x6x1x4096, .f32⟩
  | .hbm, ⟨3, _⟩ => ⟨S4096x16384, .bf16⟩
  | .hbm, ⟨4, _⟩ => ⟨S16384x4096, .bf16⟩
  | .hbm, ⟨5, _⟩ => ⟨S4096, .f32⟩
  | .hbm, ⟨6, _⟩ => ⟨S2x8192x4096, .f32⟩
  | .hbm, ⟨7, _⟩ => ⟨S2x1x1x4096, .f32⟩
  | .hbm, ⟨8, _⟩ => ⟨S2x1x4096, .f32⟩
  | .hbm, ⟨9, _⟩ => ⟨S2x1x1x4096, .f32⟩
  | .hbm, ⟨10, _⟩ => ⟨S2x1x4096, .f32⟩
  | .hbm, ⟨11, _⟩ => ⟨S2x1x1x4096, .f32⟩
  | .hbm, ⟨12, _⟩ => ⟨S2x1x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x4096, .f32⟩
  | .hbm, ⟨25, _⟩ => ⟨S2x8192x4096, .f32⟩
  | .hbm, ⟨26, _⟩ => ⟨S1x1x4096, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x1x4096, .f32⟩
  | .hbm, ⟨31, _⟩ => ⟨S2x1x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S4096x16384, .f32⟩
  | .hbm, ⟨37, _⟩ => ⟨S2x8192x16384, .f32⟩
  | .hbm, ⟨38, _⟩ => ⟨S_, .f32⟩
  | .hbm, ⟨39, _⟩ => ⟨S2x8192x16384, .f32⟩
  | .hbm, ⟨40, _⟩ => ⟨S2x8192x16384, .f32⟩
  | .hbm, ⟨41, _⟩ => ⟨S2x8192x16384, .f32⟩
  | .hbm, ⟨42, _⟩ => ⟨S16384x4096, .f32⟩
  | .hbm, ⟨43, _⟩ => ⟨S2x8192x4096, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S2x8192x4096, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x4096, .f32⟩
  | .hbm, ⟨59, _⟩ => ⟨S2x8192x4096, .f32⟩
  | .hbm, ⟨60, _⟩ => ⟨S1x1x4096, .f32⟩
  | .hbm, ⟨61, _⟩ => ⟨S2x8192x4096, .f32⟩
  | .hbm, ⟨62, _⟩ => ⟨S2x8192x4096, .f32⟩
  | .hbm, ⟨63, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel3.lean ====
abbrev S16384x4096 : Shape := ⟨2, ![16384, 4096]⟩
abbrev S4096 : Shape := ⟨1, ![4096]⟩
abbrev S8x6x1x4096 : Shape := ⟨4, ![8, 6, 1, 4096]⟩
abbrev S4096x16384 : Shape := ⟨2, ![4096, 16384]⟩
abbrev S1x4096 : Shape := ⟨2, ![1, 4096]⟩
abbrev S1x1x1x4096 : Shape := ⟨4, ![1, 1, 1, 4096]⟩
abbrev S4096x512 : Shape := ⟨2, ![4096, 512]⟩
abbrev S512x4096 : Shape := ⟨2, ![512, 4096]⟩
abbrev S1024x4096 : Shape := ⟨2, ![1024, 4096]⟩
abbrev S1024x512 : Shape := ⟨2, ![1024, 512]⟩
abbrev S16x4096 : Shape := ⟨2, ![16, 4096]⟩
abbrev S16 : Shape := ⟨1, ![16]⟩
abbrev S16x1 : Shape := ⟨2, ![16, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x6x1x4096, .f32⟩
  | .hbm, ⟨3, _⟩ => ⟨S4096x16384, .bf16⟩
  | .hbm, ⟨4, _⟩ => ⟨S16384x4096, .bf16⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S1x4096, .f32⟩
  | .local _ .vmem, ⟨1, _⟩ => ⟨S1x1x1x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x4096, .bf16⟩
  | .local _ .vmem, ⟨10, _⟩ => ⟨S512x4096, .bf16⟩
  | .local _ .vmem, ⟨11, _⟩ => ⟨S1x4096, .f32⟩
  | .local _ .vmem, ⟨12, _⟩ => ⟨S1024x4096, .f32⟩
  | .local _ .vmem, ⟨13, _⟩ => ⟨S1024x4096, .f32⟩
  | .local _ .vmem, ⟨14, _⟩ => ⟨S1024x4096, .bf16⟩
  | .local _ .vmem, ⟨15, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![513], ![false]⟩

def k0_cond1 (i : grid0.Coords) : BitVec 1 :=
  let arg0 : BitVec 32 := BitVec.ofNat 32 (i 0).val
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi arg0 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c0_i32_5 : BitVec 32 := 0#32
  let v12 : BitVec 1 := Scalar.cmpi .eq v11 c0_i32_5
  let c512_i32 : BitVec 32 := 512#32
  let v13 : BitVec 1 := Scalar.cmpi .slt arg0 c512_i32
  let v14 : BitVec 1 := Scalar.andi v12 v13
  let v15 : BitVec 32 := Scalar.extui v14
  let c0_i32_6 : BitVec 32 := 0#32
  let v16 : BitVec 1 := Scalar.cmpi .ne v15 c0_i32_6
  v16

@[reducible] def k0_t1_loop : Scf.Loop 32 :=
  let c0_i32_48 : BitVec 32 := 0#32
  let c64_i32 : BitVec 32 := 64#32
  let v64 : BitVec 32 := Scalar.addi c0_i32_48 c64_i32
  let c1_i32_49 : BitVec 32 := 1#32
  ⟨c0_i32_48, v64, c1_i32_49⟩
def k0_mult1 (k0_t1 : Fin k0_t1_loop.trips) : BitVec 32 :=
  let c0_i32_48 : BitVec 32 := 0#32
  let c1_i32_49 : BitVec 32 := 1#32
  let arg12 : BitVec 32 := Scf.iv c0_i32_48 c1_i32_49 k0_t1
  let c16_i32 : BitVec 32 := 16#32
  let v65 : BitVec 32 := Scalar.muli arg12 c16_i32
  v65
def k0_off1 (k0_t1 : Fin k0_t1_loop.trips) : Fin 2 → Nat :=
  let c0_i32_48 : BitVec 32 := 0#32
  let c1_i32_49 : BitVec 32 := 1#32
  let arg12 : BitVec 32 := Scf.iv c0_i32_48 c1_i32_49 k0_t1
  let c16_i32 : BitVec 32 := 16#32
  let v65 : BitVec 32 := Scalar.muli arg12 c16_i32
  let v66 : BitVec 32 := v65
  let v67 : Index := Scalar.indexCast v66
  let c0_51 : Index := 0#32
  ![v67.toNat, 0]
def k0_cond3 (i : grid0.Coords) : BitVec 1 :=
  let arg0 : BitVec 32 := BitVec.ofNat 32 (i 0).val
  let c0_i32_9 : BitVec 32 := 0#32
  let v20 : BitVec 1 := Scalar.cmpi .sgt arg0 c0_i32_9
  let c1_i32 : BitVec 32 := 1#32
  let v0 : BitVec 32 := Scalar.subi arg0 c1_i32
  let c0_i32 : BitVec 32 := 0#32
  let v1 : BitVec 32 := Scalar.maxsi v0 c0_i32
  let c32_i32_10 : BitVec 32 := 32#32
  let c0_i32_11 : BitVec 32 := 0#32
  let v21 : BitVec 1 := Scalar.cmpi .eq c32_i32_10 c0_i32_11
  let c1_i32_12 : BitVec 32 := 1#32
  let v22 : BitVec 32 := Scalar.select v21 c1_i32_12 c32_i32_10
  let v23 : BitVec 32 := Scalar.remsi v1 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c0_i32_16 : BitVec 32 := 0#32
  let v31 : BitVec 1 := Scalar.cmpi .eq v30 c0_i32_16
  let v32 : BitVec 1 := Scalar.andi v20 v31
  let v33 : BitVec 32 := Scalar.extui v32
  let c0_i32_17 : BitVec 32 := 0#32
  let v34 : BitVec 1 := Scalar.cmpi .ne v33 c0_i32_17
  v34

@[reducible] def k0_t2_loop : Scf.Loop 32 :=
  let c0_i32_37 : BitVec 32 := 0#32
  let c64_i32 : BitVec 32 := 64#32
  let v56 : BitVec 32 := Scalar.addi c0_i32_37 c64_i32
  let c1_i32_38 : BitVec 32 := 1#32
  ⟨c0_i32_37, v56, c1_i32_38⟩
def k0_mult2 (k0_t2 : Fin k0_t2_loop.trips) : BitVec 32 :=
  let c0_i32_37 : BitVec 32 := 0#32
  let c1_i32_38 : BitVec 32 := 1#32
  let arg12 : BitVec 32 := Scf.iv c0_i32_37 c1_i32_38 k0_t2
  let c16_i32 : BitVec 32 := 16#32
  let v57 : BitVec 32 := Scalar.muli arg12 c16_i32
  v57
def k0_off2 (k0_t2 : Fin k0_t2_loop.trips) : Fin 2 → Nat :=
  let c0_i32_37 : BitVec 32 := 0#32
  let c1_i32_38 : BitVec 32 := 1#32
  let arg12 : BitVec 32 := Scf.iv c0_i32_37 c1_i32_38 k0_t2
  let c16_i32 : BitVec 32 := 16#32
  let v57 : BitVec 32 := Scalar.muli arg12 c16_i32
  let v58 : BitVec 32 := v57
  let v59 : Index := Scalar.indexCast v58
  let c0_40 : Index := 0#32
  ![v59.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.minsi v16 c15_i32
  let c8_i32 : BitVec 32 := 8#32
  let v18 : BitVec 32 := Scalar.divsi v17 c8_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v17 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c3_i32 : BitVec 32 := 3#32
  let c0_i32_10 : BitVec 32 := 0#32
  let c0_i32_11 : BitVec 32 := 0#32
  let c0_i32_12 : BitVec 32 := 0#32
  ![v34.toNat, c3_i32.toNat, c0_i32_10.toNat, c0_i32_11.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.minsi v16 c15_i32
  let c8_i32 : BitVec 32 := 8#32
  let v18 : BitVec 32 := Scalar.divsi v17 c8_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v17 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let c0_i32_11 : BitVec 32 := 0#32
  let c0_i32_12 : BitVec 32 := 0#32
  ![v34.toNat, c4_i32.toNat, c0_i32_10.toNat, c0_i32_11.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.divsi v18 c8_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v18 c8_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c5_i32 : BitVec 32 := 5#32
  let c0_i32_12 : BitVec 32 := 0#32
  let c0_i32_13 : BitVec 32 := 0#32
  let c0_i32_14 : BitVec 32 := 0#32
  ![v35.toNat, c5_i32.toNat, c0_i32_12.toNat, c0_i32_13.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c15_i32 : BitVec 32 := 15#32
  let v17 : BitVec 32 := Scalar.minsi v16 c15_i32
  let c0_i32_4 : BitVec 32 := 0#32
  let c0_i32_5 : BitVec 32 := 0#32
  ![v17.toNat, c0_i32_4.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference3Ideal.lean ====
abbrev S16384x4096 : Shape := ⟨2, ![16384, 4096]⟩
abbrev S4096 : Shape := ⟨1, ![4096]⟩
abbrev S8x6x1x4096 : Shape := ⟨4, ![8, 6, 1, 4096]⟩
abbrev S4096x16384 : Shape := ⟨2, ![4096, 16384]⟩
abbrev S2x8192x4096 : Shape := ⟨3, ![2, 8192, 4096]⟩
abbrev S2x1x1x4096 : Shape := ⟨4, ![2, 1, 1, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x16384 : Shape := ⟨3, ![2, 8192, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S8x6x1x4096, .f32⟩
  | .hbm, ⟨3, _⟩ => ⟨S4096x16384, .bf16⟩
  | .hbm, ⟨4, _⟩ => ⟨S16384x4096, .bf16⟩
  | .hbm, ⟨5, _⟩ => ⟨S4096, .f32⟩
  | .hbm, ⟨6, _⟩ => ⟨S2x8192x4096, .f32⟩
  | .hbm, ⟨7, _⟩ => ⟨S2x1x1x4096, .f32⟩
  | .hbm, ⟨8, _⟩ => ⟨S2x1x4096, .f32⟩
  | .hbm, ⟨9, _⟩ => ⟨S2x1x1x4096, .f32⟩
  | .hbm, ⟨10, _⟩ => ⟨S2x1x4096, .f32⟩
  | .hbm, ⟨11, _⟩ => ⟨S2x1x1x4096, .f32⟩
  | .hbm, ⟨12, _⟩ => ⟨S2x1x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x4096, .f32⟩
  | .hbm, ⟨25, _⟩ => ⟨S2x8192x4096, .f32⟩
  | .hbm, ⟨26, _⟩ => ⟨S1x1x4096, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x1x4096, .f32⟩
  | .hbm, ⟨31, _⟩ => ⟨S2x1x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S4096x16384, .f32⟩
  | .hbm, ⟨37, _⟩ => ⟨S2x8192x16384, .f32⟩
  | .hbm, ⟨38, _⟩ => ⟨S_, .f32⟩
  | .hbm, ⟨39, _⟩ => ⟨S2x8192x16384, .f32⟩
  | .hbm, ⟨40, _⟩ => ⟨S2x8192x16384, .f32⟩
  | .hbm, ⟨41, _⟩ => ⟨S2x8192x16384, .f32⟩
  | .hbm, ⟨42, _⟩ => ⟨S16384x4096, .f32⟩
  | .hbm, ⟨43, _⟩ => ⟨S2x8192x4096, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S16384x4096 : Shape := ⟨2, ![16384, 4096]⟩
abbrev S4096x9216 : Shape := ⟨2, ![4096, 9216]⟩
abbrev S72x16384x128 : Shape := ⟨3, ![72, 16384, 128]⟩
abbrev S1024x4096 : Shape := ⟨2, ![1024, 4096]⟩
abbrev S4096x1024 : Shape := ⟨2, ![4096, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .bf16⟩
  | .hbm, ⟨2, _⟩ => ⟨S72x16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x1024x128, .bf16⟩
  | .local _ .vmem, ⟨5, _⟩ => ⟨S8x1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S4096x9216 : Shape := ⟨2, ![4096, 9216]⟩
abbrev S16384x9216 : Shape := ⟨2, ![16384, 9216]⟩
abbrev S16384x72x128 : Shape := ⟨3, ![16384, 72, 128]⟩
abbrev S72x16384x128 : Shape := ⟨3, ![72, 16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .bf16⟩
  | .hbm, ⟨2, _⟩ => ⟨S16384x4096, .f32⟩
  | .hbm, ⟨3, _⟩ => ⟨S4096x9216, .f32⟩
  | .hbm, ⟨4, _⟩ => ⟨S16384x9216, .f32⟩
  | .hbm, ⟨5, _⟩ => ⟨S16384x72x128, .f32⟩
  | .hbm, ⟨6, _⟩ => ⟨S72x16384x128, .f32⟩
  | .hbm, ⟨7, _⟩ => ⟨S72x16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S16384x4096 : Shape := ⟨2, ![16384, 4096]⟩
abbrev S4096x12288 : Shape := ⟨2, ![4096, 12288]⟩
abbrev S96x16384x128 : Shape := ⟨3, ![96, 16384, 128]⟩
abbrev S1024x4096 : Shape := ⟨2, ![1024, 4096]⟩
abbrev S4096x1024 : Shape := ⟨2, ![4096, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S96x16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x1024x128, .bf16⟩
  | .local _ .vmem, ⟨5, _⟩ => ⟨S8x1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x12288 : Shape := ⟨2, ![4096, 12288]⟩
abbrev S16384x12288 : Shape := ⟨2, ![16384, 12288]⟩
abbrev S16384x96x128 : Shape := ⟨3, ![16384, 96, 128]⟩
abbrev S96x16384x128 : Shape := ⟨3, ![96, 16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x96x128, .f32⟩
  | .hbm, ⟨6, _⟩ => ⟨S96x16384x128, .f32⟩
  | .hbm, ⟨7, _⟩ => ⟨S96x16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S8x6x1x4096 : Shape := ⟨4, ![8, 6, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S8x6x1x4096, .f32⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  ![v16.toNat, c2_i32.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x4096 : Shape := ⟨2, ![16384, 4096]⟩
abbrev S4096x4096 : Shape := ⟨2, ![4096, 4096]⟩
abbrev S8x6x1x4096 : Shape := ⟨4, ![8, 6, 1, 4096]⟩
abbrev S2x8192x4096 : Shape := ⟨3, ![2, 8192, 4096]⟩
abbrev S2x1x1x4096 : Shape := ⟨4, ![2, 1, 1, 4096]⟩
abbrev S2x1x4096 : Shape := ⟨3, ![2, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S8x6x1x4096, .f32⟩
  | .hbm, ⟨4, _⟩ => ⟨S16384x4096, .f32⟩
  | .hbm, ⟨5, _⟩ => ⟨S2x8192x4096, .f32⟩
  | .hbm, ⟨6, _⟩ => ⟨S4096x4096, .f32⟩
  | .hbm, ⟨7, _⟩ => ⟨S2x8192x4096, .f32⟩
  | .hbm, ⟨8, _⟩ => ⟨S2x8192x4096, .f32⟩
  | .hbm, ⟨9, _⟩ => ⟨S2x1x1x4096, .f32⟩
  | .hbm, ⟨10, _⟩ => ⟨S2x1x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S16384x2048 : Shape := ⟨2, ![16384, 2048]⟩
abbrev S4096x4096 : Shape := ⟨2, ![4096, 4096]⟩
abbrev S16384x4096 : Shape := ⟨2, ![16384, 4096]⟩
abbrev S8x6x1x4096 : Shape := ⟨4, ![8, 6, 1, 4096]⟩
abbrev S1024x2048 : Shape := ⟨2, ![1024, 2048]⟩
abbrev S4096x1024 : Shape := ⟨2, ![4096, 1024]⟩
abbrev S1024x1024 : Shape := ⟨2, ![1024, 1024]⟩
abbrev S1x1x1x1024 : Shape := ⟨4, ![1, 1, 1, 1024]⟩
abbrev S2048x1024 : Shape := ⟨2, ![2048, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S8x6x1x4096, .f32⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  ![v16.toNat, c2_i32.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S16384x2048 : Shape := ⟨2, ![16384, 2048]⟩
abbrev S4096x4096 : Shape := ⟨2, ![4096, 4096]⟩
abbrev S16384x4096 : Shape := ⟨2, ![16384, 4096]⟩
abbrev S8x6x1x4096 : Shape := ⟨4, ![8, 6, 1, 4096]⟩
abbrev S2x8192x4096 : Shape := ⟨3, ![2, 8192, 4096]⟩
abbrev S2x1x1x4096 : Shape := ⟨4, ![2, 1, 1, 4096]⟩
abbrev S2x1x4096 : Shape := ⟨3, ![2, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S8x6x1x4096, .f32⟩
  | .hbm, ⟨5, _⟩ => ⟨S16384x2048, .f32⟩
  | .hbm, ⟨6, _⟩ => ⟨S16384x2048, .f32⟩
  | .hbm, ⟨7, _⟩ => ⟨S16384x4096, .f32⟩
  | .hbm, ⟨8, _⟩ => ⟨S2x8192x4096, .f32⟩
  | .hbm, ⟨9, _⟩ => ⟨S4096x4096, .f32⟩
  | .hbm, ⟨10, _⟩ => ⟨S2x8192x4096, .f32⟩
  | .hbm, ⟨11, _⟩ => ⟨S2x8192x4096, .f32⟩
  | .hbm, ⟨12, _⟩ => ⟨S2x1x1x4096, .f32⟩
  | .hbm, ⟨13, _⟩ => ⟨S2x1x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S52x16384x128 : Shape := ⟨3, ![52, 16384, 128]⟩
abbrev S72x16384x128 : Shape := ⟨3, ![72, 16384, 128]⟩
abbrev S52x512x128 : Shape := ⟨3, ![52, 512, 128]⟩
abbrev S72x512x128 : Shape := ⟨3, ![72, 512, 128]⟩
abbrev S128 : Shape := ⟨1, ![128]⟩
abbrev S256 : Shape := ⟨1, ![256]⟩
abbrev S1x128 : Shape := ⟨2, ![1, 128]⟩
abbrev S1x256 : Shape := ⟨2, ![1, 256]⟩
abbrev S16384x2048 : Shape := ⟨2, ![16384, 2048]⟩
abbrev S2x512x128 : Shape := ⟨3, ![2, 512, 128]⟩
abbrev S2x8192x128 : Shape := ⟨3, ![2, 8192, 128]⟩
abbrev S2x256x128 : Shape := ⟨3, ![2, 256, 128]⟩
abbrev S512x256 : Shape := ⟨2, ![512, 256]⟩
abbrev S8x256x1024 : Shape := ⟨3, ![8, 256, 1024]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S1x1024x128 : Shape := ⟨3, ![1, 1024, 128]⟩
abbrev S1024x128 : Shape := ⟨2, ![1024, 128]⟩
abbrev S128x1024 : Shape := ⟨2, ![128, 1024]⟩
abbrev S1x128x1024 : Shape := ⟨3, ![1, 128, 1024]⟩
abbrev S1x512 : Shape := ⟨2, ![1, 512]⟩
abbrev S256x512 : Shape := ⟨2, ![256, 512]⟩
abbrev S1x512x128 : Shape := ⟨3, ![1, 512, 128]⟩
abbrev S512x128 : Shape := ⟨2, ![512, 128]⟩
abbrev S1024x512 : Shape := ⟨2, ![1024, 512]⟩
abbrev S512 : Shape := ⟨1, ![512]⟩
abbrev S1x256x1024 : Shape := ⟨3, ![1, 256, 1024]⟩
abbrev S256x1024 : Shape := ⟨2, ![256, 1024]⟩
abbrev S1 : Shape := ⟨1, ![1]⟩
abbrev S1x1 : Shape := ⟨2, ![1, 1]⟩
abbrev S512x1 : Shape := ⟨2, ![512, 1]⟩

abbrev nBuf : Space → Nat
  | .hbm => 15
  | .vmem => 19
  | .smem => 0
  | _ => 0

abbrev bufTy : (tb : Table) → Fin (tcTables nBuf tb) → BufTy
  | .hbm, ⟨0, _⟩ => ⟨S52x16384x128, .bf16⟩
  | .hbm, ⟨1, _⟩ => ⟨S72x16384x128, .bf16⟩
  | .hbm, ⟨2, _⟩ => ⟨S52x512x128, .bf16⟩
  | .hbm, ⟨3, _⟩ => ⟨S72x512x128, .bf16⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x256, .f32⟩
  | .hbm, ⟨14, _⟩ => ⟨S16384x2048, .bf16⟩
  | .local _ .vmem, ⟨0, _⟩ => ⟨S2x512x128, .bf16⟩
  | .local _ .vmem, ⟨1, _⟩ => ⟨S2x512x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S2x8192x128, .bf16⟩
  | .local _ .vmem, ⟨5, _⟩ => ⟨S2x8192x128, .bf16⟩
  | .local _ .vmem, ⟨6, _⟩ => ⟨S2x256x128, .bf16⟩
  | .local _ .vmem, ⟨7, _⟩ => ⟨S2x256x128, .bf16⟩
  | .local _ .vmem, ⟨8, _⟩ => ⟨S2x256x128, .bf16⟩
  | .local _ .vmem, ⟨9, _⟩ => ⟨S2x256x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S512x256, .bf16⟩
  | .local _ .vmem, ⟨16, _⟩ => ⟨S512x256, .bf16⟩
  | .local _ .vmem, ⟨17, _⟩ => ⟨S8x256x1024, .bf16⟩
  | .local _ .vmem, ⟨18, _⟩ => ⟨S256x256, .bf16⟩
  | _, _ => ⟨S52x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![2, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_227 : BitVec 32 := 0#32
  let c8_i32 : BitVec 32 := 8#32
  let v487 : BitVec 32 := Scalar.addi c0_i32_227 c8_i32
  let c1_i32 : BitVec 32 := 1#32
  ⟨c0_i32_227, v487, c1_i32⟩
def k0_mult1 (k0_t1 : Fin k0_t1_loop.trips) : BitVec 32 :=
  let c0_i32_227 : BitVec 32 := 0#32
  let c1_i32 : BitVec 32 := 1#32
  let arg16 : BitVec 32 := Scf.iv c0_i32_227 c1_i32 k0_t1
  let c1024_i32 : BitVec 32 := 1024#32
  let v488 : BitVec 32 := Scalar.muli arg16 c1024_i32
  v488
def k0_off1 (k0_t1 : Fin k0_t1_loop.trips) : Fin 3 → Nat :=
  let c0_229 : Index := 0#32
  let c0_i32_227 : BitVec 32 := 0#32
  let c1_i32 : BitVec 32 := 1#32
  let arg16 : BitVec 32 := Scf.iv c0_i32_227 c1_i32 k0_t1
  let c1024_i32 : BitVec 32 := 1024#32
  let v488 : BitVec 32 := Scalar.muli arg16 c1024_i32
  let v489 : BitVec 32 := v488
  let v490 : Index := Scalar.indexCast v489
  let c0_230 : Index := 0#32
  ![0, v490.toNat, 0]
def k0_off2 (k0_t1 : Fin k0_t1_loop.trips) : Fin 3 → Nat :=
  let c0_i32_227 : BitVec 32 := 0#32
  let c1_i32 : BitVec 32 := 1#32
  let arg16 : BitVec 32 := Scf.iv c0_i32_227 c1_i32 k0_t1
  let v496 : Index := Scalar.indexCast arg16
  let c0_231 : Index := 0#32
  let c0_232 : Index := 0#32
  ![v496.toNat, 0, 0]
def k0_mult2 (k0_t1 : Fin k0_t1_loop.trips) : BitVec 32 :=
  let c0_i32_227 : BitVec 32 := 0#32
  let c1_i32 : BitVec 32 := 1#32
  let arg16 : BitVec 32 := Scf.iv c0_i32_227 c1_i32 k0_t1
  let c1024_i32_233 : BitVec 32 := 1024#32
  let v500 : BitVec 32 := Scalar.muli arg16 c1024_i32_233
  v500
def k0_off3 (k0_t1 : Fin k0_t1_loop.trips) : Fin 3 → Nat :=
  let c1_234 : Index := 1#32
  let c0_i32_227 : BitVec 32 := 0#32
  let c1_i32 : BitVec 32 := 1#32
  let arg16 : BitVec 32 := Scf.iv c0_i32_227 c1_i32 k0_t1
  let c1024_i32_233 : BitVec 32 := 1024#32
  let v500 : BitVec 32 := Scalar.muli arg16 c1024_i32_233
  let v501 : BitVec 32 := v500
  let v502 : Index := Scalar.indexCast v501
  let c0_235 : Index := 0#32
  ![1, v502.toNat, 0]
def k0_off4 (k0_t1 : Fin k0_t1_loop.trips) : Fin 3 → Nat :=
  let c0_i32_227 : BitVec 32 := 0#32
  let c1_i32 : BitVec 32 := 1#32
  let arg16 : BitVec 32 := Scf.iv c0_i32_227 c1_i32 k0_t1
  let v508 : Index := Scalar.indexCast arg16
  let c128_236 : Index := 128#32
  let c0_237 : Index := 0#32
  ![v508.toNat, 128, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c16_i32 : BitVec 32 := 16#32
  let v1 : BitVec 32 := Scalar.muli arg0 c16_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference8Ideal.lean ====
abbrev S52x16384x128 : Shape := ⟨3, ![52, 16384, 128]⟩
abbrev S72x16384x128 : Shape := ⟨3, ![72, 16384, 128]⟩
abbrev S52x512x128 : Shape := ⟨3, ![52, 512, 128]⟩
abbrev S72x512x128 : Shape := ⟨3, ![72, 512, 128]⟩
abbrev S128 : Shape := ⟨1, ![128]⟩
abbrev S256 : Shape := ⟨1, ![256]⟩
abbrev S16x16384x128 : Shape := ⟨3, ![16, 16384, 128]⟩
abbrev S8x2x2x8192x128 : Shape := ⟨5, ![8, 2, 2, 8192, 128]⟩
abbrev S16x512x128 : Shape := ⟨3, ![16, 512, 128]⟩
abbrev S8x2x2x256x128 : Shape := ⟨5, ![8, 2, 2, 256, 128]⟩
abbrev S8x2x2x8448x128 : Shape := ⟨5, ![8, 2, 2, 8448, 128]⟩
abbrev S2x8x2x8192x8448 : Shape := ⟨5, ![2, 8, 2, 8192, 8448]⟩
abbrev S_ : Shape := ⟨0, ![]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x2x128x8192 : Shape := ⟨5, ![2, 8, 2, 128, 8192]⟩
abbrev S2x8192x8x2x128 : Shape := ⟨5, ![2, 8192, 8, 2, 128]⟩
abbrev S2x8192x8x256 : Shape := ⟨4, ![2, 8192, 8, 256]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩
abbrev S16384x2048 : Shape := ⟨2, ![16384, 2048]⟩

abbrev nBuf : Space → Nat
  | .hbm => 87
  | .vmem => 0
  | .smem => 0
  | _ => 0

abbrev bufTy : (tb : Table) → Fin (tcTables nBuf tb) → BufTy
  | .hbm, ⟨0, _⟩ => ⟨S52x16384x128, .bf16⟩
  | .hbm, ⟨1, _⟩ => ⟨S72x16384x128, .bf16⟩
  | .hbm, ⟨2, _⟩ => ⟨S52x512x128, .bf16⟩
  | .hbm, ⟨3, _⟩ => ⟨S72x512x128, .bf16⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256, .f32⟩
  | .hbm, ⟨9, _⟩ => ⟨S16x16384x128, .bf16⟩
  | .hbm, ⟨10, _⟩ => ⟨S8x2x2x8192x128, .bf16⟩
  | .hbm, ⟨11, _⟩ => ⟨S8x2x2x8192x128, .f32⟩
  | .hbm, ⟨12, _⟩ => ⟨S16x16384x128, .bf16⟩
  | .hbm, ⟨13, _⟩ => ⟨S8x2x2x8192x128, .bf16⟩
  | .hbm, ⟨14, _⟩ => ⟨S8x2x2x8192x128, .f32⟩
  | .hbm, ⟨15, _⟩ => ⟨S16x512x128, .bf16⟩
  | .hbm, ⟨16, _⟩ => ⟨S8x2x2x256x128, .bf16⟩
  | .hbm, ⟨17, _⟩ => ⟨S8x2x2x256x128, .f32⟩
  | .hbm, ⟨18, _⟩ => ⟨S8x2x2x8448x128, .f32⟩
  | .hbm, ⟨19, _⟩ => ⟨S16x16384x128, .bf16⟩
  | .hbm, ⟨20, _⟩ => ⟨S8x2x2x8192x128, .bf16⟩
  | .hbm, ⟨21, _⟩ => ⟨S8x2x2x8192x128, .f32⟩
  | .hbm, ⟨22, _⟩ => ⟨S16x512x128, .bf16⟩
  | .hbm, ⟨23, _⟩ => ⟨S8x2x2x256x128, .bf16⟩
  | .hbm, ⟨24, _⟩ => ⟨S8x2x2x256x128, .f32⟩
  | .hbm, ⟨25, _⟩ => ⟨S8x2x2x8448x128, .f32⟩
  | .hbm, ⟨26, _⟩ => ⟨S2x8x2x8192x8448, .f32⟩
  | .hbm, ⟨27, _⟩ => ⟨S_, .f32⟩
  | .hbm, ⟨28, _⟩ => ⟨S_, .f32⟩
  | .hbm, ⟨29, _⟩ => ⟨S2x8x2x8192x8448, .f32⟩
  | .hbm, ⟨30, _⟩ => ⟨S2x8x2x8192x8448, .f32⟩
  | .hbm, ⟨31, _⟩ => ⟨S_, .f32⟩
  | .hbm, ⟨32, _⟩ => ⟨S2x8x2x8192, .f32⟩
  | .hbm, ⟨33, _⟩ => ⟨S_, .f32⟩
  | .hbm, ⟨34, _⟩ => ⟨S2x8x2x8192, .f32⟩
  | .hbm, ⟨35, _⟩ => ⟨S2x8x2x8192, .f32⟩
  | .hbm, ⟨36, _⟩ => ⟨S2x8x2x8192x1, .f32⟩
  | .hbm, ⟨37, _⟩ => ⟨S2x8x2x8192x8448, .f32⟩
  | .hbm, ⟨38, _⟩ => ⟨S2x8x2x8192x8448, .f32⟩
  | .hbm, ⟨39, _⟩ => ⟨S2x8x2x8192x8448, .f32⟩
  | .hbm, ⟨40, _⟩ => ⟨S_, .f32⟩
  | .hbm, ⟨41, _⟩ => ⟨S2x8x2x8192, .f32⟩
  | .hbm, ⟨42, _⟩ => ⟨S2x8x2x8192x1, .f32⟩
  | .hbm, ⟨43, _⟩ => ⟨S2x8x2x8192x8448, .f32⟩
  | .hbm, ⟨44, _⟩ => ⟨S2x8x2x8192x8448, .f32⟩
  | .hbm, ⟨45, _⟩ => ⟨S128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2x8x1x8192x8448, .f32⟩
  | .hbm, ⟨57, _⟩ => ⟨S2x8x8192x8448, .f32⟩
  | .hbm, ⟨58, _⟩ => ⟨S2x8x1x8192x8448, .f32⟩
  | .hbm, ⟨59, _⟩ => ⟨S2x8x8192x8448, .f32⟩
  | .hbm, ⟨60, _⟩ => ⟨S2x8x8192x8448, .f32⟩
  | .hbm, ⟨61, _⟩ => ⟨S2x8x8192x8448, .f32⟩
  | .hbm, ⟨62, _⟩ => ⟨S2x8x8192x8448, .f32⟩
  | .hbm, ⟨63, _⟩ => ⟨S2x8x2x128x8192, .f32⟩
  | .hbm, ⟨64, _⟩ => ⟨S2x8192x8x2x128, .f32⟩
  | .hbm, ⟨65, _⟩ => ⟨S2x8192x8x256, .f32⟩
  | .hbm, ⟨66, _⟩ => ⟨S2x8192x8x256, .f32⟩
  | .hbm, ⟨67, _⟩ => ⟨S_, .f32⟩
  | .hbm, ⟨68, _⟩ => ⟨S2x8192x8, .f32⟩
  | .hbm, ⟨69, _⟩ => ⟨S2x8192x8x1, .f32⟩
  | .hbm, ⟨70, _⟩ => ⟨S_, .f32⟩
  | .hbm, ⟨71, _⟩ => ⟨S2x8192x8x1, .f32⟩
  | .hbm, ⟨72, _⟩ => ⟨S2x8192x8x1, .f32⟩
  | .hbm, ⟨73, _⟩ => ⟨S_, .f32⟩
  | .hbm, ⟨74, _⟩ => ⟨S2x8192x8x1, .f32⟩
  | .hbm, ⟨75, _⟩ => ⟨S2x8192x8x1, .f32⟩
  | .hbm, ⟨76, _⟩ => ⟨S2x8192x8x1, .f32⟩
  | .hbm, ⟨77, _⟩ => ⟨S2x8192x8x256, .f32⟩
  | .hbm, ⟨78, _⟩ => ⟨S2x8192x8x256, .f32⟩
  | .hbm, ⟨79, _⟩ => ⟨S1x1x1x256, .f32⟩
  | .hbm, ⟨80, _⟩ => ⟨S2x8192x8x256, .f32⟩
  | .hbm, ⟨81, _⟩ => ⟨S2x8192x8x256, .f32⟩
  | .hbm, ⟨82, _⟩ => ⟨S_, .f32⟩
  | .hbm, ⟨83, _⟩ => ⟨S2x8192x8x256, .f32⟩
  | .hbm, ⟨84, _⟩ => ⟨S2x8192x8x256, .f32⟩
  | .hbm, ⟨85, _⟩ => ⟨S16384x2048, .f32⟩
  | .hbm, ⟨86, _⟩ => ⟨S16384x2048, .bf16⟩
  | _, _ => ⟨S52x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Proof.Soft.lean ====
/- The mathematics of an online softmax over the extended reals: a running maximum `m`, a running sum
   `l` of `2^(s - m)` and a running weighted sum `a` of `v * 2^(s - m)` over the keys met so far, all
   three rescaled when the maximum moves. -/
module

public import Idealize.ShloMosaic.Lib.ValueIdx
public import Idealize.ShloMosaic.Lib.IdealHost

@[expose] public section

noncomputable section

namespace Cert.Soft

open Idealize.ShloMosaic

/-- `2^x` of a real, as a real. -/
def pw (x : ℝ) : ℝ := (2 : ℝ) ^ x

theorem pw_pos (x : ℝ) : 0 < pw x := Real.rpow_pos_of_pos (by norm_num) x

theorem pw_add (x y : ℝ) : pw (x + y) = pw x * pw y := Real.rpow_add (by norm_num) x y

/-- The exact base-two exponential of a real is `pw`. -/
theorem exp2_real (x : ℝ) : Ideal.exp2 (x : EReal) = (pw x : EReal) := rfl

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over an extended-real sum of two. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A nonnegative real factor distributes over a finite extended-real sum. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The greatest of a real and finitely many reals (and `⊥`) is a real. -/
theorem fold_max_real {ι : Type} (s : Finset ι) (f : ι → ℝ) (μ : ℝ) :
    ∃ ν : ℝ, max (μ : EReal) (s.fold max ⊥ fun i => (f i : EReal)) = ν := by
  classical
  induction s using Finset.induction_on with
  | empty => exact ⟨μ, by simp⟩
  | insert a s ha ih =>
    obtain ⟨ν, hν⟩ := ih
    refine ⟨max (f a) ν, ?_⟩
    rw [Finset.fold_insert ha, max_left_comm, hν]
    exact (EReal.coe_strictMono.monotone.map_max (a := f a) (b := ν)).symm

/-- The greatest of finitely many reals, at least one of them, is a real. -/
theorem fold_max_real' {ι : Type} (s : Finset ι) (hs : s.Nonempty) (f : ι → ℝ) :
    ∃ ν : ℝ, (s.fold max ⊥ fun i => (f i : EReal)) = ν := by
  classical
  obtain ⟨a, ha⟩ := hs
  rw [← Finset.insert_erase ha, Finset.fold_insert (Finset.notMem_erase a s)]
  exact fold_max_real _ f (f a)

/-- ONE STEP of the online softmax: from a state scaled to `μ` whose unscaled sums are `L` and `A`, the step over
    finitely many further keys with scores `σ` and values `v` reaches a state scaled to some `ν`, its unscaled sums
    those with the further keys' added. -/
theorem step {ι : Type} [Fintype ι] (σ : ι → ℝ) (v : ι → EReal) (m l a m' : EReal) (L : ℝ) (A : EReal) (s : ι → EReal)
    (hs : ∀ i, s i = σ i) (hm' : m' = max m (Finset.univ.fold max ⊥ s))
    (h : ∃ μ : ℝ, m = μ ∧ l = ((pw (-μ) * L : ℝ) : EReal) ∧ a = (pw (-μ) : EReal) * A) :
    ∃ ν : ℝ, m' = ν
      ∧ Ideal.exp2 (m - m') * l + ∑ i, Ideal.exp2 (s i - m') = ((pw (-ν) * (L + ∑ i, pw (σ i)) : ℝ) : EReal)
      ∧ Ideal.exp2 (m - m') * a + ∑ i, v i * Ideal.exp2 (s i - m') = (pw (-ν) : EReal) * (A + ∑ i, v i * (pw (σ i) : EReal)) := by
  obtain ⟨μ, rfl, rfl, rfl⟩ := h
  obtain rfl : s = fun i => (σ i : EReal) := funext hs
  obtain ⟨ν, hν⟩ := fold_max_real Finset.univ σ μ
  obtain rfl : m' = ν := hm'.trans hν
  have hp : ∀ i, Ideal.exp2 ((σ i : EReal) - (ν : EReal)) = ((pw (-ν) * pw (σ i) : ℝ) : EReal) := fun i => by
    rw [← EReal.coe_sub, exp2_real, ← pw_add, neg_add_eq_sub]
  have hα : Ideal.exp2 ((μ : EReal) - (ν : EReal)) = ((pw (-ν) * pw μ : ℝ) : EReal) := by
    rw [← EReal.coe_sub, exp2_real, ← pw_add, neg_add_eq_sub]
  have h1 : pw μ * pw (-μ) = 1 := by rw [← pw_add, add_neg_cancel]; exact Real.rpow_zero 2
  refine ⟨ν, rfl, ?_, ?_⟩
  · simp only [hp, hα]
    rw [← coe_sum, ← EReal.coe_mul, ← EReal.coe_add, EReal.coe_eq_coe_iff, ← Finset.mul_sum]
    linear_combination (pw (-ν) * L) * h1
  · simp only [hp, hα]
    rw [coe_mul_add (pw_pos _).le, coe_mul_sum _ (pw_pos _).le]
    refine congrArg₂ (· + ·) ?_ (Finset.sum_congr rfl fun i _ => ?_)
    · rw [← mul_assoc, ← EReal.coe_mul, mul_assoc, h1, mul_one]
    · rw [EReal.coe_mul, mul_left_comm]

/-- THE END of the online softmax: the weighted sum over the sum does not see the scale. -/
theorem finish (m l a : EReal) (L : ℝ) (A : EReal) (hL : 0 < L)
    (h : ∃ μ : ℝ, m = μ ∧ l = ((pw (-μ) * L : ℝ) : EReal) ∧ a = (pw (-μ) : EReal) * A) :
    a * Ideal.div 1 l = ((1 / L : ℝ) : EReal) * A := by
  obtain ⟨μ, rfl, rfl, rfl⟩ := h
  have hp := pw_pos (-μ)
  rw [Ideal.div_coe (by positivity), one_mul, mul_right_comm, ← EReal.coe_mul]
  congr 2
  field_simp

/-- The reference's softmax over one row: the exponential of the scores times `log 2`, each less the row's greatest,
    over their sum, weighing the values — the unscaled weighted sum over the unscaled sum. -/
theorem softmax {ι : Type} [Fintype ι] [Nonempty ι] (σ : ι → ℝ) (v : ι → EReal) (s : ι → EReal) (M : EReal)
    (hs : ∀ i, s i = ((σ i * Real.log 2 : ℝ) : EReal)) (hM : M = Finset.univ.fold max ⊥ s) :
    ∑ i, v i * Ideal.div (Ideal.exp (s i - M)) (∑ k, Ideal.exp (s k - M))
      = ((1 / ∑ i, pw (σ i) : ℝ) : EReal) * ∑ i, v i * (pw (σ i) : EReal) := by
  obtain rfl : s = fun i => ((σ i * Real.log 2 : ℝ) : EReal) := funext hs
  obtain ⟨ν, hν⟩ := fold_max_real' Finset.univ Finset.univ_nonempty fun i => σ i * Real.log 2
  obtain rfl : M = ν := hM.trans hν
  have he : ∀ i, Ideal.exp (((σ i * Real.log 2 : ℝ) : EReal) - (ν : EReal)) = ((Real.exp (-ν) * pw (σ i) : ℝ) : EReal) := fun i => by
    rw [← EReal.coe_sub, Ideal.exp_coe, EReal.coe_eq_coe_iff, pw, Real.rpow_def_of_pos (by norm_num), ← Real.exp_add]
    congr 1; ring
  have hS : 0 < ∑ i, pw (σ i) := Finset.sum_pos (fun i _ => pw_pos _) Finset.univ_nonempty
  have hE := Real.exp_pos (-ν)
  simp only [he]
  rw [← coe_sum, ← Finset.mul_sum, coe_mul_sum _ (by positivity)]
  refine Finset.sum_congr rfl fun i _ => ?_
  rw [Ideal.div_coe (by positivity), ← EReal.coe_mul, mul_left_comm, ← EReal.coe_mul]
  congr 2
  field_simp

end Cert.Soft

end
-- ==== Proof.Step.lean ====
/- One step of the kernel's online softmax, its vectors read at an index. -/
module

public import proofs.«01_k».proof.Proof.Soft
public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Idealize.ShloMosaic

/-- The running sums' step: the old sums rescaled, plus the column sums of the chunk's exponentials. -/
def stepL (S : FVec Ideal S1024x1024 .f32) (m l : FVec Ideal S1x1024 .f32) : FVec Ideal S1x1024 .f32 :=
  addf (mulf (k0_pay19 S m) l)
    (shapeCast S1x1024 (multiReduction .add [0] S1024 (k0_pay20 S m) 0x00000000#32 reduces_S1024x1024_S1024 (.inl rfl) rfl) shapeCasts_S1024_S1x1024)

/-- The running weighted sums' step: the old ones rescaled, plus the values times the chunk's exponentials. -/
def stepA (S : FVec Ideal S1024x1024 .f32) (m : FVec Ideal S1x1024 .f32) (a : FVec Ideal S128x1024 .f32) (V : Vec Ideal S1x128x1024 .bf16) :
    FVec Ideal S128x1024 .f32 :=
  addf (mulf (broadcastTo S128x1024 (k0_pay19 S m) broadcasts_S1x1024_S128x1024) a)
    (matmul (φ₁ := .bf16) dot_S128x1024_S1024x1024_S128x1024_1_0_0_1_n_n none (shapeCast S128x1024 V shapeCasts_S1x128x1024_S128x1024)
      (truncf .bf16 (k0_pay20 S m) bitsLt_bf16_f32) (constant S128x1024 .f32 0x00000000#32))

/-- The pattern of minus infinity is the least extended real. -/
theorem ofBits_bot : Ideal.ofBits .f32 0xFF800000#32 = ⊥ := by simp [Ideal.ofBits, Ideal.ieee]

/-- The running maximum's first value is a real. -/
theorem init_real : ∃ r : ℝ, Ideal.ofBits .f32 0xF149F2CA#32 = ((r : ℝ) : EReal) := by
  unfold Ideal.ofBits Ideal.ieee
  dsimp only
  rw [if_neg (by decide), if_neg (by decide)]
  exact ⟨_, rfl⟩

theorem pay9_real : ∃ r : ℝ, ∀ j : Fin 1024, k0_pay9 (F := Ideal) (ix2 (0 : Fin 1) j) = ((r : ℝ) : EReal) :=
  init_real.imp fun r h j => h

/-- The column maxima of a chunk of scores, at a column. -/
theorem colmax_at (S : FVec Ideal S1024x1024 .f32) (j : Fin 1024) :
    multiReduction .maximumf [0] S1024 S 0xFF800000#32 reduces_S1024x1024_S1024 (.inl rfl) rfl (ix1 j)
      = Finset.univ.fold max (Ideal.ofBits .f32 0xFF800000#32) fun i : Fin 1024 => S (ix2 i j) := by
  pointwise

/-- The running maximum's step over the column maxima, at a column. -/
theorem pay18_colmax (S : FVec Ideal S1024x1024 .f32) (m : FVec Ideal S1x1024 .f32) (j : Fin 1024) :
    k0_pay18 S m (ix2 0 j) = max (m (ix2 0 j))
      (multiReduction .maximumf [0] S1024 S 0xFF800000#32 reduces_S1024x1024_S1024 (.inl rfl) rfl (ix1 j)) := by
  delta k0_pay18
  generalize multiReduction .maximumf [0] S1024 S 0xFF800000#32 reduces_S1024x1024_S1024 (.inl rfl) rfl = M
  pointwise

/-- The running maximum's step, at a column. -/
theorem pay18_at (S : FVec Ideal S1024x1024 .f32) (m : FVec Ideal S1x1024 .f32) (j : Fin 1024) :
    k0_pay18 S m (ix2 0 j) = max (m (ix2 0 j)) (Finset.univ.fold max ⊥ fun i : Fin 1024 => S (ix2 i j)) :=
  (pay18_colmax S m j).trans (by rw [colmax_at, ofBits_bot])

theorem stepL_at (S : FVec Ideal S1024x1024 .f32) (m l : FVec Ideal S1x1024 .f32) (j : Fin 1024) :
    stepL S m l (ix2 0 j) = Ideal.exp2 (m (ix2 0 j) - k0_pay18 S m (ix2 0 j)) * l (ix2 0 j)
      + ∑ i : Fin 1024, Ideal.exp2 (S (ix2 i j) - k0_pay18 S m (ix2 0 j)) := by
  pointwise [stepL, k0_pay19, k0_pay20]
  rfl

theorem stepA_at (S : FVec Ideal S1024x1024 .f32) (m : FVec Ideal S1x1024 .f32) (a : FVec Ideal S128x1024 .f32) (V : Vec Ideal S1x128x1024 .bf16)
    (d : Fin 128) (j : Fin 1024) :
    stepA S m a V (ix2 d j) = Ideal.exp2 (m (ix2 0 j) - k0_pay18 S m (ix2 0 j)) * a (ix2 d j)
      + ∑ i : Fin 1024, V (ix3 0 d i) * Ideal.exp2 (S (ix2 i j) - k0_pay18 S m (ix2 0 j)) := by
  pointwise [stepA, k0_pay19, k0_pay20]
  rfl

theorem score_at (q : Vec Ideal S4x256x128 .bf16) (k : Vec Ideal S1x1024x128 .bf16) (i j : Fin 1024) :
    k0_pay10 q k (ix2 i j) = ∑ e : Fin 128, k (ix3 0 i e) * q (ix3 ⟨j.val / 256, by omega⟩ ⟨j.val % 256, by omega⟩ e) := by
  pointwise [k0_pay10, k0_pay8]

end Cert.KernelIdeal.Hand

end
-- ==== Proof.Nest.lean ====
/- The kernel's nest of vector operations at one grid point as nine steps of one online softmax. -/
module

public import proofs.«01_k».proof.Proof.Step

@[expose] public section

set_option maxRecDepth 16384

noncomputable section

namespace Cert.KernelIdeal.Hand

open Cert.KernelIdeal Cert.KernelIdeal.Gen Idealize.ShloMosaic

/-- The running maxima, sums and weighted sums after `c` chunks of the latent keys. -/
def st (q : Vec Ideal S4x256x128 .bf16) (k : ℕ → Vec Ideal S1x1024x128 .bf16) (V : ℕ → Vec Ideal S1x128x1024 .bf16) :
    ℕ → FVec Ideal S1x1024 .f32 × FVec Ideal S1x1024 .f32 × FVec Ideal S128x1024 .f32
  | 0 => (k0_pay9, broadcast S1x1024 (Scalar.ofBits (F := Ideal) .f32 0x00000000#32), broadcast S128x1024 (Scalar.ofBits (F := Ideal) .f32 0x00000000#32))
  | c + 1 =>
    (k0_pay18 (k0_pay10 q (k c)) (st q k V c).1,
      stepL (k0_pay10 q (k c)) (st q k V c).1 (st q k V c).2.1,
      stepA (k0_pay10 q (k c)) (st q k V c).1 (st q k V c).2.2 (V c))

/-- The running maxima after the context's scores. -/
def ctxM (S : FVec Ideal S256x1024 .f32) (m : FVec Ideal S1x1024 .f32) : FVec Ideal S1x1024 .f32 :=
  maximumf m (shapeCast S1x1024 (multiReduction .maximumf [0] S1024 S 0xFF800000#32 reduces_S256x1024_S1024 (.inl rfl) rfl) shapeCasts_S1024_S1x1024)

/-- The factor that rescales the sums at the context's step. -/
def ctxα (S : FVec Ideal S256x1024 .f32) (m : FVec Ideal S1x1024 .f32) : FVec Ideal S1x1024 .f32 :=
  exp2 (subf m (ctxM S m))

/-- The context's exponentials. -/
def ctxE (S : FVec Ideal S256x1024 .f32) (m : FVec Ideal S1x1024 .f32) : FVec Ideal S256x1024 .f32 :=
  exp2 (subf S (broadcastTo S256x1024 (ctxM S m) broadcasts_S1x1024_S256x1024))

/-- The running sums after the context's step. -/
def ctxL (S : FVec Ideal S256x1024 .f32) (m l : FVec Ideal S1x1024 .f32) : FVec Ideal S1x1024 .f32 :=
  addf (mulf (ctxα S m) l)
    (shapeCast S1x1024 (multiReduction .add [0] S1024 (ctxE S m) 0x00000000#32 reduces_S256x1024_S1024 (.inl rfl) rfl) shapeCasts_S1024_S1x1024)

/-- The attention of a query block: eight chunks of latent keys, then the context. -/
def att (q : Vec Ideal S4x256x128 .bf16) (k : ℕ → Vec Ideal S1x1024x128 .bf16) (V : ℕ → Vec Ideal S1x128x1024 .bf16)
    (kx : Vec Ideal S1x256x128 .bf16) (vx : Vec Ideal S128x256 .bf16) : FVec Ideal S1024x128 .f32 :=
  k0_pay1 (st q k V 8).2.2 (ctxα (k0_pay50 (k0_pay8 q) kx) (st q k V 8).1)
    (ctxL (k0_pay50 (k0_pay8 q) kx) (st q k V 8).1 (st q k V 8).2.1)
    (truncf .bf16 (ctxE (k0_pay50 (k0_pay8 q) kx) (st q k V 8).1) bitsLt_bf16_f32) vx

section
variable (q : Vec Ideal S4x256x128 .bf16) (k : ℕ → Vec Ideal S1x1024x128 .bf16) (V : ℕ → Vec Ideal S1x128x1024 .bf16)
  (kx : Vec Ideal S1x256x128 .bf16) (vx : Vec Ideal S128x256 .bf16)

/-- After the first chunk. -/
theorem st_1m : k0_pay12 q (k 0) = (st q k V 1).1 := rfl
theorem st_1l : k0_pay15 q (k 0) = (st q k V 1).2.1 := rfl
theorem st_1a : k0_pay16 q (k 0) (V 0) = (st q k V 1).2.2 := rfl
/-- After the third. -/
theorem st_3m : k0_pay22 (k0_pay8 q) (k0_pay10 q (k 1)) (st q k V 1).1 (k 2) = (st q k V 3).1 := rfl
theorem st_3l : k0_pay25 (k0_pay8 q) (k0_pay10 q (k 1)) (st q k V 1).1 (st q k V 1).2.1 (k 2) = (st q k V 3).2.1 := rfl
/-- After the fourth and the fifth. -/
theorem st_4a : k0_pay33 (k0_pay10 q (k 3)) (st q k V 3).1 (k0_pay26 (k0_pay8 q) (k0_pay10 q (k 1)) (st q k V 1).1 (k 2)) (k0_pay27 (V 2))
    (k0_pay28 (k0_pay8 q) (k0_pay10 q (k 1)) (st q k V 1).1 (st q k V 1).2.2 (k 2) (V 1)) (V 3) = (st q k V 4).2.2 := rfl
theorem st_5m : k0_pay35 (k0_pay8 q) (k0_pay10 q (k 3)) (st q k V 3).1 (k 4) = (st q k V 5).1 := rfl
theorem st_5l : k0_pay38 (k0_pay8 q) (k0_pay10 q (k 3)) (st q k V 3).1 (st q k V 3).2.1 (k 4) = (st q k V 5).2.1 := rfl
/-- After the sixth and the seventh. -/
theorem st_6a : k0_pay44 (st q k V 4).2.2 (k0_pay10 q (k 5)) (st q k V 5).1 (k0_pay36 (k0_pay8 q) (k0_pay10 q (k 3)) (st q k V 3).1 (k 4))
    (k0_pay39 (k0_pay8 q) (k0_pay10 q (k 3)) (st q k V 3).1 (k 4)) (V 4) (V 5) = (st q k V 6).2.2 := rfl
theorem st_7m : k0_pay46 (k0_pay8 q) (k0_pay10 q (k 5)) (st q k V 5).1 (k 6) = (st q k V 7).1 := rfl
theorem st_7l : k0_pay49 (k0_pay8 q) (k0_pay10 q (k 5)) (st q k V 5).1 (st q k V 5).2.1 (k 6) = (st q k V 7).2.1 := rfl
/-- After the eighth, and the context's terms. -/
theorem st_8a : k0_pay54 (st q k V 6).2.2 (k0_pay10 q (k 7)) (st q k V 7).1 (k0_pay47 (k0_pay8 q) (k0_pay10 q (k 5)) (st q k V 5).1 (k 6))
    (k0_pay48 (k0_pay8 q) (k0_pay10 q (k 5)) (st q k V 5).1 (k 6)) (V 6) (V 7) = (st q k V 8).2.2 := rfl
theorem st_xα : k0_pay56 (k0_pay8 q) (k0_pay10 q (k 7)) (st q k V 7).1 kx = ctxα (k0_pay50 (k0_pay8 q) kx) (st q k V 8).1 := rfl
theorem st_xl : k0_pay58 (k0_pay8 q) (k0_pay10 q (k 7)) (st q k V 7).1 (st q k V 7).2.1 kx
    = ctxL (k0_pay50 (k0_pay8 q) kx) (st q k V 8).1 (st q k V 8).2.1 := rfl
theorem st_xe : k0_pay59 (k0_pay8 q) (k0_pay10 q (k 7)) (st q k V 7).1 kx
    = truncf .bf16 (ctxE (k0_pay50 (k0_pay8 q) kx) (st q k V 8).1) bitsLt_bf16_f32 := rfl

/-- The values the five parts hand on, from the query block, the key chunks and the value chunks. -/
abbrev w16 := k0_pay12 q (k 0)
abbrev w25 := k0_pay15 q (k 0)
abbrev w32 := k0_pay16 q (k 0) (V 0)
abbrev w60 := k0_pay22 (k0_pay8 q) (k0_pay11 q (k 1)) (w16 q k) (k 2)
abbrev w69 := k0_pay25 (k0_pay8 q) (k0_pay11 q (k 1)) (w16 q k) (w25 q k) (k 2)
abbrev w57 := k0_pay21 (k0_pay8 q) (k 3)
abbrev w101 := k0_pay34 (k0_pay8 q) (k 5)
abbrev w145 := k0_pay45 (k0_pay8 q) (k 7)
abbrev w98 := k0_pay33 (w57 q k) (w60 q k) (k0_pay26 (k0_pay8 q) (k0_pay11 q (k 1)) (w16 q k) (k 2)) (k0_pay27 (V 2))
  (k0_pay28 (k0_pay8 q) (k0_pay11 q (k 1)) (w16 q k) (w32 q k V) (k 2) (V 1)) (V 3)
abbrev w104 := k0_pay35 (k0_pay8 q) (w57 q k) (w60 q k) (k 4)
abbrev w113 := k0_pay38 (k0_pay8 q) (w57 q k) (w60 q k) (w69 q k) (k 4)
abbrev w142 := k0_pay44 (w98 q k V) (w101 q k) (w104 q k) (k0_pay36 (k0_pay8 q) (w57 q k) (w60 q k) (k 4))
  (k0_pay39 (k0_pay8 q) (w57 q k) (w60 q k) (k 4)) (V 4) (V 5)
abbrev w148 := k0_pay46 (k0_pay8 q) (w101 q k) (w104 q k) (k 6)
abbrev w157 := k0_pay49 (k0_pay8 q) (w101 q k) (w104 q k) (w113 q k) (k 6)
abbrev w186 := k0_pay54 (w142 q k V) (w145 q k) (w148 q k) (k0_pay47 (k0_pay8 q) (w101 q k) (w104 q k) (k 6))
  (k0_pay48 (k0_pay8 q) (w101 q k) (w104 q k) (k 6)) (V 6) (V 7)

theorem w60_eq : w60 q k = (st q k V 3).1 := st_3m q k V
theorem w69_eq : w69 q k = (st q k V 3).2.1 := st_3l q k V
theorem w98_eq : w98 q k V = (st q k V 4).2.2 := by rw [w98, w60_eq q k V]; exact st_4a q k V
theorem w104_eq : w104 q k = (st q k V 5).1 := by rw [w104, w60_eq q k V]; exact st_5m q k V
theorem w113_eq : w113 q k = (st q k V 5).2.1 := by rw [w113, w60_eq q k V, w69_eq q k V]; exact st_5l q k V
theorem w142_eq : w142 q k V = (st q k V 6).2.2 := by rw [w142, w98_eq, w104_eq q k V, w60_eq q k V]; exact st_6a q k V
theorem w148_eq : w148 q k = (st q k V 7).1 := by rw [w148, w104_eq q k V]; exact st_7m q k V
theorem w157_eq : w157 q k = (st q k V 7).2.1 := by rw [w157, w104_eq q k V, w113_eq q k V]; exact st_7l q k V
theorem w186_eq : w186 q k V = (st q k V 8).2.2 := by rw [w186, w142_eq, w148_eq q k V, w104_eq q k V]; exact st_8a q k V

/-- The kernel's vector operations at one grid point, before the four stores. -/
def nest : FVec Ideal S1024x128 .f32 :=
  k0_pay1 (w186 q k V) (k0_pay56 (k0_pay8 q) (w145 q k) (w148 q k) kx) (k0_pay58 (k0_pay8 q) (w145 q k) (w148 q k) (w157 q k) kx)
    (k0_pay59 (k0_pay8 q) (w145 q k) (w148 q k) kx) vx

/-- They are nine steps of one online softmax. -/
theorem nest_eq : nest q k V kx vx = att q k V kx vx := by
  rw [nest, w186_eq, w148_eq q k V, w157_eq q k V]
  exact congrArg₂ (fun a b => a b) (congrArg₂ (fun a b => a b) (congrArg₂ (fun a b => a b) (congrArg (k0_pay1 _) (st_xα q k V kx)) (st_xl q k V kx)) (st_xe q k V kx)) rfl
end

end Cert.KernelIdeal.Hand

end
-- ==== Proof.Attn.lean ====
/- One grid point's attention, read at a query and a value row. -/
module

public import proofs.«01_k».proof.Proof.Nest

@[expose] public section

set_option maxRecDepth 16384

noncomputable section

namespace Cert.KernelIdeal.Hand

open Cert.KernelIdeal Cert.KernelIdeal.Gen Idealize.ShloMosaic Cert.Soft

/-- The context's column maxima, at a column. -/
theorem ctxmax_at (S : FVec Ideal S256x1024 .f32) (j : Fin 1024) :
    multiReduction .maximumf [0] S1024 S 0xFF800000#32 reduces_S256x1024_S1024 (.inl rfl) rfl (ix1 j)
      = Finset.univ.fold max (Ideal.ofBits .f32 0xFF800000#32) fun i : Fin 256 => S (ix2 i j) := by
  pointwise

theorem ctxM_colmax (S : FVec Ideal S256x1024 .f32) (m : FVec Ideal S1x1024 .f32) (j : Fin 1024) :
    ctxM S m (ix2 0 j) = max (m (ix2 0 j))
      (multiReduction .maximumf [0] S1024 S 0xFF800000#32 reduces_S256x1024_S1024 (.inl rfl) rfl (ix1 j)) := by
  delta ctxM
  generalize multiReduction .maximumf [0] S1024 S 0xFF800000#32 reduces_S256x1024_S1024 (.inl rfl) rfl = M
  pointwise

theorem ctxM_at (S : FVec Ideal S256x1024 .f32) (m : FVec Ideal S1x1024 .f32) (j : Fin 1024) :
    ctxM S m (ix2 0 j) = max (m (ix2 0 j)) (Finset.univ.fold max ⊥ fun i : Fin 256 => S (ix2 i j)) :=
  (ctxM_colmax S m j).trans (by rw [ctxmax_at, ofBits_bot])

theorem ctxL_at (S : FVec Ideal S256x1024 .f32) (m l : FVec Ideal S1x1024 .f32) (j : Fin 1024) :
    ctxL S m l (ix2 0 j) = Ideal.exp2 (m (ix2 0 j) - ctxM S m (ix2 0 j)) * l (ix2 0 j)
      + ∑ i : Fin 256, Ideal.exp2 (S (ix2 i j) - ctxM S m (ix2 0 j)) := by
  pointwise [ctxL, ctxα, ctxE]
  rfl

theorem ctxα_at (S : FVec Ideal S256x1024 .f32) (m : FVec Ideal S1x1024 .f32) (j : Fin 1024) :
    ctxα S m (ix2 0 j) = Ideal.exp2 (m (ix2 0 j) - ctxM S m (ix2 0 j)) := by
  pointwise [ctxα]
  rfl

theorem ctxE_at (S : FVec Ideal S256x1024 .f32) (m : FVec Ideal S1x1024 .f32) (i : Fin 256) (j : Fin 1024) :
    truncf .bf16 (ctxE S m) bitsLt_bf16_f32 (ix2 i j) = Ideal.exp2 (S (ix2 i j) - ctxM S m (ix2 0 j)) := by
  pointwise [ctxE]
  rfl

/-- The last step and the division, at a query and a value row. -/
theorem pay1_at (a : FVec Ideal S128x1024 .f32) (α l : FVec Ideal S1x1024 .f32) (E : FVec Ideal S256x1024 .bf16) (vx : Vec Ideal S128x256 .bf16)
    (j : Fin 1024) (d : Fin 128) :
    k0_pay1 a α l E vx (ix2 j d) = (α (ix2 0 j) * a (ix2 d j) + ∑ i : Fin 256, vx (ix2 d i) * E (ix2 i j)) * Ideal.div 1 (l (ix2 0 j)) := by
  pointwise [k0_pay1]

theorem ctxscore_at (q : Vec Ideal S4x256x128 .bf16) (k : Vec Ideal S1x256x128 .bf16) (i : Fin 256) (j : Fin 1024) :
    k0_pay50 (k0_pay8 q) k (ix2 i j) = ∑ e : Fin 128, k (ix3 0 i e) * q (ix3 ⟨j.val / 256, by omega⟩ ⟨j.val % 256, by omega⟩ e) := by
  pointwise [k0_pay50, k0_pay8]

section
variable (q : Vec Ideal S4x256x128 .bf16) (k : ℕ → Vec Ideal S1x1024x128 .bf16) (V : ℕ → Vec Ideal S1x128x1024 .bf16)
  (kx : Vec Ideal S1x256x128 .bf16) (vx : Vec Ideal S128x256 .bf16)

/-- The state after `c` chunks: with `μ` the running maximum, the sum is `2^(-μ)` times the plain sum of the powers so far, and the weighted
    sum is `2^(-μ)` times the plain weighted sum so far. -/
theorem st_inv (j : Fin 1024) (d : Fin 128) (σ : ℕ → Fin 1024 → ℝ) (c : ℕ)
    (hσ : ∀ c' < c, ∀ i, k0_pay10 q (k c') (ix2 i j) = ((σ c' i : ℝ) : EReal)) :
    ∃ μ : ℝ, (st q k V c).1 (ix2 0 j) = (μ : EReal)
      ∧ (st q k V c).2.1 (ix2 0 j) = ((pw (-μ) * ∑ c' ∈ Finset.range c, ∑ i, pw (σ c' i) : ℝ) : EReal)
      ∧ (st q k V c).2.2 (ix2 d j) = ((pw (-μ) : ℝ) : EReal) * ∑ c' ∈ Finset.range c, ∑ i, V c' (ix3 0 d i) * ((pw (σ c' i) : ℝ) : EReal) := by
  induction c with
  | zero =>
    obtain ⟨r, hr⟩ := pay9_real
    refine ⟨r, hr j, ?_, ?_⟩
    · simp only [Finset.range_zero, Finset.sum_empty, mul_zero, EReal.coe_zero]
      exact Ideal.ofBits_zero_f32
    · simp only [Finset.range_zero, Finset.sum_empty, mul_zero]
      exact Ideal.ofBits_zero_f32
  | succ c ih =>
    have h := step (σ c) (fun i => V c (ix3 0 d i)) _ _ _ _ _ _ _ (hσ c (Nat.lt_succ_self c)) (pay18_at (k0_pay10 q (k c)) (st q k V c).1 j)
      (ih fun c' h => hσ c' (h.trans (Nat.lt_succ_self c)))
    obtain ⟨ν, h1, h2, h3⟩ := h
    refine ⟨ν, h1, ?_, ?_⟩
    · rw [Finset.sum_range_succ]
      exact (stepL_at _ _ _ j).trans h2
    · rw [Finset.sum_range_succ]
      exact (stepA_at _ _ _ _ d j).trans h3

/-- The plain sum of the powers of two of all the scores. -/
def tot (σ : ℕ → Fin 1024 → ℝ) (σx : Fin 256 → ℝ) : ℝ := ∑ c ∈ Finset.range 8, ∑ i, pw (σ c i) + ∑ i, pw (σx i)

theorem tot_pos (σ : ℕ → Fin 1024 → ℝ) (σx : Fin 256 → ℝ) : 0 < tot σ σx :=
  add_pos_of_nonneg_of_pos (Finset.sum_nonneg fun c _ => Finset.sum_nonneg fun i _ => (pw_pos _).le)
    (Finset.sum_pos (fun i _ => pw_pos _) Finset.univ_nonempty)

/-- The attention at a query and a value row: the values weighted by the powers of two of the scores, over the sum of those powers. -/
theorem att_at (j : Fin 1024) (d : Fin 128) (σ : ℕ → Fin 1024 → ℝ) (σx : Fin 256 → ℝ)
    (hσ : ∀ c < 8, ∀ i, k0_pay10 q (k c) (ix2 i j) = ((σ c i : ℝ) : EReal))
    (hx : ∀ i, k0_pay50 (k0_pay8 q) kx (ix2 i j) = ((σx i : ℝ) : EReal)) :
    att q k V kx vx (ix2 j d) = ((1 / tot σ σx : ℝ) : EReal)
      * (∑ c ∈ Finset.range 8, ∑ i, V c (ix3 0 d i) * ((pw (σ c i) : ℝ) : EReal) + ∑ i, vx (ix2 d i) * ((pw (σx i) : ℝ) : EReal)) := by
  have h := step σx (fun i => vx (ix2 d i)) _ _ _ _ _ _ _ hx (ctxM_at (k0_pay50 (k0_pay8 q) kx) (st q k V 8).1 j)
    (st_inv q k V j d σ 8 hσ)
  rw [← ctxL_at] at h
  have hp := tot_pos σ σx
  refine (pay1_at _ _ _ _ _ j d).trans ?_
  rw [ctxα_at]
  simp only [ctxE_at]
  unfold tot at hp ⊢
  exact finish _ _ _ _ _ hp h
end

end Cert.KernelIdeal.Hand

end
-- ==== Proof.Scratch.lean ====
/- What the two carried scratches hold at every grid point: the value blocks, transposed. -/
module

public import proofs.«01_k».proof.Proof.Attn
public import proofs.«01_k».proof.Proof.Gen.KernelIdeal.Frame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe

/-- A block of latent values cut into eight chunks of 1024 rows, each transposed. -/
def vlt (X : Vec Ideal S1x8192x128 .bf16) : Vec Ideal S8x128x1024 .bf16 := fun y =>
  X (ix3 0 ⟨(y 0).val * 1024 + (y 2).val, by have h0 : (y 0).val < 8 := (y 0).isLt; have h2 : (y 2).val < 1024 := (y 2).isLt; omega⟩ ⟨(y 1).val, (y 1).isLt⟩)

/-- The loop's offsets at a trip. -/
theorem offs : ∀ k : Fin k0_t1_loop.trips, k0_off1 k = ![0, k.val * 1024, 0] ∧ k0_off2 k = ![k.val, 0, 0] := by decide +kernel

/-- What a trip stores, at an index. -/
theorem pay7_at (X : Vec Ideal S1x1024x128 .bf16) (d : Fin 128) (n : Fin 1024) : k0_pay7 X (ix3 0 d n) = X (ix3 0 n d) := by
  pointwise [k0_pay7]

/-- The transposed chunk `k` is a block of the transposed values. -/
theorem piece_at (X : Vec Ideal S1x8192x128 .bf16) (k : ℕ) (o₁ o₂ : Fin 3 → ℕ) (h₁ : o₁ = ![0, k * 1024, 0]) (h₂ : o₂ = ![k, 0, 0]) (inb₁ inb₂)
    (x : (Rect.unit (s := S8x128x1024) o₂ ![1, 128, 1024] inb₂).shape.Idx) :
    k0_pay7 (F := Ideal) (View.ld X (Rect.unit (s := S1x8192x128) o₁ ![1, 1024, 128] inb₁)) x
      = vlt X ((Rect.unit (s := S8x128x1024) o₂ ![1, 128, 1024] inb₂).emb x) := by
  subst h₁ h₂
  have hx0 : (x 0).val < 1 := (x 0).isLt
  have hx1 : (x 1).val < 128 := (x 1).isLt
  have hx2 : (x 2).val < 1024 := (x 2).isLt
  have e : ∀ a, (((Rect.unit (s := S8x128x1024) ![k, 0, 0] ![1, 128, 1024] inb₂).emb x) a : ℕ) = (![k, 0, 0] : Fin 3 → ℕ) a + x a :=
    fun a => Rect.idx_unit_val _ _ _ x a
  have f0 : _ = k + (x 0).val := e 0
  have f1 : _ = 0 + (x 1).val := e 1
  have f2 : _ = 0 + (x 2).val := e 2
  refine Eq.trans (b := (k0_pay7 (F := Ideal) (View.ld X (Rect.unit (s := S1x8192x128) ![0, k * 1024, 0] ![1, 1024, 128] inb₁))) (ix3 (0 : Fin 1) ⟨(x 1).val, hx1⟩ ⟨(x 2).val, hx2⟩)) ?_ ?_
  · refine congrArg (k0_pay7 (F := Ideal) _) ?_
    funext a
    fin_cases a
    · exact Fin.ext (by show (x 0).val = 0; omega)
    · rfl
    · rfl
  · refine (pay7_at _ _ _).trans ?_
    refine View.ld_unit_apply_of _ _ _ _ _ _ ?_
    intro a
    fin_cases a
    · rfl
    · show _ * 1024 + _ = k * 1024 + (x 2).val
      rw [f0, f2]; omega
    · exact f1

/-- A trip's store is a block of the transposed values. -/
theorem trip_pieces (𝒱 : Variants) (c : Dev nD) (bd : Option 𝒱.V) (i : grid0.Coords) (arg3 : Memref sig .tc .vmem S4x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x512 .bf16) (harg8 : arg8.IsWhole) (arg9 : Memref sig .tc .vmem S8x128x1024 .bf16) (harg9 : arg9.IsWhole) (arg10 : Memref sig .tc .vmem S128x256 .bf16) (harg10 : arg10.IsWhole) (hc0 : k0_cond1 i = 1#1) (x2 : Vec Ideal S1x8192x128 .bf16) (k : Fin k0_t1_loop.trips) :
    ∀ p ∈ tripL_k0_t1 (F := Ideal) 𝒱 c bd i arg3 harg3 arg4 harg4 arg5 harg5 arg6 harg6 arg7 harg7 arg8 harg8 arg9 harg9 arg10 harg10 hc0 (harg5.unread x2) k,
      ∀ x : p.1.shape.Idx, p.2 x = vlt x2 (p.1.emb x) := by
  unfold tripL_k0_t1 trip_k0_t1
  dsimp only
  frame_out
  intro p hp
  obtain rfl := List.mem_singleton.mp hp
  intro x
  exact piece_at x2 k.val _ _ (offs k).1 (offs k).2 (k0_off1_inb i k hc0) (k0_off2_inb i k hc0) x

/-- All the stores of the loop's trips are. -/
theorem loop_pieces (𝒱 : Variants) (c : Dev nD) (bd : Option 𝒱.V) (i : grid0.Coords) (arg3 : Memref sig .tc .vmem S4x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x512 .bf16) (harg8 : arg8.IsWhole) (arg9 : Memref sig .tc .vmem S8x128x1024 .bf16) (harg9 : arg9.IsWhole) (arg10 : Memref sig .tc .vmem S128x256 .bf16) (harg10 : arg10.IsWhole) (hc0 : k0_cond1 i = 1#1) (x2 : Vec Ideal S1x8192x128 .bf16) (n : ℕ) (hn : n ≤ k0_t1_loop.trips) :
    ∀ p ∈ pb_k0_t1 (F := Ideal) 𝒱 c bd i arg3 harg3 arg4 harg4 arg5 harg5 arg6 harg6 arg7 harg7 arg8 harg8 arg9 harg9 arg10 harg10 hc0 (harg5.unread x2) n,
      ∀ x : p.1.shape.Idx, p.2 x = vlt x2 (p.1.emb x) := by
  induction n with
  | zero => intro p hp; rw [pb_k0_t1.eq_1] at hp; simp at hp
  | succ n ih =>
    intro p hp
    rw [pb_k0_t1_succ 𝒱 c bd i arg3 harg3 arg4 harg4 arg5 harg5 arg6 harg6 arg7 harg7 arg8 harg8 arg9 harg9 arg10 harg10 hc0 _ ⟨n, hn⟩] at hp
    rcases List.mem_append.mp hp with h | h
    · exact trip_pieces _ _ _ _ _ _ _ _ _ _ _ _ _ _ _ _ _ _ _ _ _ _ _ p h
    · exact ih (Nat.le_of_succ_le hn) p h

/-- The scratch after the loop: the transposed values. -/
theorem loop_canon (𝒱 : Variants) (c : Dev nD) (bd : Option 𝒱.V) (i : grid0.Coords) (arg3 : Memref sig .tc .vmem S4x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S256x512 .bf16) (harg8 : arg8.IsWhole) (arg9 : Memref sig .tc .vmem S8x128x1024 .bf16) (harg9 : arg9.IsWhole) (arg10 : Memref sig .tc .vmem S128x256 .bf16) (harg10 : arg10.IsWhole) (hc0 : k0_cond1 i = 1#1) (x2 : Vec Ideal S1x8192x128 .bf16) :
    View.canon (pb_k0_t1 (F := Ideal) 𝒱 c bd i arg3 harg3 arg4 harg4 arg5 harg5 arg6 harg6 arg7 harg7 arg8 harg8 arg9 harg9 arg10 harg10 hc0 (harg5.unread x2) (Scf.trips (0#32) (Scalar.addi 0#32 8#32) 1#32)) = vlt x2 := by
  funext y
  exact View.canon_apply_of_pieces (vlt x2) _
    (loop_pieces 𝒱 c bd i arg3 harg3 arg4 harg4 arg5 harg5 arg6 harg6 arg7 harg7 arg8 harg8 arg9 harg9 arg10 harg10 hc0 x2 _ le_rfl) y
    (View.cover_of_tiledL (pb_k0_t1 (F := Ideal) 𝒱 c bd i arg3 harg3 arg4 harg4 arg5 harg5 arg6 harg6 arg7 harg7 arg8 harg8 arg9 harg9 arg10 harg10 hc0 (harg5.unread x2) (Scf.trips k0_t1_loop.lb k0_t1_loop.ub k0_t1_loop.st)) S1x128x1024.size (by sl_kernel_rfl) y)

variable (m : (ℓ : Loc nD τ sig) → Buf (Elt Ideal) ℓ)

/-- The windows' blocks at every grid point: point `t` is batch `t / 128`, group `t / 32 % 4`, query block `t % 32`. -/
theorem idx_val : ∀ t : Fin cfg0.N, win0_0.index t = ![t.val / 32 % 4, t.val / 128 * 32 + t.val % 32, 0] ∧ win0_1.index t = ![16 + t.val / 32 % 4, t.val / 128, 0]
    ∧ win0_2.index t = ![20 + t.val / 32 % 4, t.val / 128, 0] ∧ win0_3.index t = ![16 + t.val / 32 % 4, t.val / 128, 0]
    ∧ win0_4.index t = ![20 + t.val / 32 % 4, t.val / 128, 0] ∧ win0_5.index t = ![t.val / 128 * 32 + t.val % 32, t.val / 32 % 4] :=
  (by decide +kernel : ∀ t : Fin grid0.N, _)

/-- The value blocks do not move within a run of 32 points. -/
theorem blk2_run (c : Dev nD) (t : Fin cfg0.N) : iblk m c 2 ⟨32 * (t.val / 32), Pipeline.run_start_lt t⟩ = iblk m c 2 t := by
  have ht : t.val < 256 := lt_of_lt_of_eq t.isLt Gen.N_0
  blk_ext! [iblk, V, idx_val t, idx_val ⟨32 * (t.val / 32), Pipeline.run_start_lt t⟩]

theorem blk4_run (c : Dev nD) (t : Fin cfg0.N) : iblk m c 4 ⟨32 * (t.val / 32), Pipeline.run_start_lt t⟩ = iblk m c 4 t := by
  have ht : t.val < 256 := lt_of_lt_of_eq t.isLt Gen.N_0
  blk_ext! [iblk, V, idx_val t, idx_val ⟨32 * (t.val / 32), Pipeline.run_start_lt t⟩]

/-- The first scratch after any point: the point's latent values, transposed. -/
theorem scr0 (c : Dev nD) (t : Fin cfg0.N) : (outsAt0 m c t.val t.isLt).2.1 = vlt (iblk m c 2 t) := by
  rw [Pipeline.eq_of_write_hold (fun n h => (outsAt0 m c n h).2.1) 32 (fun t => vlt (iblk m c 2 t))
    (fun t h => by
      funext y
      show (outsAt0 m c t.val t.isLt).2.1 y = _
      rw [outsAt0_A m c t h]; frame_out; rw [loop_canon])
    (fun t h => by
      show (outsAt0 m c t.val t.isLt).2.1 = _
      rw [outsAt0_B m c t h]; rfl) t]
  exact congrArg vlt (blk2_run m c t)

/-- The second scratch after any point: the point's context values, transposed. -/
theorem scr1 (c : Dev nD) (t : Fin cfg0.N) : (outsAt0 m c t.val t.isLt).2.2 = k0_pay6 (iblk m c 4 t) := by
  rw [Pipeline.eq_of_write_hold (fun n h => (outsAt0 m c n h).2.2) 32 (fun t => k0_pay6 (F := Ideal) (iblk m c 4 t))
    (fun t h => by
      funext y
      show (outsAt0 m c t.val t.isLt).2.2 y = _
      rw [outsAt0_A m c t h]; frame_out)
    (fun t h => by
      show (outsAt0 m c t.val t.isLt).2.2 = _
      rw [outsAt0_B m c t h]; rfl) t]
  exact congrArg (k0_pay6 (F := Ideal)) (blk4_run m c t)

/-- Past a run's first point the blocks are those of the point before. -/
theorem blk2_pred (c : Dev nD) (t : Fin cfg0.N) (h : ¬t.val % 32 = 0) : iblk m c 2 ⟨t.val - 1, Nat.lt_of_le_of_lt (Nat.sub_le _ _) t.isLt⟩ = iblk m c 2 t := by
  have ht : t.val < 256 := lt_of_lt_of_eq t.isLt Gen.N_0
  blk_ext! [iblk, V, idx_val t, idx_val ⟨t.val - 1, Nat.lt_of_le_of_lt (Nat.sub_le _ _) t.isLt⟩]

theorem blk4_pred (c : Dev nD) (t : Fin cfg0.N) (h : ¬t.val % 32 = 0) : iblk m c 4 ⟨t.val - 1, Nat.lt_of_le_of_lt (Nat.sub_le _ _) t.isLt⟩ = iblk m c 4 t := by
  have ht : t.val < 256 := lt_of_lt_of_eq t.isLt Gen.N_0
  blk_ext! [iblk, V, idx_val t, idx_val ⟨t.val - 1, Nat.lt_of_le_of_lt (Nat.sub_le _ _) t.isLt⟩]

/-- The scratches a later point of a run finds. -/
theorem scr0_pred (c : Dev nD) (t : Fin cfg0.N) (h : ¬t.val % 32 = 0) :
    (outsAt0 m c (t.val - 1) (Nat.lt_of_le_of_lt (Nat.sub_le _ _) t.isLt)).2.1 = vlt (iblk m c 2 t) :=
  (scr0 m c ⟨t.val - 1, Nat.lt_of_le_of_lt (Nat.sub_le _ _) t.isLt⟩).trans (congrArg vlt (blk2_pred m c t h))

theorem scr1_pred (c : Dev nD) (t : Fin cfg0.N) (h : ¬t.val % 32 = 0) :
    (outsAt0 m c (t.val - 1) (Nat.lt_of_le_of_lt (Nat.sub_le _ _) t.isLt)).2.2 = k0_pay6 (iblk m c 4 t) :=
  (scr1 m c ⟨t.val - 1, Nat.lt_of_le_of_lt (Nat.sub_le _ _) t.isLt⟩).trans (congrArg (k0_pay6 (F := Ideal)) (blk4_pred m c t h))

end Cert.KernelIdeal.Hand

end
-- ==== Proof.Block.lean ====
/- What a grid point leaves in the output's buffer: its attention, one head beside the other. -/
module

public import proofs.«01_k».proof.Proof.Scratch

@[expose] public section

set_option maxRecDepth 16384

noncomputable section

namespace Cert.KernelIdeal.Hand

open Cert.KernelIdeal Cert.KernelIdeal.Gen Idealize.ShloMosaic Idealize.ShloMosaic.TcCoe

/-- Chunk `n` of a block of latent keys. -/
def kch (X : Vec Ideal S1x8192x128 .bf16) (n : ℕ) : Vec Ideal S1x1024x128 .bf16 := fun y =>
  X (ix3 0 ⟨(n * 1024 + (y 1).val) % 8192, Nat.mod_lt _ (by decide)⟩ ⟨(y 2).val, (y 2).isLt⟩)

/-- Chunk `n` of the transposed latent values. -/
def vch (Y : Vec Ideal S8x128x1024 .bf16) (n : ℕ) : Vec Ideal S1x128x1024 .bf16 := fun y =>
  Y (ix3 ⟨n % 8, Nat.mod_lt _ (by decide)⟩ ⟨(y 1).val, (y 1).isLt⟩ ⟨(y 2).val, (y 2).isLt⟩)

theorem ld_k (X : Vec Ideal S1x8192x128 .bf16) (o n : ℕ) (inb) (h : o = n * 1024) :
    View.ld X (Rect.unit (s := S1x8192x128) ![0, o, 0] ![1, 1024, 128] inb) = kch X n := by
  subst h
  have hb : n * 1024 + 1024 ≤ 8192 := inb 1
  funext y
  have h0 : (y 0).val < 1 := (y 0).isLt
  have h1 : (y 1).val < 1024 := (y 1).isLt
  refine View.ld_unit_apply_of _ _ _ _ _ _ ?_
  intro a
  fin_cases a
  · show (0 : ℕ) = 0 + (y 0).val; omega
  · show (n * 1024 + (y 1).val) % 8192 = n * 1024 + (y 1).val; omega
  · show (y 2).val = 0 + (y 2).val; omega

theorem ld_v (Y : Vec Ideal S8x128x1024 .bf16) (n : ℕ) (inb) :
    View.ld Y (Rect.unit (s := S8x128x1024) ![n, 0, 0] ![1, 128, 1024] inb) = vch Y n := by
  have hb : n + 1 ≤ 8 := inb 0
  funext y
  have h0 : (y 0).val < 1 := (y 0).isLt
  refine View.ld_unit_apply_of _ _ _ _ _ _ ?_
  intro a
  fin_cases a
  · show n % 8 = n + (y 0).val; omega
  · show (y 1).val = 0 + (y 1).val; omega
  · show (y 2).val = 0 + (y 2).val; omega

/-- A load from a buffer some writes have filled is the load from what they leave. -/
theorem cov_ld (v : View sig .tc .vmem S8x128x1024 .bf16) (L : List (View.Piece (Elt Ideal) S8x128x1024 .bf16)) (o : Fin 3 → ℕ) (inb) :
    v.readCov L (Rect.unit (s := S8x128x1024) o ![1, 128, 1024] inb).toLoadRect = View.ld (View.canon L) (Rect.unit o ![1, 128, 1024] inb) :=
  View.readCov_eq_canon' v L _

/-- The four stores' payloads at an index: rows 0, 256, 512 and 768 on of one array. -/
theorem pay2_at (a : FVec Ideal S128x1024 .f32) (b l : FVec Ideal S1x1024 .f32) (E : FVec Ideal S256x1024 .bf16) (vx : Vec Ideal S128x256 .bf16) (r : Fin 256) (d : Fin 128) :
    k0_pay2 a b l E vx (ix2 r d) = k0_pay1 a b l E vx (ix2 ⟨r.val, by omega⟩ d) := by
  delta k0_pay2
  generalize k0_pay1 a b l E vx = X
  pointwise

theorem pay3_at (a : FVec Ideal S128x1024 .f32) (b l : FVec Ideal S1x1024 .f32) (E : FVec Ideal S256x1024 .bf16) (vx : Vec Ideal S128x256 .bf16) (r : Fin 256) (d : Fin 128) :
    k0_pay3 a b l E vx (ix2 r d) = k0_pay1 a b l E vx (ix2 ⟨256 + r.val, by omega⟩ d) := by
  delta k0_pay3
  generalize k0_pay1 a b l E vx = X
  pointwise

theorem pay4_at (a : FVec Ideal S128x1024 .f32) (b l : FVec Ideal S1x1024 .f32) (E : FVec Ideal S256x1024 .bf16) (vx : Vec Ideal S128x256 .bf16) (r : Fin 256) (d : Fin 128) :
    k0_pay4 a b l E vx (ix2 r d) = k0_pay1 a b l E vx (ix2 ⟨512 + r.val, by omega⟩ d) := by
  delta k0_pay4
  generalize k0_pay1 a b l E vx = X
  pointwise

theorem pay5_at (a : FVec Ideal S128x1024 .f32) (b l : FVec Ideal S1x1024 .f32) (E : FVec Ideal S256x1024 .bf16) (vx : Vec Ideal S128x256 .bf16) (r : Fin 256) (d : Fin 128) :
    k0_pay5 a b l E vx (ix2 r d) = k0_pay1 a b l E vx (ix2 ⟨768 + r.val, by omega⟩ d) := by
  delta k0_pay5
  generalize k0_pay1 a b l E vx = X
  pointwise

variable (m : (ℓ : Loc nD τ sig) → Buf (Elt Ideal) ℓ)

/-- The attention of point `t`. -/
def attB (c : Dev nD) (t : Fin cfg0.N) : FVec Ideal S1024x128 .f32 :=
  nest (iblk m c 0 t) (kch (iblk m c 1 t)) (vch (vlt (iblk m c 2 t))) (iblk m c 3 t) (k0_pay6 (iblk m c 4 t))

/-- Row `r`, column `128 h + d` of the output's block is query `256 h + r`'s value row `d`. -/
theorem out_at (c : Dev nD) (t : Fin cfg0.N) (y : S256x512.Idx) :
    (outsAt0 m c t.val t.isLt).1 y = attB m c t (ix2 ⟨(y 1).val / 128 * 256 + (y 0).val, by
      have h0 : (y 0).val < 256 := (y 0).isLt; have h1 : (y 1).val < 512 := (y 1).isLt; omega⟩ ⟨(y 1).val % 128, Nat.mod_lt _ (by decide)⟩) := by
  by_cases h : t.val % 32 = 0
  · rw [outsAt0_A m c t h]; frame_out
    simp only [cov_ld, loop_canon]
    simp only [ld_k _ 0 0 _ rfl, ld_k _ 1024 1 _ rfl, ld_k _ 2048 2 _ rfl, ld_k _ 3072 3 _ rfl, ld_k _ 4096 4 _ rfl, ld_k _ 5120 5 _ rfl, ld_k _ 6144 6 _ rfl,
      ld_k _ 7168 7 _ rfl, ld_v]
    canon_tiles x hh
    all_goals
      have hx0 : (x 0).val < 256 := (x 0).isLt
      have hx1 : (x 1).val < 128 := (x 1).isLt
      refine (congrArg _ (show x = ix2 (⟨(x 0).val, hx0⟩ : Fin 256) (⟨(x 1).val, hx1⟩ : Fin 128) from funext fun a => by fin_cases a <;> rfl)).trans ?_
    · refine (pay5_at _ _ _ _ _ _ _).trans ?_
      refine Eq.trans (b := attB m c t (ix2 ⟨768 + (x 0).val, by omega⟩ ⟨(x 1).val, hx1⟩)) rfl ?_
      exact congrArg (attB m c t) (congrArg₂ ix2 (Fin.ext (by show 768 + (x 0).val = (y 1).val / 128 * 256 + (y 0).val; omega)) (Fin.ext (by show (x 1).val = (y 1).val % 128; omega)))
    · refine (pay4_at _ _ _ _ _ _ _).trans ?_
      refine Eq.trans (b := attB m c t (ix2 ⟨512 + (x 0).val, by omega⟩ ⟨(x 1).val, hx1⟩)) rfl ?_
      exact congrArg (attB m c t) (congrArg₂ ix2 (Fin.ext (by show 512 + (x 0).val = (y 1).val / 128 * 256 + (y 0).val; omega)) (Fin.ext (by show (x 1).val = (y 1).val % 128; omega)))
    · refine (pay3_at _ _ _ _ _ _ _).trans ?_
      refine Eq.trans (b := attB m c t (ix2 ⟨256 + (x 0).val, by omega⟩ ⟨(x 1).val, hx1⟩)) rfl ?_
      exact congrArg (attB m c t) (congrArg₂ ix2 (Fin.ext (by show 256 + (x 0).val = (y 1).val / 128 * 256 + (y 0).val; omega)) (Fin.ext (by show (x 1).val = (y 1).val % 128; omega)))
    · refine (pay2_at _ _ _ _ _ _ _).trans ?_
      refine Eq.trans (b := attB m c t (ix2 ⟨(x 0).val, by omega⟩ ⟨(x 1).val, hx1⟩)) rfl ?_
      exact congrArg (attB m c t) (congrArg₂ ix2 (Fin.ext (by show (x 0).val = (y 1).val / 128 * 256 + (y 0).val; omega)) (Fin.ext (by show (x 1).val = (y 1).val % 128; omega)))
  · rw [outsAt0_B m c t h]; frame_out
    simp only [read_unread_whole, scr0_pred m c t h, scr1_pred m c t h]
    simp only [ld_k _ 0 0 _ rfl, ld_k _ 1024 1 _ rfl, ld_k _ 2048 2 _ rfl, ld_k _ 3072 3 _ rfl, ld_k _ 4096 4 _ rfl, ld_k _ 5120 5 _ rfl, ld_k _ 6144 6 _ rfl,
      ld_k _ 7168 7 _ rfl, ld_v]
    canon_tiles x hh
    all_goals
      have hx0 : (x 0).val < 256 := (x 0).isLt
      have hx1 : (x 1).val < 128 := (x 1).isLt
      refine (congrArg _ (show x = ix2 (⟨(x 0).val, hx0⟩ : Fin 256) (⟨(x 1).val, hx1⟩ : Fin 128) from funext fun a => by fin_cases a <;> rfl)).trans ?_
    · refine (pay5_at _ _ _ _ _ _ _).trans ?_
      refine Eq.trans (b := attB m c t (ix2 ⟨768 + (x 0).val, by omega⟩ ⟨(x 1).val, hx1⟩)) rfl ?_
      exact congrArg (attB m c t) (congrArg₂ ix2 (Fin.ext (by show 768 + (x 0).val = (y 1).val / 128 * 256 + (y 0).val; omega)) (Fin.ext (by show (x 1).val = (y 1).val % 128; omega)))
    · refine (pay4_at _ _ _ _ _ _ _).trans ?_
      refine Eq.trans (b := attB m c t (ix2 ⟨512 + (x 0).val, by omega⟩ ⟨(x 1).val, hx1⟩)) rfl ?_
      exact congrArg (attB m c t) (congrArg₂ ix2 (Fin.ext (by show 512 + (x 0).val = (y 1).val / 128 * 256 + (y 0).val; omega)) (Fin.ext (by show (x 1).val = (y 1).val % 128; omega)))
    · refine (pay3_at _ _ _ _ _ _ _).trans ?_
      refine Eq.trans (b := attB m c t (ix2 ⟨256 + (x 0).val, by omega⟩ ⟨(x 1).val, hx1⟩)) rfl ?_
      exact congrArg (attB m c t) (congrArg₂ ix2 (Fin.ext (by show 256 + (x 0).val = (y 1).val / 128 * 256 + (y 0).val; omega)) (Fin.ext (by show (x 1).val = (y 1).val % 128; omega)))
    · refine (pay2_at _ _ _ _ _ _ _).trans ?_
      refine Eq.trans (b := attB m c t (ix2 ⟨(x 0).val, by omega⟩ ⟨(x 1).val, hx1⟩)) rfl ?_
      exact congrArg (attB m c t) (congrArg₂ ix2 (Fin.ext (by show (x 0).val = (y 1).val / 128 * 256 + (y 0).val; omega)) (Fin.ext (by show (x 1).val = (y 1).val % 128; omega)))

end Cert.KernelIdeal.Hand

end
-- ==== Proof.Spec.lean ====
/- The call's result as one formula over its four arrays, and what the precondition gives. -/
module

public import proofs.«01_k».proof.Proof.Soft
public import proofs.«01_k».proof.Proof.Gen.KernelIdeal
public import proofs.«01_k».proof.Proof.Gen.Pre_finite_qk
public import Idealize.ShloMosaic.Lib.ReduceAll
public import Idealize.ShloMosaic.Lib.Pointwise
public import Idealize.ShloMosaic.Lib.Pipeline.ValueKit

@[expose] public section

set_option maxRecDepth 16384

noncomputable section

namespace Cert.KernelIdeal.Hand

open Cert.KernelIdeal Idealize.ShloMosaic Cert.Soft

/-- The score of query row `R` of head `h` against latent key `i` of its batch, a real number. -/
def scL (A0 : FVec Ideal S52x16384x128 .bf16) (h : Fin 16) (R : Fin 16384) (i : Fin 8192) : ℝ :=
  ∑ e : Fin 128, (A0 (ix3 ⟨16 + h.val / 4, by omega⟩ ⟨R.val / 8192 * 8192 + i.val, by omega⟩ e)).toReal * (A0 (ix3 ⟨h.val, by omega⟩ R e)).toReal

/-- … and against context key `i`. -/
def scC (A0 : FVec Ideal S52x16384x128 .bf16) (A2 : FVec Ideal S52x512x128 .bf16) (h : Fin 16) (R : Fin 16384) (i : Fin 256) : ℝ :=
  ∑ e : Fin 128, (A2 (ix3 ⟨16 + h.val / 4, by omega⟩ ⟨R.val / 8192 * 256 + i.val, by omega⟩ e)).toReal * (A0 (ix3 ⟨h.val, by omega⟩ R e)).toReal

/-- The attention's value at head `h`, row `R`, dimension `d`: the weighted sum of the values over the sum of the weights. -/
def spec (A0 : FVec Ideal S52x16384x128 .bf16) (A1 : FVec Ideal S72x16384x128 .bf16) (A2 : FVec Ideal S52x512x128 .bf16) (A3 : FVec Ideal S72x512x128 .bf16)
    (h : Fin 16) (R : Fin 16384) (d : Fin 128) : EReal :=
  ((1 / (∑ i, pw (scL A0 h R i) + ∑ i, pw (scC A0 A2 h R i)) : ℝ) : EReal)
    * (∑ i : Fin 8192, A1 (ix3 ⟨20 + h.val / 4, by omega⟩ ⟨R.val / 8192 * 8192 + i.val, by omega⟩ d) * (pw (scL A0 h R i) : EReal)
      + ∑ i : Fin 256, A3 (ix3 ⟨20 + h.val / 4, by omega⟩ ⟨R.val / 8192 * 256 + i.val, by omega⟩ d) * (pw (scC A0 A2 h R i) : EReal))

/-- Queries and keys are real numbers. -/
structure Fin0 (A0 : FVec Ideal S52x16384x128 .bf16) (A2 : FVec Ideal S52x512x128 .bf16) : Prop where
  lat : ∀ (a : Fin 52) (r : Fin 16384) (e : Fin 128), a.val < 20 → ((A0 (ix3 a r e)).toReal : EReal) = A0 (ix3 a r e)
  ctx : ∀ (a : Fin 52) (r : Fin 512) (e : Fin 128), 16 ≤ a.val → a.val < 20 → ((A2 (ix3 a r e)).toReal : EReal) = A2 (ix3 a r e)

/-- A sum of products of real numbers is a real number. -/
theorem sum_mul_real {n : ℕ} (f g : Fin n → EReal) (hf : ∀ e, ((f e).toReal : EReal) = f e) (hg : ∀ e, ((g e).toReal : EReal) = g e) :
    ∑ e, f e * g e = ((∑ e, (f e).toReal * (g e).toReal : ℝ) : EReal) := by
  rw [coe_sum]
  refine Finset.sum_congr rfl fun e _ => ?_
  rw [EReal.coe_mul, hf, hg]

theorem real_of_abs_lt {x : EReal} (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  refine EReal.coe_toReal ?_ ?_
  · rintro rfl
    simp [Ideal.cmp] at h
  · rintro rfl
    simp [Ideal.cmp] at h

/-- The precondition gives real queries and keys. -/
theorem fin0_of_pre (A0 : FVec Ideal S52x16384x128 .bf16) (A1 : FVec Ideal S72x16384x128 .bf16) (A2 : FVec Ideal S52x512x128 .bf16) (A3 : FVec Ideal S72x512x128 .bf16)
    (h : Cert.Pre_finite_qk.fn (F := Ideal) A0 A1 A2 A3 = fun _ => 1#1) : Fin0 A0 A2 := by
  have h0 := congrFun h ((Shape.Idx.first Cert.Pre_finite_qk.Gen.h_S_))
  dsimp only [Cert.Pre_finite_qk.fn] at h0
  have h1 := IntOp.andi_eq_one.1 h0
  constructor
  · intro a r e ha
    refine real_of_abs_lt (Eq.trans ?_ (Host.reduce_andi_all _ _ _ _ _ h1.1 (ix3 (⟨a.val, ha⟩ : Fin 20) r e)))
    pointwise
    rfl
  · intro a r e ha hb
    refine real_of_abs_lt (Eq.trans ?_ (Host.reduce_andi_all _ _ _ _ _ h1.2 (ix3 (⟨a.val - 16, by omega⟩ : Fin 4) r e)))
    pointwise
    have hA : (⟨16 + (a.val - 16), by omega⟩ : Fin 52) = a := Fin.ext (by show 16 + (a.val - 16) = a.val; omega)
    simp only [hA]
    rfl

end Cert.KernelIdeal.Hand

end
-- ==== Proof.Final.lean ====
/- The kernel's result array: the formula of the attention at every index. -/
module

public import proofs.«01_k».proof.Proof.Attn
public import proofs.«01_k».proof.Proof.Block
public import proofs.«01_k».proof.Proof.Spec

@[expose] public section

set_option maxRecDepth 16384

noncomputable section

namespace Cert.KernelIdeal.Hand

open Cert.KernelIdeal Cert.KernelIdeal.Gen Idealize.ShloMosaic Idealize.ShloMosaic.TcCoe Cert.Soft

variable (m : (ℓ : Loc nD τ sig) → Buf (Elt Ideal) ℓ)

/-! The blocks of point `t` read at an index of their arrays. -/

theorem q_read (c : Dev nD) (t : Fin cfg0.N) (a : Fin 4) (r : Fin 256) (e : Fin 128) (h : Fin 52) (R : Fin 16384)
    (hh : h.val = t.val / 32 % 4 * 4 + a.val) (hR : R.val = (t.val / 128 * 32 + t.val % 32) * 256 + r.val) :
    iblk m c 0 t (ix3 a r e) = m ((c : Thread nD τ).loc main_arg0) (ix3 h R e) := by
  blk_ext [iblk, V, idx_val t]

theorem k_read (c : Dev nD) (t : Fin cfg0.N) (r : Fin 8192) (e : Fin 128) (h : Fin 52) (R : Fin 16384)
    (hh : h.val = 16 + t.val / 32 % 4) (hR : R.val = t.val / 128 * 8192 + r.val) :
    iblk m c 1 t (ix3 0 r e) = m ((c : Thread nD τ).loc main_arg0) (ix3 h R e) := by
  blk_ext [iblk, V, idx_val t]

theorem v_read (c : Dev nD) (t : Fin cfg0.N) (r : Fin 8192) (e : Fin 128) (h : Fin 72) (R : Fin 16384)
    (hh : h.val = 20 + t.val / 32 % 4) (hR : R.val = t.val / 128 * 8192 + r.val) :
    iblk m c 2 t (ix3 0 r e) = m ((c : Thread nD τ).loc main_arg1) (ix3 h R e) := by
  blk_ext [iblk, V, idx_val t]

theorem kx_read (c : Dev nD) (t : Fin cfg0.N) (r : Fin 256) (e : Fin 128) (h : Fin 52) (R : Fin 512)
    (hh : h.val = 16 + t.val / 32 % 4) (hR : R.val = t.val / 128 * 256 + r.val) :
    iblk m c 3 t (ix3 0 r e) = m ((c : Thread nD τ).loc main_arg2) (ix3 h R e) := by
  blk_ext [iblk, V, idx_val t]

theorem vx_read (c : Dev nD) (t : Fin cfg0.N) (r : Fin 256) (e : Fin 128) (h : Fin 72) (R : Fin 512)
    (hh : h.val = 20 + t.val / 32 % 4) (hR : R.val = t.val / 128 * 256 + r.val) :
    iblk m c 4 t (ix3 0 r e) = m ((c : Thread nD τ).loc main_arg3) (ix3 h R e) := by
  blk_ext [iblk, V, idx_val t]

theorem kch_at (X : Vec Ideal S1x8192x128 .bf16) (n : ℕ) (i : Fin 1024) (e : Fin 128) :
    kch X n (ix3 0 i e) = X (ix3 0 ⟨(n * 1024 + i.val) % 8192, Nat.mod_lt _ (by decide)⟩ e) := rfl

theorem vch_at (X : Vec Ideal S1x8192x128 .bf16) (n : ℕ) (hn : n < 8) (d : Fin 128) (i : Fin 1024) :
    vch (vlt X) n (ix3 0 d i) = X (ix3 0 ⟨n * 1024 + i.val, by omega⟩ d) := by
  show X _ = X _
  refine congrArg X ?_
  funext a
  fin_cases a
  · rfl
  · refine Fin.ext ?_
    show n % 8 * 1024 + i.val = n * 1024 + i.val
    omega
  · rfl

theorem pay6_at (X : Vec Ideal S1x256x128 .bf16) (d : Fin 128) (i : Fin 256) : k0_pay6 X (ix2 d i) = X (ix3 0 i d) := by
  pointwise [k0_pay6]

/-- The sum over a range of eight chunks of 1024 is the sum over 8192. -/
theorem sum_chunks {M : Type} [AddCommMonoid M] (f : Fin 8192 → M) (g : ℕ → Fin 1024 → M)
    (h : ∀ n (hn : n < 8) i, g n i = f ⟨n * 1024 + i.val, by omega⟩) : ∑ n ∈ Finset.range 8, ∑ i, g n i = ∑ k, f k := by
  rw [Finset.sum_range, Fin.sum_univ_tiles 8 1024 rfl f]
  exact Finset.sum_congr rfl fun n _ => Finset.sum_congr rfl fun i _ => h n.val n.isLt i

/-- One value of the point's attention: the formula at the head, row and dimension the value stands for. -/
theorem point (c : Dev nD) (t : Fin cfg0.N) (hf : Fin0 (m ((c : Thread nD τ).loc main_arg0)) (m ((c : Thread nD τ).loc main_arg2)))
    (j : Fin 1024) (d : Fin 128) (h : Fin 16) (R : Fin 16384)
    (hh : h.val = t.val / 32 % 4 * 4 + j.val / 256) (hR : R.val = (t.val / 128 * 32 + t.val % 32) * 256 + j.val % 256) :
    attB m c t (ix2 j d) = spec (m ((c : Thread nD τ).loc main_arg0)) (m ((c : Thread nD τ).loc main_arg1)) (m ((c : Thread nD τ).loc main_arg2)) (m ((c : Thread nD τ).loc main_arg3)) h R d := by
  have ht : t.val < 256 := lt_of_lt_of_eq t.isLt Gen.N_0
  have hj := j.isLt
  have h1 : h.val / 4 = t.val / 32 % 4 := by omega
  have h2 : R.val / 8192 = t.val / 128 := by omega
  have hq : ∀ e, iblk m c 0 t (ix3 ⟨j.val / 256, by omega⟩ ⟨j.val % 256, by omega⟩ e) = m ((c : Thread nD τ).loc main_arg0) (ix3 ⟨h.val, by omega⟩ R e) :=
    fun e => q_read m c t _ _ e _ _ hh hR
  unfold attB
  rw [nest_eq]
  refine (att_at _ _ _ _ _ j d
    (fun n i => scL (m ((c : Thread nD τ).loc main_arg0)) h R ⟨(n * 1024 + i.val) % 8192, Nat.mod_lt _ (by decide)⟩)
    (fun i => scC (m ((c : Thread nD τ).loc main_arg0)) (m ((c : Thread nD τ).loc main_arg2)) h R i) ?_ ?_).trans ?_
  · intro n hn i
    rw [score_at]
    refine Eq.trans (Finset.sum_congr rfl fun e _ => ?_) (sum_mul_real _ _ (fun e => hf.lat _ _ e ?_) (fun e => hf.lat _ _ e ?_))
    · rw [hq e, kch_at, k_read m c t _ e ⟨16 + h.val / 4, by omega⟩ ⟨R.val / 8192 * 8192 + (n * 1024 + i.val) % 8192, by omega⟩ (by show 16 + h.val / 4 = _; omega) (by show R.val / 8192 * 8192 + _ = _; rw [h2])]
    · show 16 + h.val / 4 < 20; omega
    · show h.val < 20; omega
  · intro i
    rw [ctxscore_at]
    refine Eq.trans (Finset.sum_congr rfl fun e _ => ?_) (sum_mul_real _ _ (fun e => hf.ctx _ _ e ?_ ?_) (fun e => hf.lat _ _ e ?_))
    · rw [hq e, kx_read m c t _ e ⟨16 + h.val / 4, by omega⟩ ⟨R.val / 8192 * 256 + i.val, by omega⟩ (by show 16 + h.val / 4 = _; omega) (by show R.val / 8192 * 256 + _ = _; rw [h2])]
    · show 16 ≤ 16 + h.val / 4; omega
    · show 16 + h.val / 4 < 20; omega
    · show h.val < 20; omega
  · unfold tot spec
    have hm : ∀ n (hn : n < 8) (i : Fin 1024), (⟨(n * 1024 + i.val) % 8192, Nat.mod_lt _ (by decide)⟩ : Fin 8192) = ⟨n * 1024 + i.val, by omega⟩ :=
      fun n hn i => Fin.ext (Nat.mod_eq_of_lt (by omega))
    rw [sum_chunks (fun k => pw (scL (m ((c : Thread nD τ).loc main_arg0)) h R k)) _ (fun n hn i => by beta_reduce; rw [hm n hn i]),
      sum_chunks (fun k : Fin 8192 => @HMul.hMul EReal EReal EReal _ (m ((c : Thread nD τ).loc main_arg1) (ix3 ⟨20 + h.val / 4, by omega⟩ ⟨R.val / 8192 * 8192 + k.val, by omega⟩ d)) (pw (scL (m ((c : Thread nD τ).loc main_arg0)) h R k) : EReal)) _
        (fun n hn i => by
          beta_reduce; rw [hm n hn i, vch_at _ n hn, v_read m c t _ d ⟨20 + h.val / 4, by omega⟩ ⟨R.val / 8192 * 8192 + (n * 1024 + i.val), by omega⟩ (by show 20 + h.val / 4 = _; omega) (by show R.val / 8192 * 8192 + _ = _; rw [h2])])]
    congr 2
    refine Finset.sum_congr rfl fun i _ => ?_
    rw [pay6_at, vx_read m c t _ d ⟨20 + h.val / 4, by omega⟩ ⟨R.val / 8192 * 256 + i.val, by omega⟩ (by show 20 + h.val / 4 = _; omega) (by show R.val / 8192 * 256 + _ = _; rw [h2])]

/-- The result array after the run. -/
theorem final (c : Dev nD) (hf : Fin0 (m ((c : Thread nD τ).loc main_arg0)) (m ((c : Thread nD τ).loc main_arg2))) (G : FVec Ideal S16384x2048 .bf16)
    (hG : ∀ (R : Fin 16384) (C : Fin 2048), G (ix2 R C) = spec (m ((c : Thread nD τ).loc main_arg0)) (m ((c : Thread nD τ).loc main_arg1)) (m ((c : Thread nD τ).loc main_arg2)) (m ((c : Thread nD τ).loc main_arg3)) ⟨C.val / 128, by omega⟩ R ⟨C.val % 128, by omega⟩) :
    (dats m 0 c).arrAt 5 (cfgs 0).N = G := by
  refine (dats m 0 c).arrAt_eq_of_covers 5 G (by decide +kernel) fun t _ y => ?_
  blk_simp
  rw [after0_5]
  have ht : t.val < 256 := lt_of_lt_of_eq t.isLt Gen.N_0
  have h0 : (y 0).val < 256 := (y 0).isLt
  have h1 : (y 1).val < 512 := (y 1).isLt
  refine (out_at m c t y).trans ?_
  refine (point m c t hf _ _ ⟨t.val / 32 % 4 * 4 + (y 1).val / 128, by omega⟩ ⟨(t.val / 128 * 32 + t.val % 32) * 256 + (y 0).val, by omega⟩ ?_ ?_).trans ?_
  · show t.val / 32 % 4 * 4 + (y 1).val / 128 = _ + ((y 1).val / 128 * 256 + (y 0).val) / 256; omega
  · show (t.val / 128 * 32 + t.val % 32) * 256 + (y 0).val = _ + ((y 1).val / 128 * 256 + (y 0).val) % 256; omega
  · refine Eq.trans ?_ ((hG ⟨(t.val / 128 * 32 + t.val % 32) * 256 + (y 0).val, by omega⟩ ⟨t.val / 32 % 4 * 512 + (y 1).val, by omega⟩).symm.trans ?_)
    · congr 1
      · exact Fin.ext (by show t.val / 32 % 4 * 4 + (y 1).val / 128 = (t.val / 32 % 4 * 512 + (y 1).val) / 128; omega)
      · exact Fin.ext (by show (y 1).val % 128 = (t.val / 32 % 4 * 512 + (y 1).val) % 128; omega)
    · blk_ext [idx_val t]

end Cert.KernelIdeal.Hand

end
-- ==== Proof.Ref.lean ====
/- The reference's result at an index: the softmax's weighted sum. -/
module

public import proofs.«01_k».proof.Proof.Spec
public import proofs.«01_k».proof.Proof.Gen.ReferenceIdeal.Run

@[expose] public section

set_option maxRecDepth 16384

noncomputable section

namespace Cert.ReferenceIdeal.Hand

open Cert.ReferenceIdeal Cert.ReferenceIdeal.Gen Idealize.ShloMosaic Idealize.ShloMosaic.TcCoe Idealize.SL.Sem Cert.Soft

/-- The scores times `log 2`. -/
def sco (A0 : FVec Ideal S52x16384x128 .bf16) (A2 : FVec Ideal S52x512x128 .bf16) : FVec Ideal S4x2x4x8192x8448 .f32 :=
  mulf (Host.dotGeneral dot_S4x4x2x8192x128_S4x2x8448x128_S4x2x4x8192x8448_4_3_13_2_02_01 none (shapeCast _ (extf .f32 (shapeCast _ (extractStridedSlice S16x16384x128 ![0, 0, 0] A0 slices_S52x16384x128_S16x16384x128_0_0_0) shapeCasts_S16x16384x128_S16x2x8192x128) bitsLt_bf16_f32) shapeCasts_S16x2x8192x128_S4x4x2x8192x128) (concatenate S4x2x8448x128 2 [⟨S4x2x8192x128, (extf .f32 (shapeCast _ (extractStridedSlice S4x16384x128 ![16, 0, 0] A0 slices_S52x16384x128_S4x16384x128_16_0_0) shapeCasts_S4x16384x128_S4x2x8192x128) bitsLt_bf16_f32)⟩, ⟨S4x2x256x128, (extf .f32 (shapeCast _ (extractStridedSlice S4x512x128 ![16, 0, 0] A2 slices_S52x512x128_S4x512x128_16_0_0) shapeCasts_S4x512x128_S4x2x256x128) bitsLt_bf16_f32)⟩] concatenates_S4x2x8192x128_S4x2x256x128_S4x2x8448x128_d2)) (broadcastInDim S4x2x4x8192x8448 ![] bcast_S_S4x2x4x8192x8448 (Host.log (constant S_ .f32 0x40000000#32)))

/-- The values, latent then context. -/
def vals (A1 : FVec Ideal S72x16384x128 .bf16) (A3 : FVec Ideal S72x512x128 .bf16) : FVec Ideal S4x2x8448x128 .f32 :=
  concatenate S4x2x8448x128 2 [⟨S4x2x8192x128, (extf .f32 (shapeCast _ (extractStridedSlice S4x16384x128 ![20, 0, 0] A1 slices_S72x16384x128_S4x16384x128_20_0_0) shapeCasts_S4x16384x128_S4x2x8192x128) bitsLt_bf16_f32)⟩, ⟨S4x2x256x128, (extf .f32 (shapeCast _ (extractStridedSlice S4x512x128 ![20, 0, 0] A3 slices_S72x512x128_S4x512x128_20_0_0) shapeCasts_S4x512x128_S4x2x256x128) bitsLt_bf16_f32)⟩] concatenates_S4x2x8192x128_S4x2x256x128_S4x2x8448x128_d2

/-- The probabilities from the scores. -/
def prob (s : FVec Ideal S4x2x4x8192x8448 .f32) : FVec Ideal S4x2x4x8192x8448 .f32 :=
  Host.divf (Host.exp (subf s (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 (maximumf (broadcastInDim S4x2x4x8192 ![] bcast_S_S4x2x4x8192 (constant S_ .f32 0xFF800000#32)) (Host.reduce FloatOps.maximumf s (constant S_ .f32 0xFF800000#32) reducesTo_S4x2x4x8192x8448_S4x2x4x8192_d4 h_S_)))))) (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 (Host.reduceAdd (Host.exp (subf s (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 (maximumf (broadcastInDim S4x2x4x8192 ![] bcast_S_S4x2x4x8192 (constant S_ .f32 0xFF800000#32)) (Host.reduce FloatOps.maximumf s (constant S_ .f32 0xFF800000#32) reducesTo_S4x2x4x8192x8448_S4x2x4x8192_d4 h_S_)))))) (constant S_ .f32 0x00000000#32) reducesTo_S4x2x4x8192x8448_S4x2x4x8192_d4 h_S_)))

/-- The result from scores and values. -/
def outp (s : FVec Ideal S4x2x4x8192x8448 .f32) (v : FVec Ideal S4x2x8448x128 .f32) : FVec Ideal S16384x2048 .bf16 :=
  truncf .bf16 (shapeCast _ (transpose S2x8192x4x4x128 [0, 4, 1, 3, 2] (Host.dotGeneral dot_S4x2x8448x128_S4x2x4x8192x8448_S2x4x128x4x8192_2_4_3_23_10_10 none v (prob s)) transposes_S2x4x128x4x8192_S2x8192x4x4x128_0_4_1_3_2) shapeCasts_S2x8192x4x4x128_S16384x2048) bitsLt_bf16_f32

theorem res_eq (m : (ℓ : Loc nD τ sig) → Buf (Elt Ideal) ℓ) (c : Dev nD) :
    Value.res_main_v36 m c = outp (sco (m ((c.tc : Thread nD τ).loc main_arg0)) (m ((c.tc : Thread nD τ).loc main_arg2))) (vals (m ((c.tc : Thread nD τ).loc main_arg1)) (m ((c.tc : Thread nD τ).loc main_arg3))) := rfl

/-- A score: the product with a latent key or a context key, times `log 2`. -/
theorem sco_at (A0 : FVec Ideal S52x16384x128 .bf16) (A2 : FVec Ideal S52x512x128 .bf16) (g : Fin 4) (b : Fin 2) (h : Fin 4) (q : Fin 8192) (n : Fin 8448) :
    sco A0 A2 (ix5 g b h q n) = (∑ e, A0 (ix3 ⟨g.val * 4 + h.val, by omega⟩ ⟨b.val * 8192 + q.val, by omega⟩ e) *
      if h : n.val < 8192 then A0 (ix3 ⟨16 + g.val, by omega⟩ ⟨b.val * 8192 + n.val, by omega⟩ e)
      else A2 (ix3 ⟨16 + g.val, by omega⟩ ⟨b.val * 256 + (n.val - 8192), by omega⟩ e)) * Ideal.log (Ideal.ofBits FTy.f32 0x40000000#32) := by
  pointwise [sco]

/-- A value, latent or context. -/
theorem vals_at (A1 : FVec Ideal S72x16384x128 .bf16) (A3 : FVec Ideal S72x512x128 .bf16) (g : Fin 4) (b : Fin 2) (n : Fin 8448) (d : Fin 128) :
    vals A1 A3 (ix4 g b n d) = if h : n.val < 8192 then A1 (ix3 ⟨20 + g.val, by omega⟩ ⟨b.val * 8192 + n.val, by omega⟩ d)
      else A3 (ix3 ⟨20 + g.val, by omega⟩ ⟨b.val * 256 + (n.val - 8192), by omega⟩ d) := by
  pointwise [vals]

/-- The greatest score of a row. -/
theorem rmax_at (s : FVec Ideal S4x2x4x8192x8448 .f32) (g : Fin 4) (b : Fin 2) (h : Fin 4) (q : Fin 8192) :
    Host.reduce FloatOps.maximumf s (constant S_ .f32 0xFF800000#32) reducesTo_S4x2x4x8192x8448_S4x2x4x8192_d4 h_S_ (ix4 g b h q)
      = Finset.univ.fold max (Ideal.ofBits FTy.f32 0xFF800000#32) fun n => s (ix5 g b h q n) := by
  pointwise

/-- The sum of a row. -/
theorem rsum_at (s : FVec Ideal S4x2x4x8192x8448 .f32) (g : Fin 4) (b : Fin 2) (h : Fin 4) (q : Fin 8192) :
    Host.reduceAdd s (constant S_ .f32 0x00000000#32) reducesTo_S4x2x4x8192x8448_S4x2x4x8192_d4 h_S_ (ix4 g b h q)
      = ∑ n, s (ix5 g b h q n) := by
  pointwise

/-- The product with the values. -/
theorem prod_at (p : FVec Ideal S4x2x4x8192x8448 .f32) (v : FVec Ideal S4x2x8448x128 .f32) (g : Fin 4) (b : Fin 2) (h : Fin 4) (q : Fin 8192) (d : Fin 128) :
    (Host.dotGeneral dot_S4x2x8448x128_S4x2x4x8192x8448_S2x4x128x4x8192_2_4_3_23_10_10 none v p : FVec Ideal S2x4x128x4x8192 .f32) (ix5 b g d h q)
      = ∑ n, v (ix4 g b n d) * p (ix5 g b h q n) := by
  pointwise

/-- The result's index: row `R` and column `C` of the matrix are batch, head, dimension and query. -/
theorem move_at (o : FVec Ideal S2x4x128x4x8192 .f32) (R : Fin 16384) (C : Fin 2048) :
    (truncf .bf16 (shapeCast _ (transpose S2x8192x4x4x128 [0, 4, 1, 3, 2] o transposes_S2x4x128x4x8192_S2x8192x4x4x128_0_4_1_3_2) shapeCasts_S2x8192x4x4x128_S16384x2048) bitsLt_bf16_f32 : FVec Ideal S16384x2048 .bf16) (ix2 R C)
      = o (ix5 ⟨R.val / 8192, by omega⟩ ⟨C.val / 512, by omega⟩ ⟨C.val % 128, by omega⟩ ⟨C.val / 128 % 4, by omega⟩ ⟨R.val % 8192, by omega⟩) := by
  pointwise

/-- The exponentials of the scores less `M`. -/
theorem exp_at (s : FVec Ideal S4x2x4x8192x8448 .f32) (M : FVec Ideal S4x2x4x8192 .f32) (g : Fin 4) (b : Fin 2) (h : Fin 4) (q : Fin 8192) (n : Fin 8448) :
    Host.exp (subf s (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 M))) (ix5 g b h q n)
      = Ideal.exp (s (ix5 g b h q n) - M (ix4 g b h q)) := by
  pointwise

/-- The exponentials over their sum. -/
theorem div_at (E : FVec Ideal S4x2x4x8192x8448 .f32) (L : FVec Ideal S4x2x4x8192 .f32) (g : Fin 4) (b : Fin 2) (h : Fin 4) (q : Fin 8192) (n : Fin 8448) :
    Host.divf E (broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 L)) (ix5 g b h q n)
      = Ideal.div (E (ix5 g b h q n)) (L (ix4 g b h q)) := by
  pointwise

/-- A row's greatest score, as the program takes it: once more against minus infinity. -/
theorem gmax_at (N : FVec Ideal S4x2x4x8192 .f32) (g : Fin 4) (b : Fin 2) (h : Fin 4) (q : Fin 8192) :
    maximumf (broadcastInDim S4x2x4x8192 ![] bcast_S_S4x2x4x8192 (constant S_ .f32 0xFF800000#32)) N (ix4 g b h q)
      = max (Ideal.ofBits FTy.f32 0xFF800000#32) (N (ix4 g b h q)) := by
  pointwise

theorem ofBits_bot : Ideal.ofBits FTy.f32 0xFF800000#32 = ⊥ := by simp [Ideal.ofBits, Ideal.ieee]

theorem ofBits_two : Ideal.ofBits FTy.f32 0x40000000#32 = ((2 : ℝ) : EReal) := by
  simp only [Ideal.ofBits, Ideal.ieee]
  simp
  rw [← EReal.coe_mul, EReal.coe_eq_coe_iff]
  norm_num

/-- A probability at an index. -/
theorem prob_at (s : FVec Ideal S4x2x4x8192x8448 .f32) (g : Fin 4) (b : Fin 2) (h : Fin 4) (q : Fin 8192) (n : Fin 8448) :
    prob s (ix5 g b h q n) = Ideal.div (Ideal.exp (s (ix5 g b h q n) - Finset.univ.fold max ⊥ fun k => s (ix5 g b h q k)))
      (∑ k, Ideal.exp (s (ix5 g b h q k) - Finset.univ.fold max ⊥ fun k => s (ix5 g b h q k))) := by
  have hM : maximumf (broadcastInDim S4x2x4x8192 ![] bcast_S_S4x2x4x8192 (constant S_ .f32 0xFF800000#32))
      (Host.reduce FloatOps.maximumf s (constant S_ .f32 0xFF800000#32) reducesTo_S4x2x4x8192x8448_S4x2x4x8192_d4 h_S_) (ix4 g b h q)
      = Finset.univ.fold max ⊥ fun k => s (ix5 g b h q k) := by
    refine (gmax_at _ g b h q).trans ?_
    rw [rmax_at, ofBits_bot, max_eq_right bot_le]
  have hE := fun k => (exp_at s _ g b h q k).trans (congrArg (fun M => Ideal.exp (s (ix5 g b h q k) - M)) hM)
  exact (div_at _ _ g b h q n).trans (congrArg₂ Ideal.div (hE n) ((rsum_at _ g b h q).trans (Finset.sum_congr rfl fun k _ => hE k)))

/-- The result at an index, from scores that are real numbers times `log 2`. -/
theorem outp_at (s : FVec Ideal S4x2x4x8192x8448 .f32) (v : FVec Ideal S4x2x8448x128 .f32) (R : Fin 16384) (C : Fin 2048) (σ : Fin 8448 → ℝ)
    (hs : ∀ n, s (ix5 ⟨C.val / 512, by omega⟩ ⟨R.val / 8192, by omega⟩ ⟨C.val / 128 % 4, by omega⟩ ⟨R.val % 8192, by omega⟩ n) = ((σ n * Real.log 2 : ℝ) : EReal)) :
    outp s v (ix2 R C) = ((1 / ∑ n, pw (σ n) : ℝ) : EReal) * ∑ n, v (ix4 ⟨C.val / 512, by omega⟩ ⟨R.val / 8192, by omega⟩ n ⟨C.val % 128, by omega⟩) * (pw (σ n) : EReal) := by
  unfold outp
  rw [move_at, prod_at]
  exact (Finset.sum_congr rfl fun n _ => congrArg (v _ * ·) (prob_at s _ _ _ _ n)).trans (softmax σ _ _ _ hs rfl)

/-- A sum over latent and context keys is the sum over the one and the sum over the other. -/
theorem sum_split {M : Type} [AddCommMonoid M] (f : Fin 8448 → M) :
    ∑ n, f n = ∑ i : Fin 8192, f ⟨i.val, by omega⟩ + ∑ i : Fin 256, f ⟨8192 + i.val, by omega⟩ :=
  Fin.sum_univ_add (a := 8192) (b := 256) f

open Cert.KernelIdeal.Hand (scL scC spec Fin0 sum_mul_real)

/-- The reference's result at an index is the attention's formula. -/
theorem ref_at (A0 : FVec Ideal S52x16384x128 .bf16) (A1 : FVec Ideal S72x16384x128 .bf16) (A2 : FVec Ideal S52x512x128 .bf16) (A3 : FVec Ideal S72x512x128 .bf16) (hf : Fin0 A0 A2) (R : Fin 16384) (C : Fin 2048) :
    outp (sco A0 A2) (vals A1 A3) (ix2 R C) = spec A0 A1 A2 A3 ⟨C.val / 128, by omega⟩ R ⟨C.val % 128, by omega⟩ := by
  have e1 : C.val / 128 / 4 = C.val / 512 := by omega
  have e2 : C.val / 512 * 4 + C.val / 128 % 4 = C.val / 128 := by omega
  have e3 : R.val / 8192 * 8192 + R.val % 8192 = R.val := by omega
  have hlog : Ideal.log (Ideal.ofBits FTy.f32 0x40000000#32) = ((Real.log 2 : ℝ) : EReal) := by
    rw [ofBits_two, Ideal.log_coe, if_neg (by norm_num)]
  refine (outp_at _ _ R C (fun n => if hn : n.val < 8192 then scL A0 ⟨C.val / 128, by omega⟩ R ⟨n.val, hn⟩ else scC A0 A2 ⟨C.val / 128, by omega⟩ R ⟨n.val - 8192, by omega⟩) ?_).trans ?_
  · intro n
    rw [sco_at, hlog, EReal.coe_mul]
    congr 1
    simp only [e2, e3]
    by_cases hn : n.val < 8192
    · simp only [dif_pos hn]
      unfold scL
      simp only [e1]
      rw [← sum_mul_real _ _ (fun e => hf.lat _ _ e (by show 16 + C.val / 512 < 20; omega)) (fun e => hf.lat _ _ e (by show C.val / 128 < 20; omega))]
      exact Finset.sum_congr rfl fun e _ => mul_comm _ _
    · simp only [dif_neg hn]
      unfold scC
      simp only [e1]
      rw [← sum_mul_real _ _ (fun e => hf.ctx _ _ e (by show 16 ≤ 16 + C.val / 512; omega) (by show 16 + C.val / 512 < 20; omega)) (fun e => hf.lat _ _ e (by show C.val / 128 < 20; omega))]
      exact Finset.sum_congr rfl fun e _ => mul_comm _ _
  · unfold spec
    simp only [vals_at, sum_split, e1]
    have hlt : ∀ i : Fin 8192, i.val < 8192 := fun i => i.isLt
    have hge : ∀ i : Fin 256, ¬ 8192 + i.val < 8192 := fun i => by omega
    simp only [dif_pos (hlt _), dif_neg (hge _), Nat.add_sub_cancel_left]

/-- The reference's result is the array of the formula. -/
theorem ref_final (m : (ℓ : Loc nD τ sig) → Buf (Elt Ideal) ℓ) (c : Dev nD) (hf : Fin0 (m ((c.tc : Thread nD τ).loc main_arg0)) (m ((c.tc : Thread nD τ).loc main_arg2)))
    (R : Fin 16384) (C : Fin 2048) :
    Value.res_main_v36 m c (ix2 R C) = spec (m ((c.tc : Thread nD τ).loc main_arg0)) (m ((c.tc : Thread nD τ).loc main_arg1)) (m ((c.tc : Thread nD τ).loc main_arg2)) (m ((c.tc : Thread nD τ).loc main_arg3)) ⟨C.val / 128, by omega⟩ R ⟨C.val % 128, by omega⟩ := by
  rw [res_eq]
  exact ref_at _ _ _ _ hf R C

end Cert.ReferenceIdeal.Hand

end
-- ==== Proof.K2I.Runs.lean ====
/- The feed-forward call: its branch conditions over the steps, and the memrefs of a step. -/
module

public import proofs.«01_k».proof.Proof.Gen.Kernel2Ideal.Frame
public import proofs.«01_k».proof.Proof.Gen.Kernel2Ideal.Loops
public import proofs.«01_k».proof.Proof.Gen.Kernel2Ideal.Skeleton
public import Idealize.ShloMosaic.Lib.Exec
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the output is written back: at the end of each tile's steps. -/
theorem flush0_8 : ∀ t : Fin cfg0.N, (cfg0.win 8).flush t = true ↔ t.val % 32 = 0 ∧ t.val ≠ 0 :=
  (by decide +kernel : ∀ t : Fin grid0.N, win0_8.flush t = true ↔ t.val % 32 = 0 ∧ t.val ≠ 0)

/-! ## The body's branch conditions -/

abbrev cond0_0 (i : grid0.Coords) : Prop := k0_cond1 i = 1#1
theorem hcond0_0 : ∀ t : Fin cfg0.N, cond0_0 (grid0.coords t) ↔ (t.val % 32 = 0 ∧ t.val ≠ 512) :=
  (by decide +kernel : ∀ t : Fin grid0.N, cond0_0 (grid0.coords t) ↔ (t.val % 32 = 0 ∧ t.val ≠ 512))

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (fun t => by
    have ht : t.val < 513 := Nat.lt_of_lt_of_eq t.isLt N_0
    have e0 : (grid0.coords t 0).val = t.val / 1 % 513 := Pipeline.Grid.coords_val t 0 (by decide) rfl
    simp only [cond0_1, e0]
    word_cmp
   : ∀ t : Fin grid0.N, cond0_1 (grid0.coords t) ↔ t.val = 0)

abbrev cond0_2 (i : grid0.Coords) : Prop := k0_cond3 i = 1#1
theorem hcond0_2 : ∀ t : Fin cfg0.N, cond0_2 (grid0.coords t) ↔ t.val % 32 = 1 :=
  (by decide +kernel : ∀ t : Fin grid0.N, cond0_2 (grid0.coords t) ↔ t.val % 32 = 1)

abbrev cond0_3 (i : grid0.Coords) : Prop := k0_cond4 i = 1#1
theorem hcond0_3 : ∀ t : Fin cfg0.N, cond0_3 (grid0.coords t) ↔ (t.val % 32 = 0 ∧ t.val ≠ 0) :=
  (by decide +kernel : ∀ t : Fin grid0.N, cond0_3 (grid0.coords t) ↔ (t.val % 32 = 0 ∧ t.val ≠ 0))

/-! ## The kernel body on any staging memrefs: a subtype the run finds -/

abbrev VO0_8 : View sig .tc .vmem S1024x4096 .f32 := (Memref.whole cc0_stg8_0 : Memref sig .tc .vmem S1024x4096 .f32).view
abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x4096 .f32 := win0_8.stage (cfg0.slots t 8)
abbrev hs0_8 (t : Fin cfg0.N) : (ms0_8 t).IsWhole := hstage0_8 ((cfg0.slots t 8).cast nbuf0_8)
abbrev scM0_0 : Memref sig .tc .vmem S1024x4096 .bf16 := Memref.whole cc0_scratch0
abbrev scM0_1 : Memref sig .tc .vmem S1024x512 .bf16 := Memref.whole cc0_scratch1
abbrev VS0_0 : View sig .tc .vmem S1024x4096 .bf16 := scM0_0.view
abbrev VS0_1 : View sig .tc .vmem S1024x512 .bf16 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Gen

end
-- ==== Proof.K2I.RunA.lean ====
/- What the body stores in the first step (the pieces are those that the run finds). -/
module

public import proofs.«01_k».proof.Proof.K2I.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option backward.proofsInPublic true in
set_option maxHeartbeats 1000000 in
def kernelRun0_A (hc0 : cond0_0 i) (hc1 : cond0_1 i) (hc2 : ¬cond0_2 i) (hc3 : ¬cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_mlp_residual_eq_skeleton]; unfold cc0_mlp_residual_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd0 : ∀ (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole) (k0_h1 : k0_cond1 i = 1#1) (v71 : Vec F S1x4096 .f32) (v73 : Vec F S1x1x1x4096 .f32) (v77 : Vec F S1x1x1x4096 .f32) (X_arg8 : BufTy.Contents (Elt F) arg8.view.ty) (hrdF : BufTy.Contents (Elt F) arg10.view.ty) (hrdB : LoadRect S1024x4096), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st))) = arg10.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 k0_h1 v71 v73 v77 X_arg8 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) S16x4096.size (by sl_kernel_rfl) (hrdB.idx hrdJ))
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel2Ideal.Gen

end
-- ==== Proof.K2I.RunB.lean ====
/- What the body stores in a tile's second step, where its rows are copied into the output (the pieces are those that the run finds). -/
module

public import proofs.«01_k».proof.Proof.K2I.RunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option backward.proofsInPublic true in
set_option maxHeartbeats 1000000 in
def kernelRun0_B (hc0 : ¬cond0_0 i) (hc1 : ¬cond0_1 i) (hc2 : cond0_2 i) (hc3 : ¬cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xs0 : Vec F S1024x4096 .bf16) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_mlp_residual_eq_skeleton]; unfold cc0_mlp_residual_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    have hrd0 : ∀ (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole) (arg0 : BitVec 32) (v1 : BitVec 32) (k0_h3 : k0_cond3 i = 1#1) (X_arg8 : BufTy.Contents (Elt F) arg8.view.ty) (hrdF : BufTy.Contents (Elt F) arg9.view.ty) (hrdB : LoadRect S1024x4096), arg9.view.readAt (Elt F) hrdB (arg9.view.writes (Elt F) hrdF (pb_k0_t2 (F := F) 𝒱 c bd i arg1 harg1 arg2 harg2 arg3 harg3 arg4 harg4 arg5 harg5 arg6 harg6 arg7 harg7 arg8 harg8 arg9 harg9 arg10 harg10 arg11 harg11 arg0 v1 k0_h3 X_arg8 (Scf.trips k0_t2_loop.lb k0_t2_loop.ub k0_t2_loop.st))) = arg9.view.readCov (pb_k0_t2 (F := F) 𝒱 c bd i arg1 harg1 arg2 harg2 arg3 harg3 arg4 harg4 arg5 harg5 arg6 harg6 arg7 harg7 arg8 harg8 arg9 harg9 arg10 harg10 arg11 harg11 arg0 v1 k0_h3 X_arg8 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 arg11 harg11 arg0 v1 k0_h3 X_arg8 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 arg11 harg11 arg0 v1 k0_h3 X_arg8 (Scf.trips k0_t2_loop.lb k0_t2_loop.ub k0_t2_loop.st)) S16x4096.size (by sl_kernel_rfl) (hrdB.idx hrdJ))
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.Kernel2Ideal.Gen

end
-- ==== Proof.K2I.RunC.lean ====
/- What the body stores in a step with no branch taken (the pieces are those that the run finds). -/
module

public import proofs.«01_k».proof.Proof.K2I.RunB

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option maxHeartbeats 1000000 in
def kernelRun0_C (hc0 : ¬cond0_0 i) (hc1 : ¬cond0_1 i) (hc2 : ¬cond0_2 i) (hc3 : ¬cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs0 : Vec F S1024x4096 .bf16) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_mlp_residual_eq_skeleton]; unfold cc0_mlp_residual_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.Kernel2Ideal.Gen

end
-- ==== Proof.K2I.RunD.lean ====
/- What the body stores in a tile's first step after the first tile: the norm of the tile before, the modulation of this one (the pieces are those that the run finds). -/
module

public import proofs.«01_k».proof.Proof.K2I.RunC

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option backward.proofsInPublic true in
set_option maxHeartbeats 1000000 in
def kernelRun0_D (hc0 : cond0_0 i) (hc1 : ¬cond0_1 i) (hc2 : ¬cond0_2 i) (hc3 : cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ (∃ d, owns (c : Thread nD τ) arg10 fullShare d) ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_mlp_residual_eq_skeleton]; unfold cc0_mlp_residual_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs1
    have hrd0 : ∀ (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole) (k0_h1 : k0_cond1 i = 1#1) (v71 : Vec F S1x4096 .f32) (v73 : Vec F S1x1x1x4096 .f32) (v77 : Vec F S1x1x1x4096 .f32) (X_arg8 : BufTy.Contents (Elt F) arg8.view.ty) (hrdF : BufTy.Contents (Elt F) arg10.view.ty) (hrdB : LoadRect S1024x4096), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st))) = arg10.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 k0_h1 v71 v73 v77 X_arg8 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) S16x4096.size (by sl_kernel_rfl) (hrdB.idx hrdJ))
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel2Ideal.Gen

end
-- ==== Proof.K2I.RunE.lean ====
/- What the body stores in the last step: the norm of the last tile (the pieces are those that the run finds). -/
module

public import proofs.«01_k».proof.Proof.K2I.RunD

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option maxHeartbeats 1000000 in
def kernelRun0_E (hc0 : ¬cond0_0 i) (hc1 : ¬cond0_1 i) (hc2 : ¬cond0_2 i) (hc3 : cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs0 : Vec F S1024x4096 .bf16) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_mlp_residual_eq_skeleton]; unfold cc0_mlp_residual_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.Kernel2Ideal.Gen

end
-- ==== Proof.K2I.Frame.lean ====
/- The contents after each step, and the frame of the feed-forward call. -/
module

public import proofs.«01_k».proof.Proof.K2I.RunE
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Cases

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

section CaseA
variable (hc0 : cond0_0 i) (hc1 : cond0_1 i) (hc2 : ¬cond0_2 i) (hc3 : ¬cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32)

theorem cover0_A_8 (y : S1024x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).1, y ∈ pc.1.set :=
  View.cover_of_tiledL _ S1024x4096.size (by sl_kernel_rfl) y

def out0_A_8 : Vec F S1024x4096 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).1)

theorem scover0_A_0 (y : S1024x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).2.1 S16x4096.size (by sl_kernel_rfl) y

def sout0_A_0 : Vec F S1024x4096 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).2.1)

theorem scover0_A_1 (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).2.2.1, y ∈ pc.1.set :=
  View.cover_of_tiledL _ S1024x512.size (by sl_kernel_rfl) y

def sout0_A_1 : Vec F S1024x512 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7).2.2.1)

end CaseA

section CaseB
variable (hc0 : ¬cond0_0 i) (hc1 : ¬cond0_1 i) (hc2 : cond0_2 i) (hc3 : ¬cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xs0 : Vec F S1024x4096 .bf16) (xs1 : Vec F S1024x512 .bf16)

theorem cover0_B_8 (y : S1024x4096.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xs1).1, y ∈ pc.1.set :=
  View.cover_of_tiledBy _ ![16, 4096] (by sl_kernel_rfl) y

def out0_B_8 : Vec F S1024x4096 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xs1).1)

theorem scover0_B_1 (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xs1).2.2.1, y ∈ pc.1.set :=
  View.cover_of_tiledL _ S1024x512.size (by sl_kernel_rfl) y

def sout0_B_1 : Vec F S1024x512 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xs1).2.2.1)

end CaseB

section CaseC
variable (hc0 : ¬cond0_0 i) (hc1 : ¬cond0_1 i) (hc2 : ¬cond0_2 i) (hc3 : ¬cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs0 : Vec F S1024x4096 .bf16) (xs1 : Vec F S1024x512 .bf16)

theorem cover0_C_8 (y : S1024x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).1, y ∈ pc.1.set :=
  View.cover_of_tiledL _ S1024x4096.size (by sl_kernel_rfl) y

def out0_C_8 : Vec F S1024x4096 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).1)

theorem scover0_C_1 (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).2.2.1, y ∈ pc.1.set :=
  View.cover_of_tiledL _ S1024x512.size (by sl_kernel_rfl) y

def sout0_C_1 : Vec F S1024x512 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).2.2.1)

end CaseC

section CaseD
variable (hc0 : cond0_0 i) (hc1 : ¬cond0_1 i) (hc2 : ¬cond0_2 i) (hc3 : cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs1 : Vec F S1024x512 .bf16)

theorem cover0_D_8 (y : S1024x4096.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).1, y ∈ pc.1.set :=
  View.cover_of_tiledBy _ ![16, 4096] (by sl_kernel_rfl) y

def out0_D_8 : Vec F S1024x4096 .f32 :=
  VO0_8.read (Elt F) (VO0_8.writes (Elt F) VO0_8.junk (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).1)

theorem scover0_D_0 (y : S1024x4096.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).2.1 S16x4096.size (by sl_kernel_rfl) y

def sout0_D_0 : Vec F S1024x4096 .bf16 :=
  VS0_0.read (Elt F) (VS0_0.writes (Elt F) VS0_0.junk (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).2.1)

theorem scover0_D_1 (y : S1024x512.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).2.2.1, y ∈ pc.1.set :=
  View.cover_of_tiledL _ S1024x512.size (by sl_kernel_rfl) y

def sout0_D_1 : Vec F S1024x512 .bf16 :=
  VS0_1.read (Elt F) (VS0_1.writes (Elt F) VS0_1.junk (kernelRun0_D c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs1).2.2.1)

end CaseD

section CaseE
variable (hc0 : ¬cond0_0 i) (hc1 : ¬cond0_1 i) (hc2 : ¬cond0_2 i) (hc3 : cond0_3 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs0 : Vec F S1024x4096 .bf16) (xs1 : Vec F S1024x512 .bf16)

theorem cover0_E_8 (y : S1024x4096.Idx) :
    ∃ pc ∈ (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).1, y ∈ pc.1.set :=
  View.cover_of_tiledBy _ ![16, 4096] (by sl_kernel_rfl) y

def out0_E_8 : Vec F S1024x4096 .f32 :=
  VO0_8.read (Elt F) (VO0_8.writes (Elt F) VO0_8.junk (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).1)

theorem scover0_E_1 (y : S1024x512.Idx) :
    ∃ pc ∈ (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).2.2.1, y ∈ pc.1.set :=
  View.cover_of_tiledL _ S1024x512.size (by sl_kernel_rfl) y

def sout0_E_1 : Vec F S1024x512 .bf16 :=
  VS0_1.read (Elt F) (VS0_1.writes (Elt F) VS0_1.junk (kernelRun0_E c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 x7 xo8 xs0 xs1).2.2.1)

end CaseE

/-! ## What the outputs hold after each point -/

end Cases

def stA (c : Dev nD) (t : Fin cfg0.N) (h0 : (t.val % 32 = 0 ∧ t.val ≠ 512)) (h1 : t.val = 0) (h2 : ¬t.val % 32 = 1) (h3 : ¬(t.val % 32 = 0 ∧ t.val ≠ 0)) :
    Vec F S1024x4096 .f32 × Vec F S1024x4096 .bf16 × Vec F S1024x512 .bf16 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t))

def stB (c : Dev nD) (t : Fin cfg0.N) (h0 : ¬(t.val % 32 = 0 ∧ t.val ≠ 512)) (h1 : ¬t.val = 0) (h2 : t.val % 32 = 1) (h3 : ¬(t.val % 32 = 0 ∧ t.val ≠ 0)) (p : Vec F S1024x4096 .f32 × Vec F S1024x4096 .bf16 × Vec F S1024x512 .bf16) :
    Vec F S1024x4096 .f32 × Vec F S1024x4096 .bf16 × Vec F S1024x512 .bf16 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) p.2.1 p.2.2,
    p.2.1,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) p.2.1 p.2.2)

def stC (c : Dev nD) (t : Fin cfg0.N) (h0 : ¬(t.val % 32 = 0 ∧ t.val ≠ 512)) (h1 : ¬t.val = 0) (h2 : ¬t.val % 32 = 1) (h3 : ¬(t.val % 32 = 0 ∧ t.val ≠ 0)) (p : Vec F S1024x4096 .f32 × Vec F S1024x4096 .bf16 × Vec F S1024x512 .bf16) :
    Vec F S1024x4096 .f32 × Vec F S1024x4096 .bf16 × Vec F S1024x512 .bf16 :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) p.1 p.2.1 p.2.2,
    p.2.1,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) p.1 p.2.1 p.2.2)

def stD (c : Dev nD) (t : Fin cfg0.N) (h0 : (t.val % 32 = 0 ∧ t.val ≠ 512)) (h1 : ¬t.val = 0) (h2 : ¬t.val % 32 = 1) (h3 : (t.val % 32 = 0 ∧ t.val ≠ 0)) (p : Vec F S1024x4096 .f32 × Vec F S1024x4096 .bf16 × Vec F S1024x512 .bf16) :
    Vec F S1024x4096 .f32 × Vec F S1024x4096 .bf16 × Vec F S1024x512 .bf16 :=
  (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) p.1 p.2.2,
    sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) p.1 p.2.2,
    sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) p.1 p.2.2)

def stE (c : Dev nD) (t : Fin cfg0.N) (h0 : ¬(t.val % 32 = 0 ∧ t.val ≠ 512)) (h1 : ¬t.val = 0) (h2 : ¬t.val % 32 = 1) (h3 : (t.val % 32 = 0 ∧ t.val ≠ 0)) (p : Vec F S1024x4096 .f32 × Vec F S1024x4096 .bf16 × Vec F S1024x512 .bf16) :
    Vec F S1024x4096 .f32 × Vec F S1024x4096 .bf16 × Vec F S1024x512 .bf16 :=
  (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) p.1 p.2.1 p.2.2,
    p.2.1,
    sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) p.1 p.2.1 p.2.2)

/-- What the output's buffer and the two scratch buffers hold after each step. -/
def outsAt0 (c : Dev nD) : (n : ℕ) → n < cfg0.N → Vec F S1024x4096 .f32 × Vec F S1024x4096 .bf16 × Vec F S1024x512 .bf16
  | 0, hn => stA m c ⟨0, hn⟩ ⟨rfl, by dsimp only; omega⟩ rfl (by dsimp only; omega) (fun h => h.2 rfl)
  | n + 1, hn =>
    if h2 : (n + 1) % 32 = 1 then
      stB m c ⟨n + 1, hn⟩ (by dsimp only; omega) (Nat.succ_ne_zero n) h2 (by dsimp only; omega) (outsAt0 c n (Nat.lt_of_succ_lt hn))
    else if h : (n + 1) % 32 = 0 then
      if h512 : n + 1 = 512 then
        stE m c ⟨n + 1, hn⟩ (fun h' => h'.2 h512) (Nat.succ_ne_zero n) h2 ⟨h, Nat.succ_ne_zero n⟩ (outsAt0 c n (Nat.lt_of_succ_lt hn))
      else
        stD m c ⟨n + 1, hn⟩ ⟨h, h512⟩ (Nat.succ_ne_zero n) h2 ⟨h, Nat.succ_ne_zero n⟩ (outsAt0 c n (Nat.lt_of_succ_lt hn))
    else
      stC m c ⟨n + 1, hn⟩ (fun h' => h h'.1) (Nat.succ_ne_zero n) h2 (fun h' => h h'.1) (outsAt0 c n (Nat.lt_of_succ_lt hn))

theorem outsAt0_A (c : Dev nD) (t : Fin cfg0.N) (h0 : (t.val % 32 = 0 ∧ t.val ≠ 512)) (h1 : t.val = 0) (h2 : ¬t.val % 32 = 1) (h3 : ¬(t.val % 32 = 0 ∧ t.val ≠ 0)) :
    outsAt0 m c t.val t.isLt = stA m c t h0 h1 h2 h3 := by
  obtain ⟨n, hn⟩ := t
  cases n with
  | zero => rfl
  | succ n => exact absurd h1 (Nat.succ_ne_zero n)

theorem outsAt0_B (c : Dev nD) (t : Fin cfg0.N) (h0 : ¬(t.val % 32 = 0 ∧ t.val ≠ 512)) (h1 : ¬t.val = 0) (h2 : t.val % 32 = 1) (h3 : ¬(t.val % 32 = 0 ∧ t.val ≠ 0)) :
    outsAt0 m c t.val t.isLt = stB m c t h0 h1 h2 h3 (outsAt0 m c (t.val - 1) (Nat.lt_of_le_of_lt (Nat.sub_le _ _) t.isLt)) := by
  obtain ⟨n, hn⟩ := t
  cases n with
  | zero => exact absurd rfl h1
  | succ n => exact dif_pos h2

theorem outsAt0_C (c : Dev nD) (t : Fin cfg0.N) (h0 : ¬(t.val % 32 = 0 ∧ t.val ≠ 512)) (h1 : ¬t.val = 0) (h2 : ¬t.val % 32 = 1) (h3 : ¬(t.val % 32 = 0 ∧ t.val ≠ 0)) :
    outsAt0 m c t.val t.isLt = stC m c t h0 h1 h2 h3 (outsAt0 m c (t.val - 1) (Nat.lt_of_le_of_lt (Nat.sub_le _ _) t.isLt)) := by
  obtain ⟨n, hn⟩ := t
  cases n with
  | zero => exact absurd rfl h1
  | succ n => exact (dif_neg h2).trans (dif_neg fun h => h3 ⟨h, h1⟩)

theorem outsAt0_D (c : Dev nD) (t : Fin cfg0.N) (h0 : (t.val % 32 = 0 ∧ t.val ≠ 512)) (h1 : ¬t.val = 0) (h2 : ¬t.val % 32 = 1) (h3 : (t.val % 32 = 0 ∧ t.val ≠ 0)) :
    outsAt0 m c t.val t.isLt = stD m c t h0 h1 h2 h3 (outsAt0 m c (t.val - 1) (Nat.lt_of_le_of_lt (Nat.sub_le _ _) t.isLt)) := by
  obtain ⟨n, hn⟩ := t
  cases n with
  | zero => exact absurd rfl h1
  | succ n => exact (dif_neg h2).trans ((dif_pos h0.1).trans (dif_neg h0.2))

theorem outsAt0_E (c : Dev nD) (t : Fin cfg0.N) (h0 : ¬(t.val % 32 = 0 ∧ t.val ≠ 512)) (h1 : ¬t.val = 0) (h2 : ¬t.val % 32 = 1) (h3 : (t.val % 32 = 0 ∧ t.val ≠ 0)) :
    outsAt0 m c t.val t.isLt = stE m c t h0 h1 h2 h3 (outsAt0 m c (t.val - 1) (Nat.lt_of_le_of_lt (Nat.sub_le _ _) t.isLt)) := by
  obtain ⟨n, hn⟩ := t
  cases n with
  | zero => exact absurd rfl h1
  | succ n => exact (dif_neg h2).trans ((dif_pos h3.1).trans (dif_pos (not_not.1 fun h => h0 ⟨h3.1, h⟩)))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8_C (c : Dev nD) (t : Fin cfg0.N) (h0 : ¬(t.val % 32 = 0 ∧ t.val ≠ 512)) (h1 : ¬t.val = 0) (h2 : ¬t.val % 32 = 1) (h3 : ¬(t.val % 32 = 0 ∧ t.val ≠ 0)) (d) :
    (dats m 0 c).before 8 t d = (outsAt0 m c (t.val - 1) (Nat.lt_of_le_of_lt (Nat.sub_le _ _) t.isLt)).1 := by
  have hN : t.val < 513 := lt_of_lt_of_eq t.isLt (show cfg0.N = 513 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_8_D (c : Dev nD) (t : Fin cfg0.N) (h0 : (t.val % 32 = 0 ∧ t.val ≠ 512)) (h1 : ¬t.val = 0) (h2 : ¬t.val % 32 = 1) (h3 : (t.val % 32 = 0 ∧ t.val ≠ 0)) (d) :
    (dats m 0 c).before 8 t d = (outsAt0 m c (t.val - 1) (Nat.lt_of_le_of_lt (Nat.sub_le _ _) t.isLt)).1 := by
  have hN : t.val < 513 := lt_of_lt_of_eq t.isLt (show cfg0.N = 513 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_8_E (c : Dev nD) (t : Fin cfg0.N) (h0 : ¬(t.val % 32 = 0 ∧ t.val ≠ 512)) (h1 : ¬t.val = 0) (h2 : ¬t.val % 32 = 1) (h3 : (t.val % 32 = 0 ∧ t.val ≠ 0)) (d) :
    (dats m 0 c).before 8 t d = (outsAt0 m c (t.val - 1) (Nat.lt_of_le_of_lt (Nat.sub_le _ _) t.isLt)).1 := by
  have hN : t.val < 513 := lt_of_lt_of_eq t.isLt (show cfg0.N = 513 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 20000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 513 := lt_of_lt_of_eq t.isLt (show cfg0.N = 513 from N_0)
  by_cases h0 : (t.val % 32 = 0 ∧ t.val ≠ 512)
  · by_cases h1 : t.val = 0
    · by_cases h2 : t.val % 32 = 1
      · exfalso; omega
      · by_cases h3 : (t.val % 32 = 0 ∧ t.val ≠ 0)
        · exfalso; omega
        · by_cases hz : t.val = 0
          · rw [PhiS_castSucc m c t, PhiS_zero m c _ _ hz, PhiA0_eq]
            rw [outsAt0_A m c t h0 h1 h2 h3]
            unfold stA out0_A_8 sout0_A_1 sout0_A_0; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexact HS0
            isplitl [HS1]; · iexact HS1
            iintro ⟨H0, H1, H2, H3, H4, H5, H6, H7, ⟨%e8, H8⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _)
          · exfalso; have hN : t.val < 513 := lt_of_lt_of_eq t.isLt (show cfg0.N = 513 from N_0); omega
    · by_cases h2 : t.val % 32 = 1
      · exfalso; omega
      · by_cases h3 : (t.val % 32 = 0 ∧ t.val ≠ 0)
        · by_cases hz : t.val = 0
          · exfalso; have hN : t.val < 513 := lt_of_lt_of_eq t.isLt (show cfg0.N = 513 from N_0); omega
          · rw [PhiS_castSucc m c t, PhiS_pos m c _ _ hz]
            rw [outsAt0_D m c t h0 h1 h2 h3]
            simp only [before0_8_D m c t h0 h1 h2 h3]
            unfold stD out0_D_8 sout0_D_1 sout0_D_0; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_D c (grid0.coords t) _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [HS0]; · iexists _; iexact HS0
            isplitl [HS1]; · iexact HS1
            iintro ⟨H0, H1, H2, H3, H4, H5, H6, H7, ⟨%e8, H8⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_D_8 c _ _ _ _ _ _ _ _ _ _ _ _ _ _ _ _ _ _ _ _ _ _ _ _ _ _ _ _ _ _ _ _ _ _ _ _ _)
        · exfalso; omega
  · by_cases h1 : t.val = 0
    · exfalso; omega
    · by_cases h2 : t.val % 32 = 1
      · by_cases h3 : (t.val % 32 = 0 ∧ t.val ≠ 0)
        · exfalso; omega
        · by_cases hz : t.val = 0
          · exfalso; have hN : t.val < 513 := lt_of_lt_of_eq t.isLt (show cfg0.N = 513 from N_0); omega
          · rw [PhiS_castSucc m c t, PhiS_pos m c _ _ hz]
            rw [outsAt0_B m c t h0 h1 h2 h3]
            unfold stB out0_B_8 sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexact HS0
            isplitl [HS1]; · iexact HS1
            iintro ⟨H0, H1, H2, H3, H4, H5, H6, H7, ⟨%e8, H8⟩, HS0, ⟨%es1, HS1⟩⟩
            isplitl [HS0 HS1 Hg]
            · isplitl [HS0 HS1]
              · isplitl [HS0]
                · iexact HS0
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _)
      · by_cases h3 : (t.val % 32 = 0 ∧ t.val ≠ 0)
        · by_cases hz : t.val = 0
          · exfalso; have hN : t.val < 513 := lt_of_lt_of_eq t.isLt (show cfg0.N = 513 from N_0); omega
          · rw [PhiS_castSucc m c t, PhiS_pos m c _ _ hz]
            rw [outsAt0_E m c t h0 h1 h2 h3]
            simp only [before0_8_E m c t h0 h1 h2 h3]
            unfold stE out0_E_8 sout0_E_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_E c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _ _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [HS0]; · iexact HS0
            isplitl [HS1]; · iexact HS1
            iintro ⟨H0, H1, H2, H3, H4, H5, H6, H7, ⟨%e8, H8⟩, HS0, ⟨%es1, HS1⟩⟩
            isplitl [HS0 HS1 Hg]
            · isplitl [HS0 HS1]
              · isplitl [HS0]
                · iexact HS0
                unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_E_8 c _ _ _ _ _ _ _ _ _ _ _ _ _ _ _ _ _ _ _ _ _ _ _ _ _ _ _ _ _ _ _ _ _ _ _ _ _ _)
        · by_cases hz : t.val = 0
          · exfalso; have hN : t.val < 513 := lt_of_lt_of_eq t.isLt (show cfg0.N = 513 from N_0); omega
          · rw [PhiS_castSucc m c t, PhiS_pos m c _ _ hz]
            rw [outsAt0_C m c t h0 h1 h2 h3]
            simp only [before0_8_C m c t h0 h1 h2 h3]
            unfold stC out0_C_8 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_C c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _ _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [HS0]; · iexact HS0
            isplitl [HS1]; · iexact HS1
            iintro ⟨H0, H1, H2, H3, H4, H5, H6, H7, ⟨%e8, H8⟩, HS0, ⟨%es1, HS1⟩⟩
            isplitl [HS0 HS1 Hg]
            · isplitl [HS0 HS1]
              · isplitl [HS0]
                · iexact HS0
                unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 513 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Gen

end
-- ==== Proof.Mlp.Pays.lean ====
/- The stored vectors of the feed-forward kernel at an index. -/
module

public import proofs.«01_k».proof.Proof.Gen.Kernel2Ideal.Skeleton
public import Idealize.ShloMosaic.Lib.Pipeline.ValueKit
public import Idealize.ShloMosaic.Lib.Pointwise

@[expose] public section

set_option maxRecDepth 16384

noncomputable section

namespace Cert.Kernel2Ideal.Hand

open Cert.Kernel2Ideal Cert.Kernel2Ideal.Gen Idealize.ShloMosaic Idealize.ShloMosaic.TcCoe

/-- The reciprocal root of the mean of 4096 squares whose sum is `s`. -/
def rsq (s : EReal) : EReal := Ideal.rsqrt (Ideal.div s (Ideal.ofBits .f32 0x45800000#32) + Ideal.ofBits .f32 0x358637BD#32)

/-- A row over the root of its mean square, times a gain. -/
def nrm (x g : Fin 4096 → EReal) (d : Fin 4096) : EReal := x d * rsq (∑ k, x k * x k) * g d

/-- … scaled and shifted. -/
def mdl (x g sc sh : Fin 4096 → EReal) (d : Fin 4096) : EReal := nrm x g d * (1 + sc d) + sh d

theorem pay1_at (g : Vec Ideal S1x4096 .f32) (x : Vec Ideal S16x4096 .f32) (r : Fin 16) (d : Fin 4096) :
    k0_pay1 g x (ix2 r d) = nrm (fun k => x (ix2 r k)) (fun k => g (ix2 0 k)) d := by
  pointwise [k0_pay1]
  rfl

theorem pay2_at (g : Vec Ideal S1x4096 .f32) (sc sh : Vec Ideal S1x1x1x4096 .f32) (x : Vec Ideal S16x4096 .f32) (r : Fin 16) (d : Fin 4096) :
    k0_pay2 g sc sh x (ix2 r d) = mdl (fun k => x (ix2 r k)) (fun k => g (ix2 0 k)) (fun k => sc (ix4 0 0 0 k)) (fun k => sh (ix4 0 0 0 k)) d := by
  pointwise [k0_pay2]
  rfl

theorem pay5_at (g : Vec Ideal S1x1x1x4096 .f32) (x : Vec Ideal S1024x512 .bf16) (w : Vec Ideal S512x4096 .bf16) (o : Vec Ideal S1024x4096 .f32) (r : Fin 1024) (d : Fin 4096) :
    k0_pay5 g x w o (ix2 r d) = g (ix4 0 0 0 d) * (∑ n : Fin 512, x (ix2 r n) * w (ix2 n d)) + o (ix2 r d) := by
  pointwise [k0_pay5]

theorem pay6_at (x : Vec Ideal S1024x4096 .bf16) (w : Vec Ideal S4096x512 .bf16) (r : Fin 1024) (n : Fin 512) :
    k0_pay6 x w (ix2 r n) = max (∑ k : Fin 4096, x (ix2 r k) * w (ix2 k n)) 0 * max (∑ k : Fin 4096, x (ix2 r k) * w (ix2 k n)) 0 := by
  pointwise [k0_pay6]

end Cert.Kernel2Ideal.Hand

end
-- ==== Proof.Mlp.Loops.lean ====
/- What the three row loops of the feed-forward kernel leave, each as one function of the buffer's index. -/
module

public import proofs.«01_k».proof.Proof.Mlp.Pays
public import proofs.«01_k».proof.Proof.K2I.Frame
public import Idealize.ShloMosaic.Lib.Pipeline.ValueKit
public import Idealize.ShloMosaic.Lib.Pipeline.ValueKit.Held
public import Idealize.ShloMosaic.Lib.Pipeline.ReadBack
public import Idealize.ShloMosaic.Lib.Pipeline.CanonAppend
public import Idealize.ShloMosaic.Lib.WritesUnit

@[expose] public section

set_option maxRecDepth 16384

noncomputable section

namespace Cert.Kernel2Ideal.Hand

open Cert.Kernel2Ideal Cert.Kernel2Ideal.Gen Idealize.ShloMosaic Idealize.ShloMosaic.TcCoe

/-- A block's rows, each normed. -/
def nrmB (o : Vec Ideal S1024x4096 .f32) (g : Vec Ideal S1x4096 .f32) : Vec Ideal S1024x4096 .f32 := fun y =>
  nrm (fun k => o (ix2 ⟨(y 0).val, (y 0).isLt⟩ k)) (fun k => g (ix2 0 k)) ⟨(y 1).val, (y 1).isLt⟩

/-- A block's rows, each normed, scaled and shifted. -/
def mdlB (h : Vec Ideal S1024x4096 .f32) (g : Vec Ideal S1x4096 .f32) (sc sh : Vec Ideal S1x1x1x4096 .f32) : Vec Ideal S1024x4096 .bf16 := fun y =>
  mdl (fun k => h (ix2 ⟨(y 0).val, (y 0).isLt⟩ k)) (fun k => g (ix2 0 k)) (fun k => sc (ix4 0 0 0 k)) (fun k => sh (ix4 0 0 0 k)) ⟨(y 1).val, (y 1).isLt⟩

theorem off1 : ∀ k : Fin k0_t1_loop.trips, k0_off1 k = ![k.val * 16, 0] := by decide +kernel
theorem off2 : ∀ k : Fin k0_t2_loop.trips, k0_off2 k = ![k.val * 16, 0] := by decide +kernel
theorem off3 : ∀ k : Fin k0_t3_loop.trips, k0_off3 k = ![k.val * 16, 0] := by decide +kernel

/-- The place in the block of an index of sixteen of its rows. -/
theorem emb_val (k : ℕ) (o : Fin 2 → ℕ) (h : o = ![k * 16, 0]) (inb) (x : (Rect.unit (s := S1024x4096) o ![16, 4096] inb).shape.Idx) :
    (((Rect.unit (s := S1024x4096) o ![16, 4096] inb).emb x) 0 : ℕ) = k * 16 + (x 0).val
      ∧ (((Rect.unit (s := S1024x4096) o ![16, 4096] inb).emb x) 1 : ℕ) = (x 1).val := by
  subst h
  have e : ∀ a, (((Rect.unit (s := S1024x4096) ![k * 16, 0] ![16, 4096] inb).emb x) a : ℕ) = (![k * 16, 0] : Fin 2 → ℕ) a + x a :=
    fun a => Rect.idx_unit_val _ _ _ x a
  exact ⟨e 0, (e 1).trans (Nat.zero_add _)⟩

/-- Sixteen rows modulated are those rows of the block modulated. -/
theorem mdl_piece (X : Vec Ideal S1024x4096 .f32) (g : Vec Ideal S1x4096 .f32) (sc sh : Vec Ideal S1x1x1x4096 .f32) (k : ℕ) (o : Fin 2 → ℕ) (h : o = ![k * 16, 0])
    (inb inb') (x : (Rect.unit (s := S1024x4096) o ![16, 4096] inb).shape.Idx) :
    k0_pay2 (F := Ideal) g sc sh (View.ld X (Rect.unit (s := S1024x4096) o ![16, 4096] inb')) x
      = mdlB X g sc sh ((Rect.unit (s := S1024x4096) o ![16, 4096] inb).emb x) := by
  have hx0 : (x 0).val < 16 := (x 0).isLt
  have hx1 : (x 1).val < 4096 := (x 1).isLt
  obtain ⟨e0, e1⟩ := emb_val k o h inb x
  refine (congrArg (k0_pay2 (F := Ideal) g sc sh _) (show x = ix2 (⟨(x 0).val, hx0⟩ : Fin 16) (⟨(x 1).val, hx1⟩ : Fin 4096) from funext fun a => by fin_cases a <;> rfl)).trans ?_
  refine (pay2_at _ _ _ _ _ _).trans ?_
  unfold mdlB
  refine congr (congrArg (fun f => mdl f _ _ _) (funext fun j => ?_)) (Fin.ext e1.symm)
  subst h
  refine View.ld_unit_apply_of _ _ _ _ _ _ ?_
  intro a
  fin_cases a
  · exact e0
  · exact (Nat.zero_add _).symm

/-- Sixteen rows are those rows of the block. -/
theorem copy_piece (X : Vec Ideal S1024x4096 .f32) (o : Fin 2 → ℕ) (inb inb') (x : (Rect.unit (s := S1024x4096) o ![16, 4096] inb).shape.Idx) :
    View.ld X (Rect.unit (s := S1024x4096) o ![16, 4096] inb') x = X ((Rect.unit (s := S1024x4096) o ![16, 4096] inb).emb x) := rfl

/-- Sixteen rows normed are those rows of the block normed. -/
theorem nrm_piece (X : Vec Ideal S1024x4096 .f32) (g : Vec Ideal S1x4096 .f32) (k : ℕ) (o : Fin 2 → ℕ) (h : o = ![k * 16, 0]) (inb)
    (R : Vec Ideal S16x4096 .f32) (hR : ∀ (r : Fin 16) (d : Fin 4096) (hr : k * 16 + r.val < 1024), R (ix2 r d) = X (ix2 ⟨k * 16 + r.val, hr⟩ d))
    (x : (Rect.unit (s := S1024x4096) o ![16, 4096] inb).shape.Idx) :
    k0_pay1 (F := Ideal) g R x = nrmB X g ((Rect.unit (s := S1024x4096) o ![16, 4096] inb).emb x) := by
  have hx0 : (x 0).val < 16 := (x 0).isLt
  have hx1 : (x 1).val < 4096 := (x 1).isLt
  obtain ⟨e0, e1⟩ := emb_val k o h inb x
  refine (congrArg (k0_pay1 (F := Ideal) g _) (show x = ix2 (⟨(x 0).val, hx0⟩ : Fin 16) (⟨(x 1).val, hx1⟩ : Fin 4096) from funext fun a => by fin_cases a <;> rfl)).trans ?_
  refine (pay1_at _ _ _ _).trans ?_
  unfold nrmB
  have hb := ((Rect.unit (s := S1024x4096) o ![16, 4096] inb).emb x 0).isLt
  refine congr (congrArg (fun f => nrm f _) (funext fun j => ?_)) (Fin.ext e1.symm)
  refine (hR _ _ (lt_of_eq_of_lt e0.symm hb)).trans ?_
  exact congrArg X (congrArg (fun r => ix2 r j) (Fin.ext e0.symm))

section
variable (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

theorem t1_pieces (h1 : k0_cond1 i = 1#1) (g : Vec Ideal S1x4096 .f32) (sc sh : Vec Ideal S1x1x1x4096 .f32) (X : Vec Ideal S1024x4096 .f32) (n : ℕ) (hn : n ≤ k0_t1_loop.trips) :
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) n, ∀ x : p.1.shape.Idx, p.2 x = mdlB X g sc sh (p.1.emb x) := by
  induction n with
  | zero => intro p hp; rw [pb_k0_t1.eq_1] at hp; simp at hp
  | succ n ih =>
    have ht : ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) ⟨n, hn⟩, ∀ x : p.1.shape.Idx, p.2 x = mdlB X g sc sh (p.1.emb x) := by
      unfold tripL_k0_t1 trip_k0_t1
      dsimp only
      frame_out
      intro p hp
      obtain rfl := List.mem_singleton.mp hp
      intro x
      exact mdl_piece X g sc sh n _ (off1 ⟨n, hn⟩) (k0_off1_inb i ⟨n, hn⟩ h1) (k0_off1_inb i ⟨n, hn⟩ h1) x
    intro p hp
    rw [pb_k0_t1_succ 𝒱 c bd i arg1 harg1 arg2 harg2 arg3 harg3 arg4 harg4 arg5 harg5 arg6 harg6 arg7 harg7 arg8 harg8 arg9 harg9 arg10 harg10 arg11 harg11 h1 _ _ _ _ ⟨n, hn⟩] at hp
    rcases List.mem_append.mp hp with h | h
    · exact ht p h
    · exact ih (Nat.le_of_succ_le hn) p h

/-- The modulated rows after their loop. -/
theorem t1_canon (h1 : k0_cond1 i = 1#1) (g : Vec Ideal S1x4096 .f32) (sc sh : Vec Ideal S1x1x1x4096 .f32) (X : Vec Ideal S1024x4096 .f32) :
    View.canon (pb_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) (Scf.trips (0#32) (Scalar.addi 0#32 64#32) 1#32)) = mdlB X g sc sh := by
  funext y
  exact View.canon_apply_of_pieces (mdlB X g sc sh) _ (t1_pieces 𝒱 c bd i arg1 harg1 arg2 harg2 arg3 harg3 arg4 harg4 arg5 harg5 arg6 harg6 arg7 harg7 arg8 harg8 arg9 harg9 arg10 harg10 arg11 harg11 h1 g sc sh X _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) (Scf.trips k0_t1_loop.lb k0_t1_loop.ub k0_t1_loop.st)) S16x4096.size (by sl_kernel_rfl) y)

theorem t2_pieces (a0 v1 : BitVec 32) (h3 : k0_cond3 i = 1#1) (X : Vec Ideal S1024x4096 .f32) (n : ℕ) (hn : n ≤ k0_t2_loop.trips) :
    ∀ p ∈ pb_k0_t2 (F := Ideal) 𝒱 c bd i arg1 harg1 arg2 harg2 arg3 harg3 arg4 harg4 arg5 harg5 arg6 harg6 arg7 harg7 arg8 harg8 arg9 harg9 arg10 harg10 arg11 harg11 a0 v1 h3 (harg8.unread X) n, ∀ x : p.1.shape.Idx, p.2 x = X (p.1.emb x) := by
  induction n with
  | zero => intro p hp; rw [pb_k0_t2.eq_1] at hp; simp at hp
  | succ n ih =>
    have ht : ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 a0 v1 h3 (harg8.unread X) ⟨n, hn⟩, ∀ x : p.1.shape.Idx, p.2 x = X (p.1.emb x) := by
      unfold tripL_k0_t2 trip_k0_t2
      dsimp only
      frame_out
      intro p hp
      obtain rfl := List.mem_singleton.mp hp
      intro x
      exact copy_piece X _ (k0_off2_inb i ⟨n, hn⟩ h3) (k0_off2_inb i ⟨n, hn⟩ h3) x
    intro p hp
    rw [pb_k0_t2_succ 𝒱 c bd i arg1 harg1 arg2 harg2 arg3 harg3 arg4 harg4 arg5 harg5 arg6 harg6 arg7 harg7 arg8 harg8 arg9 harg9 arg10 harg10 arg11 harg11 a0 v1 h3 _ ⟨n, hn⟩] at hp
    rcases List.mem_append.mp hp with h | h
    · exact ht p h
    · exact ih (Nat.le_of_succ_le hn) p h

/-- The copied rows after their loop. -/
theorem t2_canon (a0 v1 : BitVec 32) (h3 : k0_cond3 i = 1#1) (X : Vec Ideal S1024x4096 .f32) :
    View.canon (pb_k0_t2 (F := Ideal) 𝒱 c bd i arg1 harg1 arg2 harg2 arg3 harg3 arg4 harg4 arg5 harg5 arg6 harg6 arg7 harg7 arg8 harg8 arg9 harg9 arg10 harg10 arg11 harg11 a0 v1 h3 (harg8.unread X) (Scf.trips (0#32) (Scalar.addi 0#32 64#32) 1#32)) = X := by
  funext y
  exact View.canon_apply_of_pieces X _ (t2_pieces 𝒱 c bd i arg1 harg1 arg2 harg2 arg3 harg3 arg4 harg4 arg5 harg5 arg6 harg6 arg7 harg7 arg8 harg8 arg9 harg9 arg10 harg10 arg11 harg11 a0 v1 h3 X _ le_rfl) y
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 a0 v1 h3 (harg8.unread X) (Scf.trips k0_t2_loop.lb k0_t2_loop.ub k0_t2_loop.st)) S16x4096.size (by sl_kernel_rfl) y)

/-- The norm's loop: its stores so far are rows of the normed block, and the rows to come are as they were. -/
theorem t3_pieces (h4 : k0_cond4 i = 1#1) (g : Vec Ideal S1x4096 .f32) (f : BufTy.Contents (Elt Ideal) arg9.view.ty) (n : ℕ) (hn : n ≤ k0_t3_loop.trips) :
    (∀ p ∈ pb_k0_t3 (F := Ideal) 𝒱 c bd i arg1 harg1 arg2 harg2 arg3 harg3 arg4 harg4 arg5 harg5 arg6 harg6 arg7 harg7 arg8 harg8 arg9 harg9 arg10 harg10 arg11 harg11 h4 g f n, ∀ x : p.1.shape.Idx, p.2 x = nrmB (arg9.view.read (Elt Ideal) f) g (p.1.emb x))
      ∧ ∀ y : S1024x4096.Idx, n * 16 ≤ (y 0).val →
        arg9.view.read (Elt Ideal) (arg9.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 h4 g f n)) y = arg9.view.read (Elt Ideal) f y := by
  induction n with
  | zero =>
    constructor
    · intro p hp; rw [pb_k0_t3.eq_1] at hp; simp at hp
    · intro y _; rw [pb_k0_t3.eq_1]; rfl
  | succ n ih =>
    obtain ⟨ih1, ih2⟩ := ih (Nat.le_of_succ_le hn)
    rw [pb_k0_t3_succ 𝒱 c bd i arg1 harg1 arg2 harg2 arg3 harg3 arg4 harg4 arg5 harg5 arg6 harg6 arg7 harg7 arg8 harg8 arg9 harg9 arg10 harg10 arg11 harg11 h4 _ _ ⟨n, hn⟩]
    unfold tripL_k0_t3 trip_k0_t3
    dsimp only
    constructor
    · intro p hp
      rcases List.mem_append.mp hp with h | h
      · obtain rfl := List.mem_singleton.mp h
        intro x
        refine nrm_piece (arg9.view.read (Elt Ideal) f) g n _ (off3 ⟨n, hn⟩) (k0_off3_inb i ⟨n, hn⟩ h4) _ ?_ x
        intro r d hr
        obtain ⟨e0, e1⟩ := emb_val n _ (off3 ⟨n, hn⟩) (k0_off3_inb i ⟨n, hn⟩ h4) (ix2 r d)
        refine (ih2 _ ?_).trans ?_
        · exact (Nat.le_add_right _ _).trans (le_of_eq e0.symm)
        · refine congrArg _ (funext fun a => ?_)
          fin_cases a
          · exact Fin.ext e0
          · exact Fin.ext e1
      · exact ih1 p h
    · intro y hy
      refine (View.read_writes_cons_rows_of_not_mem arg9.view f _ _ _ y (off3 ⟨n, hn⟩) (W := 16) rfl (Or.inr ?_)).trans (ih2 y ?_)
      · dsimp only; omega
      · omega

/-- The output's block after the norm's loop, whatever was stored before. -/
theorem t3_canon (h4 : k0_cond4 i = 1#1) (g : Vec Ideal S1x4096 .f32) (f : BufTy.Contents (Elt Ideal) arg9.view.ty) (L) :
    View.canon (pb_k0_t3 (F := Ideal) 𝒱 c bd i arg1 harg1 arg2 harg2 arg3 harg3 arg4 harg4 arg5 harg5 arg6 harg6 arg7 harg7 arg8 harg8 arg9 harg9 arg10 harg10 arg11 harg11 h4 g f (Scf.trips (0#32) (Scalar.addi 0#32 64#32) 1#32) ++ L) = nrmB (arg9.view.read (Elt Ideal) f) g := by
  funext y
  exact View.canon_append_of_pieces (nrmB (arg9.view.read (Elt Ideal) f) g) L _ (t3_pieces 𝒱 c bd i arg1 harg1 arg2 harg2 arg3 harg3 arg4 harg4 arg5 harg5 arg6 harg6 arg7 harg7 arg8 harg8 arg9 harg9 arg10 harg10 arg11 harg11 h4 g f _ le_rfl).1 y
    (View.cover_of_tiledL (pb_k0_t3 (F := Ideal) 𝒱 c bd i arg1 harg1 arg2 harg2 arg3 harg3 arg4 harg4 arg5 harg5 arg6 harg6 arg7 harg7 arg8 harg8 arg9 harg9 arg10 harg10 arg11 harg11 h4 g f (Scf.trips k0_t3_loop.lb k0_t3_loop.ub k0_t3_loop.st)) S16x4096.size (by sl_kernel_rfl) y)
end

end Cert.Kernel2Ideal.Hand

end
-- ==== Proof.Mlp.Steps.lean ====
/- What each step of the feed-forward kernel leaves: the output's block, the modulated rows and the hidden block. -/
module

public import proofs.«01_k».proof.Proof.Mlp.Loops
public import Idealize.ShloMosaic.Lib.VecWindow

@[expose] public section

set_option maxRecDepth 16384
set_option maxHeartbeats 1000000

noncomputable section

namespace Cert.Kernel2Ideal.Hand

open Cert.Kernel2Ideal Cert.Kernel2Ideal.Gen Idealize.ShloMosaic Idealize.ShloMosaic.TcCoe

/-- A load of a whole block from a buffer some writes have filled is what they leave. -/
theorem cov_full {sg : RefSig} {κ : Kind} {sp : Space} {e : EltTy} (v : View sg κ sp S1024x4096 e) (L : List (View.Piece (Elt Ideal) S1024x4096 e)) (inb) :
    v.readCov L (Rect.unit (s := S1024x4096) ![0, 0] ![1024, 4096] inb).toLoadRect = View.canon L := by
  rw [View.readCov_eq_canon']
  funext y
  refine congrArg (View.canon L) (funext fun a => Fin.ext ?_)
  refine (Rect.idx_unit_val _ _ _ y a).trans ?_
  fin_cases a <;> exact Nat.zero_add _

/-- A block written whole reads as what was written. -/
theorem read_one {sg : RefSig} {κ : Kind} {sp : Space} (v : View sg κ sp S1024x4096 .f32) (f : v.ty.Contents (Elt Ideal)) (Z : Vec Ideal S1024x4096 .f32) (inb) :
    v.read (Elt Ideal) (v.writes (Elt Ideal) f [⟨Rect.unit (s := S1024x4096) ![0, 0] ![1024, 4096] inb, Z⟩]) = Z :=
  View.read_writes_full v f inb Z []

variable (m : (ℓ : Loc nD τ sig) → Buf (Elt Ideal) ℓ)

/-- The step's rows, modulated. -/
def xsB (c : Dev nD) (t : Fin cfg0.N) : Vec Ideal S1024x4096 .bf16 := mdlB (iblk m c 7 t) (iblk m c 0 t) (iblk m c 2 t) (iblk m c 1 t)

/-- The step before. -/
def prev (c : Dev nD) (t : Fin cfg0.N) : Vec Ideal S1024x4096 .f32 × Vec Ideal S1024x4096 .bf16 × Vec Ideal S1024x512 .bf16 :=
  outsAt0 m c (t.val - 1) (Nat.lt_of_le_of_lt (Nat.sub_le _ _) t.isLt)

/-- The first step of a tile modulates its rows and computes its first hidden block. -/
theorem st_first (c : Dev nD) (t : Fin cfg0.N) (h : t.val % 32 = 0) (h' : t.val ≠ 512) :
    (outsAt0 m c t.val t.isLt).2.1 = xsB m c t ∧ (outsAt0 m c t.val t.isLt).2.2 = k0_pay6 (xsB m c t) (iblk m c 4 t) := by
  by_cases hz : t.val = 0
  · rw [outsAt0_A m c t ⟨h, h'⟩ hz (by omega) (by omega)]
    constructor
    · funext y
      dsimp only [stA]; frame_out
      rw [t1_canon]; rfl
    · funext y
      dsimp only [stA]; frame_out
      rw [cov_full, t1_canon]; rfl
  · rw [outsAt0_D m c t ⟨h, h'⟩ hz (by omega) ⟨h, hz⟩]
    constructor
    · funext y
      dsimp only [stD]; frame_out
      rw [t1_canon]; rfl
    · funext y
      dsimp only [stD]; frame_out
      rw [cov_full, t1_canon]; rfl

/-- The later steps keep the rows -/
theorem st_keep (c : Dev nD) (t : Fin cfg0.N) (h : ¬t.val % 32 = 0) : (outsAt0 m c t.val t.isLt).2.1 = (prev m c t).2.1 := by
  by_cases h1 : t.val % 32 = 1
  · rw [outsAt0_B m c t (by omega) (by omega) h1 (by omega)]
    dsimp only [stB, prev]
  · rw [outsAt0_C m c t (by omega) (by omega) h1 (by omega)]
    dsimp only [stC, prev]

/-- … and compute their own hidden blocks. -/
theorem st_hid (c : Dev nD) (t : Fin cfg0.N) (h : ¬t.val % 32 = 0) : (outsAt0 m c t.val t.isLt).2.2 = k0_pay6 (prev m c t).2.1 (iblk m c 4 t) := by
  by_cases h1 : t.val % 32 = 1
  · rw [outsAt0_B m c t (by omega) (by omega) h1 (by omega)]
    funext y
    dsimp only [stB]; frame_out
    simp only [read_unread_whole]; rfl
  · rw [outsAt0_C m c t (by omega) (by omega) h1 (by omega)]
    funext y
    dsimp only [stC]; frame_out
    simp only [read_unread_whole]; rfl

/-- The output's block: begun from the residual's rows, -/
theorem out_first (c : Dev nD) (t : Fin cfg0.N) (h : t.val % 32 = 1) :
    (outsAt0 m c t.val t.isLt).1 = k0_pay5 (iblk m c 3 t) (prev m c t).2.2 (iblk m c 5 t) (iblk m c 7 t) := by
  rw [outsAt0_B m c t (by omega) (by omega) h (by omega)]
  funext y
  dsimp only [stB]; frame_out
  rw [cov_full, t2_canon]
  simp only [read_unread_whole]; rfl

/-- … added to, -/
theorem out_mid (c : Dev nD) (t : Fin cfg0.N) (h : ¬t.val % 32 = 0) (h' : ¬t.val % 32 = 1) :
    (outsAt0 m c t.val t.isLt).1 = k0_pay5 (iblk m c 3 t) (prev m c t).2.2 (iblk m c 5 t) (prev m c t).1 := by
  rw [outsAt0_C m c t (by omega) (by omega) h' (by omega)]
  funext y
  dsimp only [stC]; frame_out
  simp only [read_unread_whole]; rfl

/-- … and, at the last, normed. -/
theorem out_last (c : Dev nD) (t : Fin cfg0.N) (h : t.val % 32 = 0) (hz : t.val ≠ 0) :
    (outsAt0 m c t.val t.isLt).1 = nrmB (k0_pay5 (iblk m c 3 t) (prev m c t).2.2 (iblk m c 5 t) (prev m c t).1) (iblk m c 6 t) := by
  by_cases h' : t.val = 512
  · rw [outsAt0_E m c t (by omega) hz (by omega) ⟨h, hz⟩]
    funext y
    dsimp only [stE]; frame_out
    rw [t3_canon, read_one]
    simp only [read_unread_whole]; rfl
  · rw [outsAt0_D m c t ⟨h, h'⟩ hz (by omega) ⟨h, hz⟩]
    funext y
    dsimp only [stD]; frame_out
    rw [t3_canon, read_one]
    simp only [read_unread_whole]; rfl

end Cert.Kernel2Ideal.Hand

end
-- ==== Proof.Mlp.Real.lean ====
/- The modulated rows, the hidden layer and its products are real numbers, whatever the residual's rows are. -/
module

public import proofs.«01_k».proof.Proof.Mlp.Pays
public import proofs.«01_k».proof.Proof.Soft

@[expose] public section

noncomputable section

namespace Cert.Kernel2Ideal.Hand

open Idealize.ShloMosaic

/-- A value is a real number. -/
def Rl (x : EReal) : Prop := ∃ r : ℝ, x = (r : EReal)

theorem Rl.add {x y : EReal} (hx : Rl x) (hy : Rl y) : Rl (x + y) := by
  obtain ⟨a, rfl⟩ := hx; obtain ⟨b, rfl⟩ := hy; exact ⟨a + b, (EReal.coe_add a b).symm⟩

theorem Rl.mul {x y : EReal} (hx : Rl x) (hy : Rl y) : Rl (x * y) := by
  obtain ⟨a, rfl⟩ := hx; obtain ⟨b, rfl⟩ := hy; exact ⟨a * b, (EReal.coe_mul a b).symm⟩

theorem Rl.max_zero {x : EReal} (hx : Rl x) : Rl (max x 0) := by
  rcases max_choice x 0 with h | h <;> rw [h]
  · exact hx
  · exact ⟨0, EReal.coe_zero.symm⟩

theorem Rl.sum {n : ℕ} (f : Fin n → EReal) (h : ∀ i, Rl (f i)) : Rl (∑ i, f i) := by
  choose r hr using h
  exact ⟨∑ i, r i, by rw [Cert.Soft.coe_sum]; exact Finset.sum_congr rfl fun i _ => hr i⟩

theorem sq_nonneg' (x : EReal) : 0 ≤ x * x := by
  induction x with
  | bot => simp
  | top => simp
  | coe a => rw [← EReal.coe_mul]; exact_mod_cast mul_self_nonneg a

theorem sq_top {x : EReal} (h : x * x ≠ ⊤) : Rl x := by
  induction x with
  | bot => simp at h
  | top => simp at h
  | coe a => exact ⟨a, rfl⟩

theorem eps_val : ∃ e : ℝ, 0 < e ∧ Ideal.ofBits .f32 0x358637BD#32 = (e : EReal) := by
  simp only [Ideal.ofBits, Ideal.ieee]
  simp
  refine ⟨_, ?_, rfl⟩
  norm_num

theorem n_val : Ideal.ofBits .f32 0x45800000#32 = ((4096 : ℝ) : EReal) := by
  simp only [Ideal.ofBits, Ideal.ieee]
  simp
  norm_num
  rw [← EReal.coe_mul]
  norm_num

/-- Over the root of its mean square a row is real, even where an entry is infinite: the reciprocal root is zero there. -/
theorem nrm_real (x g : Fin 4096 → EReal) (d : Fin 4096) (hg : Rl (g d)) : Rl (nrm x g d) := by
  unfold nrm
  refine Rl.mul ?_ hg
  have hle : x d * x d ≤ ∑ k, x k * x k := Finset.single_le_sum (f := fun k => x k * x k) (fun k _ => sq_nonneg' _) (Finset.mem_univ d)
  have h0 : (0 : EReal) ≤ ∑ k, x k * x k := Finset.sum_nonneg fun k _ => sq_nonneg' _
  generalize ∑ k, x k * x k = S at hle h0
  unfold rsq
  obtain ⟨e, he, hE⟩ := eps_val
  rw [hE, n_val, Ideal.div_coe (by norm_num)]
  induction S with
  | bot => simp at h0
  | top =>
    rw [EReal.top_mul_coe_of_pos (by norm_num), EReal.top_add_coe, Ideal.rsqrt_top, mul_zero]
    exact ⟨0, EReal.coe_zero.symm⟩
  | coe s =>
    have hs : 0 ≤ s := by exact_mod_cast h0
    refine Rl.mul (sq_top ?_) ?_
    · rintro h; rw [h] at hle; simp at hle
    · rw [← EReal.coe_mul, ← EReal.coe_add, Ideal.rsqrt_coe, if_neg (by have := mul_nonneg hs (show (0 : ℝ) ≤ 1 / 4096 by norm_num); linarith),
        if_neg (by have := mul_nonneg hs (show (0 : ℝ) ≤ 1 / 4096 by norm_num); linarith)]
      exact ⟨_, rfl⟩

theorem mdl_real (x g sc sh : Fin 4096 → EReal) (d : Fin 4096) (hg : Rl (g d)) (hc : Rl (sc d)) (hs : Rl (sh d)) : Rl (mdl x g sc sh d) := by
  unfold mdl
  exact ((nrm_real x g d hg).mul (Rl.add ⟨1, EReal.coe_one.symm⟩ hc)).add hs

/-- A real factor goes into a sum of real numbers. -/
theorem mul_sum_real {n : ℕ} (a : EReal) (f : Fin n → EReal) (ha : Rl a) (h : ∀ i, Rl (f i)) : a * ∑ i, f i = ∑ i, a * f i := by
  obtain ⟨a, rfl⟩ := ha
  choose r hr using h
  simp only [hr]
  rw [← Cert.Soft.coe_sum, ← EReal.coe_mul, Finset.mul_sum, Cert.Soft.coe_sum]
  exact Finset.sum_congr rfl fun i _ => EReal.coe_mul _ _

end Cert.Kernel2Ideal.Hand

end
-- ==== Proof.Mlp.Formula.lean ====
/- The feed-forward layer's formula, and that a kernel which modulates a tile's rows, computes hidden block after hidden block and adds each up one step later ends with it. -/
module

public import proofs.«01_k».proof.Proof.Mlp.Real

@[expose] public section

set_option maxRecDepth 16384

noncomputable section

namespace Cert.Kernel2Ideal.Hand

open Cert.Kernel2Ideal Idealize.ShloMosaic Idealize.ShloMosaic.TcCoe

/-! The layer's formula: over a residual `H`, a gain, the modulation's rows, two weights and a last gain. -/

section
variable (A0 : FVec Ideal S16384x4096 .f32) (A1 : FVec Ideal S4096 .f32) (A2 : FVec Ideal S8x6x1x4096 .f32) (A3 : FVec Ideal S4096x16384 .bf16)
  (A4 : FVec Ideal S16384x4096 .bf16) (A5 : FVec Ideal S4096 .f32)

/-- A row's batch. -/
def bat (R : Fin 16384) : Fin 8 := ⟨R.val / 8192, by omega⟩

/-- A modulated row. -/
def uu (R : Fin 16384) : Fin 4096 → EReal :=
  mdl (fun k => A0 (ix2 R k)) (fun k => A1 (ix1 k)) (fun k => A2 (ix4 (bat R) 4 0 k)) (fun k => A2 (ix4 (bat R) 3 0 k))

/-- A row's hidden values. -/
def hh (R : Fin 16384) (n : Fin 16384) : EReal :=
  max (∑ k, uu A0 A1 A2 R k * A3 (ix2 k n)) 0 * max (∑ k, uu A0 A1 A2 R k * A3 (ix2 k n)) 0

/-- A row after the layer. -/
def yy (R : Fin 16384) (d : Fin 4096) : EReal :=
  A0 (ix2 R d) + A2 (ix4 (bat R) 5 0 d) * ∑ n, hh A0 A1 A2 A3 R n * A4 (ix2 n d)

/-- … normed. -/
def spec (R : Fin 16384) (d : Fin 4096) : EReal := nrm (yy A0 A1 A2 A3 A4 R) (fun k => A5 (ix1 k)) d

/-- The gain, the modulation and the weights are real numbers. -/
structure FinM : Prop where
  gn : ∀ k, Rl (A1 (ix1 k))
  mod : ∀ (R : Fin 16384) (s : Fin 6) k, Rl (A2 (ix4 (bat R) s 0 k))
  w1 : ∀ k n, Rl (A3 (ix2 k n))
  w2 : ∀ n d, Rl (A4 (ix2 n d))

theorem uu_real (h : FinM A1 A2 A3 A4) (R : Fin 16384) (k : Fin 4096) : Rl (uu A0 A1 A2 R k) :=
  mdl_real _ _ _ _ _ (h.gn k) (h.mod R 4 k) (h.mod R 3 k)

theorem hh_real (h : FinM A1 A2 A3 A4) (R : Fin 16384) (n : Fin 16384) : Rl (hh A0 A1 A2 A3 R n) :=
  have h1 := (Rl.sum _ fun k => (uu_real A0 A1 A2 A3 A4 h R k).mul (h.w1 k n)).max_zero
  h1.mul h1

/-- The product of one hidden block. -/
def part (R : Fin 16384) (d : Fin 4096) (j : ℕ) : EReal :=
  ∑ n : Fin 512, hh A0 A1 A2 A3 R ⟨(j * 512 + n.val) % 16384, Nat.mod_lt _ (by decide)⟩ * A4 (ix2 ⟨(j * 512 + n.val) % 16384, Nat.mod_lt _ (by decide)⟩ d)

/-- The gated products of the 32 hidden blocks are the gated product of the whole. -/
theorem sum_parts (h : FinM A1 A2 A3 A4) (R : Fin 16384) (d : Fin 4096) :
    A0 (ix2 R d) + ∑ j ∈ Finset.range 32, A2 (ix4 (bat R) 5 0 d) * part A0 A1 A2 A3 A4 R d j = yy A0 A1 A2 A3 A4 R d := by
  unfold yy
  have hp : ∀ n, Rl (hh A0 A1 A2 A3 R n * A4 (ix2 n d)) := fun n => (hh_real A0 A1 A2 A3 A4 h R n).mul (h.w2 n d)
  rw [Fin.sum_univ_tiles 32 512 rfl (fun n => hh A0 A1 A2 A3 R n * A4 (ix2 n d)), mul_sum_real _ _ (h.mod R 5 d) (fun j => Rl.sum _ fun n => hp _),
    Finset.sum_range]
  refine congrArg _ (Finset.sum_congr rfl fun j _ => congrArg _ (Finset.sum_congr rfl fun n _ => ?_))
  have e : (⟨(j.val * 512 + n.val) % 16384, Nat.mod_lt _ (by decide)⟩ : Fin 16384) = ⟨j.val * 512 + n.val, by omega⟩ :=
    Fin.ext (Nat.mod_eq_of_lt (by omega))
  rw [e]
end

/-- An output row's sum after `n` blocks. -/
def acc (A0 : FVec Ideal S16384x4096 .f32) (A1 : FVec Ideal S4096 .f32) (A2 : FVec Ideal S8x6x1x4096 .f32) (A3 : FVec Ideal S4096x16384 .bf16)
    (A4 : FVec Ideal S16384x4096 .bf16) (R : Fin 16384) (d : Fin 4096) (n : ℕ) : EReal :=
  A0 (ix2 R d) + ∑ j ∈ Finset.range n, A2 (ix4 (bat R) 5 0 d) * part A0 A1 A2 A3 A4 R d j

section
variable (A0 : FVec Ideal S16384x4096 .f32) (A1 : FVec Ideal S4096 .f32) (A2 : FVec Ideal S8x6x1x4096 .f32) (A3 : FVec Ideal S4096x16384 .bf16)
  (A4 : FVec Ideal S16384x4096 .bf16) (R : Fin 16384) (d : Fin 4096)

theorem acc_zero : acc A0 A1 A2 A3 A4 R d 0 = A0 (ix2 R d) := by simp [acc]

theorem acc_succ (n : ℕ) : acc A0 A1 A2 A3 A4 R d (n + 1) = acc A0 A1 A2 A3 A4 R d n + A2 (ix4 (bat R) 5 0 d) * part A0 A1 A2 A3 A4 R d n := by
  simp only [acc, Finset.sum_range_succ, add_assoc]

end

/-- A hidden block's column in the hidden layer. -/
def col (n : ℕ) (j : Fin 512) : Fin 16384 := ⟨(n % 32 * 512 + j.val) % 16384, Nat.mod_lt _ (by decide)⟩

theorem col_val (n : ℕ) (j : Fin 512) : (col n j).val = n % 32 * 512 + j.val := Nat.mod_eq_of_lt (by omega)

/-- The gated product of a hidden block. -/
def gsum (A2 : FVec Ideal S8x6x1x4096 .f32) (A4 : FVec Ideal S16384x4096 .bf16) (z : Vec Ideal S1024x512 .bf16) (n : ℕ) (R : Fin 16384) (r : Fin 1024) (d : Fin 4096) : EReal :=
  A2 (ix4 (bat R) 5 0 d) * ∑ j : Fin 512, z (ix2 r j) * A4 (ix2 (col n j) d)

/-- The square of the positive part of a row's product with a column. -/
def hsq (A3 : FVec Ideal S4096x16384 .bf16) (x : Vec Ideal S1024x4096 .bf16) (r : Fin 1024) (N : Fin 16384) : EReal :=
  max (∑ k : Fin 4096, x (ix2 r k) * A3 (ix2 k N)) 0 * max (∑ k : Fin 4096, x (ix2 r k) * A3 (ix2 k N)) 0

/-- What the buffers (the output's block, the modulated rows, the hidden block) hold after each of the 513 steps: step `n` computes hidden block `n % 32` of tile
    `n / 32`, and step `n + 1` adds it up. -/
structure Steps (A0 : FVec Ideal S16384x4096 .f32) (A1 : FVec Ideal S4096 .f32) (A2 : FVec Ideal S8x6x1x4096 .f32) (A3 : FVec Ideal S4096x16384 .bf16)
    (A4 : FVec Ideal S16384x4096 .bf16) (N : ℕ) (st : (n : ℕ) → n < N → Vec Ideal S1024x4096 .f32 × Vec Ideal S1024x4096 .bf16 × Vec Ideal S1024x512 .bf16) : Prop where
  len : N = 513
  first : ∀ n hn, n % 32 = 0 → n < 512 → ∀ (r : Fin 1024) (k : Fin 4096) (R : Fin 16384), R.val = n / 32 * 1024 + r.val → (st n hn).2.1 (ix2 r k) = uu A0 A1 A2 R k
  keep : ∀ n hn, ¬(n + 1) % 32 = 0 → (st (n + 1) hn).2.1 = (st n (Nat.lt_of_succ_lt hn)).2.1
  hid : ∀ n hn, n < 512 → ∀ (r : Fin 1024) (j : Fin 512), (st n hn).2.2 (ix2 r j) = hsq A3 (st n hn).2.1 r (col n j)
  begun : ∀ n hn, n % 32 = 0 → ∀ (r : Fin 1024) (d : Fin 4096) (R : Fin 16384), R.val = n / 32 * 1024 + r.val → (st (n + 1) hn).1 (ix2 r d)
    = gsum A2 A4 (st n (Nat.lt_of_succ_lt hn)).2.2 n R r d + A0 (ix2 R d)
  added : ∀ n hn, ¬n % 32 = 0 → ¬(n + 1) % 32 = 0 → ∀ (r : Fin 1024) (d : Fin 4096) (R : Fin 16384), R.val = n / 32 * 1024 + r.val → (st (n + 1) hn).1 (ix2 r d)
    = gsum A2 A4 (st n (Nat.lt_of_succ_lt hn)).2.2 n R r d + (st n (Nat.lt_of_succ_lt hn)).1 (ix2 r d)

namespace Steps

variable {A0 : FVec Ideal S16384x4096 .f32} {A1 : FVec Ideal S4096 .f32} {A2 : FVec Ideal S8x6x1x4096 .f32} {A3 : FVec Ideal S4096x16384 .bf16}
  {A4 : FVec Ideal S16384x4096 .bf16} {N : ℕ} {st : (n : ℕ) → n < N → Vec Ideal S1024x4096 .f32 × Vec Ideal S1024x4096 .bf16 × Vec Ideal S1024x512 .bf16}

/-- The rows a step holds: its tile's, modulated. -/
theorem inv_xs (h : Steps A0 A1 A2 A3 A4 N st) (n : ℕ) (hn : n < N) (h512 : n < 512) (r : Fin 1024) (k : Fin 4096) (R : Fin 16384)
    (hR : R.val = n / 32 * 1024 + r.val) : (st n hn).2.1 (ix2 r k) = uu A0 A1 A2 R k := by
  induction n with
  | zero => exact h.first 0 hn rfl h512 r k R hR
  | succ n ih =>
    by_cases h0 : (n + 1) % 32 = 0
    · exact h.first (n + 1) hn h0 h512 r k R hR
    · exact (congrFun (h.keep n hn h0) _).trans (ih (Nat.lt_of_succ_lt hn) (by omega) (by omega))

/-- The hidden block a step leaves. -/
theorem inv_hid (h : Steps A0 A1 A2 A3 A4 N st) (n : ℕ) (hn : n < N) (h512 : n < 512) (r : Fin 1024) (j : Fin 512) (R : Fin 16384)
    (hR : R.val = n / 32 * 1024 + r.val) : (st n hn).2.2 (ix2 r j) = hh A0 A1 A2 A3 R (col n j) := by
  rw [h.hid n hn h512 r j]
  unfold hsq
  simp only [h.inv_xs n hn h512 r _ R hR]
  rfl

/-- One step's addition: the gated product of the hidden block that the step before left. -/
theorem add_step (h : Steps A0 A1 A2 A3 A4 N st) (n : ℕ) (hn : n < N) (h512 : n < 512) (r : Fin 1024) (d : Fin 4096) (R : Fin 16384)
    (hR : R.val = n / 32 * 1024 + r.val) :
    gsum A2 A4 (st n hn).2.2 n R r d + acc A0 A1 A2 A3 A4 R d (n % 32)
      = acc A0 A1 A2 A3 A4 R d (n % 32 + 1) := by
  unfold gsum
  simp only [h.inv_hid n hn h512 r _ R hR]
  rw [acc_succ, add_comm]
  rfl

/-- The output's block within a tile: the residual's rows and the gated products so far. -/
theorem inv_out (h : Steps A0 A1 A2 A3 A4 N st) (n : ℕ) (hn : n < N) (h0 : ¬n % 32 = 0) (r : Fin 1024) (d : Fin 4096) (R : Fin 16384)
    (hR : R.val = n / 32 * 1024 + r.val) : (st n hn).1 (ix2 r d) = acc A0 A1 A2 A3 A4 R d (n % 32) := by
  have hN := h.len
  induction n with
  | zero => exact absurd rfl h0
  | succ n ih =>
    have hR' : R.val = n / 32 * 1024 + r.val := by omega
    have e := h.add_step n (Nat.lt_of_succ_lt hn) (by omega) r d R hR'
    rw [show (n + 1) % 32 = n % 32 + 1 by omega, ← e]
    by_cases h1 : n % 32 = 0
    · rw [h.begun n hn h1 r d R hR', h1, acc_zero]
    · rw [h.added n hn h1 h0 r d R hR', ih (Nat.lt_of_succ_lt hn) h1 hR']

/-- A tile's last addition leaves the layer's rows. -/
theorem total (h : Steps A0 A1 A2 A3 A4 N st) (hf : FinM A1 A2 A3 A4) (n : ℕ) (hn : n < N) (h512 : n < 512) (h31 : n % 32 = 31) (r : Fin 1024) (d : Fin 4096)
    (R : Fin 16384) (hR : R.val = n / 32 * 1024 + r.val) :
    gsum A2 A4 (st n hn).2.2 n R r d + (st n hn).1 (ix2 r d) = yy A0 A1 A2 A3 A4 R d := by
  rw [h.inv_out n hn (by omega) r d R hR, h.add_step n hn h512 r d R hR, h31]
  exact sum_parts A0 A1 A2 A3 A4 hf R d

end Steps

end Cert.Kernel2Ideal.Hand

end
-- ==== Proof.Mlp.Final.lean ====
/- The feed-forward kernel's result array: the layer's formula at every index. -/
module

public import proofs.«01_k».proof.Proof.Mlp.Steps
public import proofs.«01_k».proof.Proof.Mlp.Formula

@[expose] public section

set_option maxRecDepth 16384

noncomputable section

namespace Cert.Kernel2Ideal.Hand

open Cert.Kernel2Ideal Cert.Kernel2Ideal.Gen Idealize.ShloMosaic Idealize.ShloMosaic.TcCoe

variable (m : (ℓ : Loc nD τ sig) → Buf (Elt Ideal) ℓ)

/-- The windows' blocks at every step: step `t` computes hidden block `t % 32` of tile `t / 32` and adds up hidden block `(t - 1) % 32` of tile `(t - 1) / 32`. -/
theorem idx_val : ∀ t : Fin cfg0.N, win0_0.index t = ![0, 0] ∧ win0_1.index t = ![min (t.val / 32) 15 / 8, 3, 0, 0] ∧ win0_2.index t = ![min (t.val / 32) 15 / 8, 4, 0, 0]
    ∧ win0_3.index t = ![(t.val - 1) / 32 / 8, 5, 0, 0] ∧ win0_4.index t = ![0, t.val % 32] ∧ win0_5.index t = ![(t.val - 1) % 32, 0]
    ∧ win0_6.index t = ![0, 0] ∧ win0_7.index t = ![min (t.val / 32) 15, 0] ∧ win0_8.index t = ![(t.val - 1) / 32, 0] :=
  (by decide +kernel : ∀ t : Fin grid0.N, _)

theorem cast_at (X : FVec Ideal S4096 .f32) (k : Fin 4096) : shapeCast S1x4096 X shapeCasts_S4096_S1x4096 (ix2 0 k) = X (ix1 k) := by
  pointwise

/-- The two gains as the host shapes them. -/
theorem V_v0 (c : Dev nD) : V m c main_v0 = shapeCast S1x4096 (m ((c : Thread nD τ).loc main_arg1)) shapeCasts_S4096_S1x4096 := by
  unfold V
  after_results
  rfl

theorem V_v1 (c : Dev nD) : V m c main_v1 = shapeCast S1x4096 (m ((c : Thread nD τ).loc main_arg5)) shapeCasts_S4096_S1x4096 := by
  unfold V
  after_results
  rfl

/-! The blocks of step `t` read at an index of their arrays. -/

theorem gn_read (c : Dev nD) (t : Fin cfg0.N) (k : Fin 4096) : iblk m c 0 t (ix2 0 k) = m ((c : Thread nD τ).loc main_arg1) (ix1 k) := by
  have h : iblk m c 0 t (ix2 0 k) = V m c main_v0 (ix2 0 k) := by
    blk_ext [iblk, idx_val t]
  rw [h, V_v0]
  exact cast_at _ k

theorem sh_read (c : Dev nD) (t : Fin cfg0.N) (k : Fin 4096) (b : Fin 8) (hb : b.val = min (t.val / 32) 15 / 8) :
    iblk m c 1 t (ix4 0 0 0 k) = m ((c : Thread nD τ).loc main_arg2) (ix4 b 3 0 k) := by
  blk_ext [iblk, V, idx_val t]

theorem sc_read (c : Dev nD) (t : Fin cfg0.N) (k : Fin 4096) (b : Fin 8) (hb : b.val = min (t.val / 32) 15 / 8) :
    iblk m c 2 t (ix4 0 0 0 k) = m ((c : Thread nD τ).loc main_arg2) (ix4 b 4 0 k) := by
  blk_ext [iblk, V, idx_val t]

theorem gate_read (c : Dev nD) (t : Fin cfg0.N) (k : Fin 4096) (b : Fin 8) (hb : b.val = (t.val - 1) / 32 / 8) :
    iblk m c 3 t (ix4 0 0 0 k) = m ((c : Thread nD τ).loc main_arg2) (ix4 b 5 0 k) := by
  blk_ext [iblk, V, idx_val t]

theorem w1_read (c : Dev nD) (t : Fin cfg0.N) (k : Fin 4096) (n : Fin 512) (N : Fin 16384) (hN : N.val = t.val % 32 * 512 + n.val) :
    iblk m c 4 t (ix2 k n) = m ((c : Thread nD τ).loc main_arg3) (ix2 k N) := by
  blk_ext [iblk, V, idx_val t]

theorem w2_read (c : Dev nD) (t : Fin cfg0.N) (n : Fin 512) (d : Fin 4096) (N : Fin 16384) (hN : N.val = (t.val - 1) % 32 * 512 + n.val) :
    iblk m c 5 t (ix2 n d) = m ((c : Thread nD τ).loc main_arg4) (ix2 N d) := by
  blk_ext [iblk, V, idx_val t]

theorem fg_read (c : Dev nD) (t : Fin cfg0.N) (k : Fin 4096) : iblk m c 6 t (ix2 0 k) = m ((c : Thread nD τ).loc main_arg5) (ix1 k) := by
  have h : iblk m c 6 t (ix2 0 k) = V m c main_v1 (ix2 0 k) := by
    blk_ext [iblk, idx_val t]
  rw [h, V_v1]
  exact cast_at _ k

theorem h_read (c : Dev nD) (t : Fin cfg0.N) (r : Fin 1024) (d : Fin 4096) (R : Fin 16384) (hR : R.val = min (t.val / 32) 15 * 1024 + r.val) :
    iblk m c 7 t (ix2 r d) = m ((c : Thread nD τ).loc main_arg0) (ix2 R d) := by
  blk_ext [iblk, V, idx_val t]

/-! What a step stores, over the arrays. -/

theorem hid_step (c : Dev nD) (t : Fin cfg0.N) (X : Vec Ideal S1024x4096 .bf16) (r : Fin 1024) (j : Fin 512) :
    k0_pay6 X (iblk m c 4 t) (ix2 r j) = hsq (m ((c : Thread nD τ).loc main_arg3)) X r (col t.val j) := by
  rw [pay6_at]
  unfold hsq
  simp only [w1_read m c t _ j (col t.val j) (col_val t.val j)]

theorem out_step (c : Dev nD) (t : Fin cfg0.N) (hz : t.val ≠ 0) (z : Vec Ideal S1024x512 .bf16) (o : Vec Ideal S1024x4096 .f32) (r : Fin 1024) (d : Fin 4096) (R : Fin 16384)
    (hR : R.val = (t.val - 1) / 32 * 1024 + r.val) :
    k0_pay5 (iblk m c 3 t) z (iblk m c 5 t) o (ix2 r d)
      = gsum (m ((c : Thread nD τ).loc main_arg2)) (m ((c : Thread nD τ).loc main_arg4)) z (t.val - 1) R r d + o (ix2 r d) := by
  have ht : t.val < 513 := lt_of_lt_of_eq t.isLt Gen.N_0
  have hb : (bat R).val = (t.val - 1) / 32 / 8 := by show R.val / 8192 = _; omega
  rw [pay5_at, gate_read m c t d (bat R) hb]
  unfold gsum
  simp only [w2_read m c t _ d (col (t.val - 1) _) (col_val (t.val - 1) _)]

/-- The steps are those of the formula. -/
theorem steps (c : Dev nD) : Steps (m ((c : Thread nD τ).loc main_arg0)) (m ((c : Thread nD τ).loc main_arg1)) (m ((c : Thread nD τ).loc main_arg2))
    (m ((c : Thread nD τ).loc main_arg3)) (m ((c : Thread nD τ).loc main_arg4)) cfg0.N (outsAt0 m c) where
  len := Gen.N_0
  first n hn h h512 r k R hR := by
    have hb : (bat R).val = min (n / 32) 15 / 8 := by show R.val / 8192 = _; omega
    refine (congrFun (st_first m c ⟨n, hn⟩ h (by show n ≠ 512; omega)).1 _).trans ?_
    refine Eq.trans (b := mdl (fun k => iblk m c 7 ⟨n, hn⟩ (ix2 r k)) (fun k => iblk m c 0 ⟨n, hn⟩ (ix2 0 k)) (fun k => iblk m c 2 ⟨n, hn⟩ (ix4 0 0 0 k)) (fun k => iblk m c 1 ⟨n, hn⟩ (ix4 0 0 0 k)) k) rfl ?_
    unfold uu
    simp only [gn_read, sh_read m c ⟨n, hn⟩ _ (bat R) hb, sc_read m c ⟨n, hn⟩ _ (bat R) hb, h_read m c ⟨n, hn⟩ r _ R (by show R.val = min (n / 32) 15 * 1024 + r.val; omega)]
  keep n hn h := st_keep m c ⟨n + 1, hn⟩ h
  hid n hn h512 r j := by
    by_cases h : n % 32 = 0
    · have e := st_first m c ⟨n, hn⟩ h (by show n ≠ 512; omega)
      exact (congrFun e.2 _).trans ((hid_step m c ⟨n, hn⟩ _ r j).trans (congrArg (fun X => hsq _ X r _) e.1.symm))
    · exact (congrFun (st_hid m c ⟨n, hn⟩ h) _).trans ((hid_step m c ⟨n, hn⟩ _ r j).trans (congrArg (fun X => hsq _ X r _) (st_keep m c ⟨n, hn⟩ h).symm))
  begun n hn h r d R hR := by
    have hN : n + 1 < 513 := lt_of_lt_of_eq hn Gen.N_0
    refine (congrFun (out_first m c ⟨n + 1, hn⟩ (by show (n + 1) % 32 = 1; omega)) _).trans ((out_step m c ⟨n + 1, hn⟩ (Nat.succ_ne_zero n) _ _ r d R hR).trans ?_)
    exact congrArg (HAdd.hAdd (α := EReal) _) (h_read m c ⟨n + 1, hn⟩ r d R (by show R.val = min ((n + 1) / 32) 15 * 1024 + r.val; omega))
  added n hn h h' r d R hR :=
    (congrFun (out_mid m c ⟨n + 1, hn⟩ h' (by show ¬(n + 1) % 32 = 1; omega)) _).trans (out_step m c ⟨n + 1, hn⟩ (Nat.succ_ne_zero n) _ _ r d R hR)

/-- The last sum of a tile. -/
theorem out_total (c : Dev nD)
    (hf : FinM (m ((c : Thread nD τ).loc main_arg1)) (m ((c : Thread nD τ).loc main_arg2)) (m ((c : Thread nD τ).loc main_arg3)) (m ((c : Thread nD τ).loc main_arg4)))
    (t : Fin cfg0.N) (h : t.val % 32 = 0) (hz : t.val ≠ 0) (r : Fin 1024) (d : Fin 4096) (R : Fin 16384)
    (hR : R.val = (t.val - 1) / 32 * 1024 + r.val) :
    k0_pay5 (iblk m c 3 t) (prev m c t).2.2 (iblk m c 5 t) (prev m c t).1 (ix2 r d)
      = yy (m ((c : Thread nD τ).loc main_arg0)) (m ((c : Thread nD τ).loc main_arg1)) (m ((c : Thread nD τ).loc main_arg2)) (m ((c : Thread nD τ).loc main_arg3))
        (m ((c : Thread nD τ).loc main_arg4)) R d := by
  have ht : t.val < 513 := lt_of_lt_of_eq t.isLt Gen.N_0
  exact (out_step m c t hz _ _ r d R hR).trans ((steps m c).total hf (t.val - 1) _ (by omega) (by omega) r d R hR)

/-- The output's block when its tile is done. -/
theorem out_done (c : Dev nD)
    (hf : FinM (m ((c : Thread nD τ).loc main_arg1)) (m ((c : Thread nD τ).loc main_arg2)) (m ((c : Thread nD τ).loc main_arg3)) (m ((c : Thread nD τ).loc main_arg4)))
    (t : Fin cfg0.N) (h : t.val % 32 = 0) (hz : t.val ≠ 0) (r : Fin 1024) (d : Fin 4096) (R : Fin 16384)
    (hR : R.val = (t.val - 1) / 32 * 1024 + r.val) :
    (outsAt0 m c t.val t.isLt).1 (ix2 r d)
      = spec (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) R d := by
  have ht : t.val < 513 := lt_of_lt_of_eq t.isLt Gen.N_0
  rw [out_last m c t h hz]
  refine Eq.trans (b := nrm (fun k => k0_pay5 (iblk m c 3 t) (prev m c t).2.2 (iblk m c 5 t) (prev m c t).1 (ix2 r k)) (fun k => iblk m c 6 t (ix2 0 k)) d) rfl ?_
  unfold spec
  refine congr (congrArg₂ nrm (funext fun k => ?_) (funext fun k => fg_read m c t k)) rfl
  exact out_total m c hf t h hz r k R hR

/-- The result array is any array of the formula's values. -/
theorem final (c : Dev nD)
    (hf : FinM (m ((c : Thread nD τ).loc main_arg1)) (m ((c : Thread nD τ).loc main_arg2)) (m ((c : Thread nD τ).loc main_arg3)) (m ((c : Thread nD τ).loc main_arg4)))
    (G : FVec Ideal S16384x4096 .f32)
    (hG : ∀ R d, G (ix2 R d) = spec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R d) :
    (dats m 0 c).arrAt 8 (cfgs 0).N = G := by
  refine (dats m 0 c).arrAt_eq_of_covers 8 G (by decide +kernel) fun t hfl y => ?_
  obtain ⟨h, hz⟩ := (flush0_8 t).1 hfl
  blk_simp
  rw [after0_8]
  have ht : t.val < 513 := lt_of_lt_of_eq t.isLt Gen.N_0
  have h0 : (y 0).val < 1024 := (y 0).isLt
  have h1 : (y 1).val < 4096 := (y 1).isLt
  refine Eq.trans (b := (outsAt0 m c t.val t.isLt).1 (ix2 ⟨(y 0).val, h0⟩ ⟨(y 1).val, h1⟩)) (congrArg _ (by funext i; fin_cases i <;> rfl)) ?_
  refine (out_done m c hf t h hz _ _ ⟨(t.val - 1) / 32 * 1024 + (y 0).val, by omega⟩ rfl).trans ((hG _ _).symm.trans ?_)
  blk_ext [idx_val t]

end Cert.Kernel2Ideal.Hand

end
-- ==== Proof.Mlp.Ref.lean ====
/- The feed-forward reference's result at an index: the layer's formula; and what the precondition gives. -/
module

public import proofs.«01_k».proof.Proof.Mlp.Final
public import proofs.«01_k».proof.Proof.Spec
public import proofs.«01_k».proof.Proof.Gen.Reference2Ideal.Run
public import proofs.«01_k».proof.Proof.Gen.Pre_finite_mlp

@[expose] public section

set_option maxRecDepth 16384

noncomputable section

namespace Cert.Reference2Ideal.Hand

open Cert.Reference2Ideal Cert.Reference2Ideal.Gen Idealize.ShloMosaic Idealize.ShloMosaic.TcCoe
open Cert.Kernel2Ideal.Hand (Rl rsq nrm mdl bat uu hh yy spec FinM)

/-- A matrix of tokens, batch by batch. -/
def byBatch (A : FVec Ideal S16384x4096 .f32) : FVec Ideal S2x8192x4096 .f32 := shapeCast _ A shapeCasts_S16384x4096_S2x8192x4096

/-- The norm with a gain. -/
def normed (X : FVec Ideal S2x8192x4096 .f32) (G : FVec Ideal S4096 .f32) : FVec Ideal S2x8192x4096 .f32 :=
  mulf (mulf X (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X X) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 G))

/-- … scaled and shifted by the modulation's rows. -/
def moded (N : FVec Ideal S2x8192x4096 .f32) (A2 : FVec Ideal S8x6x1x4096 .f32) : FVec Ideal S2x8192x4096 .f32 :=
  addf (mulf N (broadcastInDim S2x8192x4096 ![0, 1, 2] bcast_S2x1x4096_S2x8192x4096_0_1_2 (addf (broadcastInDim S2x1x4096 ![] bcast_S_S2x1x4096 (constant S_ .f32 0x3F800000#32)) (shapeCast _ (extractStridedSlice S2x1x1x4096 ![0, 4, 0, 0] A2 slices_S8x6x1x4096_S2x1x1x4096_0_4_0_0) shapeCasts_S2x1x1x4096_S2x1x4096)))) (broadcastInDim S2x8192x4096 ![0, 1, 2] bcast_S2x1x4096_S2x8192x4096_0_1_2 (shapeCast _ (extractStridedSlice S2x1x1x4096 ![0, 3, 0, 0] A2 slices_S8x6x1x4096_S2x1x1x4096_0_3_0_0) shapeCasts_S2x1x1x4096_S2x1x4096))

/-- The first product's positive part. -/
def relud (U : FVec Ideal S2x8192x4096 .f32) (A3 : FVec Ideal S4096x16384 .bf16) : FVec Ideal S2x8192x16384 .f32 :=
  maximumf (Host.dotGeneral dot_S2x8192x4096_S4096x16384_S2x8192x16384_2_0_01_1_n_n none U (extf .f32 A3 bitsLt_bf16_f32)) (broadcastInDim S2x8192x16384 ![] bcast_S_S2x8192x16384 (constant S_ .f32 0x00000000#32))

/-- The residual and the gated product of the squares. -/
def gated (X : FVec Ideal S2x8192x4096 .f32) (A2 : FVec Ideal S8x6x1x4096 .f32) (H : FVec Ideal S2x8192x16384 .f32) (A4 : FVec Ideal S16384x4096 .bf16) : FVec Ideal S2x8192x4096 .f32 :=
  addf X (mulf (broadcastInDim S2x8192x4096 ![0, 1, 2] bcast_S2x1x4096_S2x8192x4096_0_1_2 (shapeCast _ (extractStridedSlice S2x1x1x4096 ![0, 5, 0, 0] A2 slices_S8x6x1x4096_S2x1x1x4096_0_5_0_0) shapeCasts_S2x1x1x4096_S2x1x4096)) (Host.dotGeneral dot_S2x8192x16384_S16384x4096_S2x8192x4096_2_0_01_1_n_n none (mulf H H) (extf .f32 A4 bitsLt_bf16_f32)))

/-- A matrix of tokens from its batches. -/
def joined (Y : FVec Ideal S2x8192x4096 .f32) : FVec Ideal S16384x4096 .f32 := shapeCast _ Y shapeCasts_S2x8192x4096_S16384x4096

theorem res_eq (m : (ℓ : Loc nD τ sig) → Buf (Elt Ideal) ℓ) (c : Dev nD) :
    Value.res_main_v48 m c = joined (normed (gated (byBatch (m ((c.tc : Thread nD τ).loc main_arg0))) (m ((c.tc : Thread nD τ).loc main_arg2))
      (relud (moded (normed (byBatch (m ((c.tc : Thread nD τ).loc main_arg0))) (m ((c.tc : Thread nD τ).loc main_arg1))) (m ((c.tc : Thread nD τ).loc main_arg2)))
        (m ((c.tc : Thread nD τ).loc main_arg3))) (m ((c.tc : Thread nD τ).loc main_arg4))) (m ((c.tc : Thread nD τ).loc main_arg5))) := rfl

/-- A token's batch and place. -/
def tb (R : Fin 16384) : Fin 2 := ⟨R.val / 8192, by omega⟩
def tp (R : Fin 16384) : Fin 8192 := ⟨R.val % 8192, by omega⟩

theorem joined_at (Y : FVec Ideal S2x8192x4096 .f32) (R : Fin 16384) (d : Fin 4096) : joined Y (ix2 R d) = Y (ix3 (tb R) (tp R) d) := by
  pointwise [joined]
  rfl

theorem byBatch_at (A : FVec Ideal S16384x4096 .f32) (b : Fin 2) (s : Fin 8192) (d : Fin 4096) : byBatch A (ix3 b s d) = A (ix2 ⟨b.val * 8192 + s.val, by omega⟩ d) := by
  pointwise [byBatch]

theorem byBatch_tok (A : FVec Ideal S16384x4096 .f32) (R : Fin 16384) (d : Fin 4096) : byBatch A (ix3 (tb R) (tp R) d) = A (ix2 R d) := by
  rw [byBatch_at]
  exact congrArg (fun i => A (ix2 i d)) (Fin.ext (by show R.val / 8192 * 8192 + R.val % 8192 = R.val; omega))

theorem normed_at (X : FVec Ideal S2x8192x4096 .f32) (G : FVec Ideal S4096 .f32) (b : Fin 2) (s : Fin 8192) (d : Fin 4096) :
    normed X G (ix3 b s d) = nrm (fun k => X (ix3 b s k)) (fun k => G (ix1 k)) d := by
  pointwise [normed]
  rfl

theorem one_val : Ideal.ofBits .f32 0x3F800000#32 = 1 := by
  simp only [Ideal.ofBits, Ideal.ieee]
  simp
  rw [← EReal.coe_mul]
  norm_num

theorem moded_at (N : FVec Ideal S2x8192x4096 .f32) (A2 : FVec Ideal S8x6x1x4096 .f32) (b : Fin 2) (s : Fin 8192) (d : Fin 4096) :
    moded N A2 (ix3 b s d) = N (ix3 b s d) * (1 + A2 (ix4 (⟨b.val, by omega⟩ : Fin 8) (4 : Fin 6) (0 : Fin 1) d)) + A2 (ix4 (⟨b.val, by omega⟩ : Fin 8) (3 : Fin 6) (0 : Fin 1) d) := by
  rw [← one_val]
  pointwise [moded]

theorem relud_at (U : FVec Ideal S2x8192x4096 .f32) (A3 : FVec Ideal S4096x16384 .bf16) (b : Fin 2) (s : Fin 8192) (n : Fin 16384) :
    relud U A3 (ix3 b s n) = max (∑ k : Fin 4096, U (ix3 b s k) * A3 (ix2 k n)) 0 := by
  pointwise [relud]

theorem gated_at (X : FVec Ideal S2x8192x4096 .f32) (A2 : FVec Ideal S8x6x1x4096 .f32) (H : FVec Ideal S2x8192x16384 .f32) (A4 : FVec Ideal S16384x4096 .bf16)
    (b : Fin 2) (s : Fin 8192) (d : Fin 4096) :
    gated X A2 H A4 (ix3 b s d) = X (ix3 b s d) + A2 (ix4 (⟨b.val, by omega⟩ : Fin 8) (5 : Fin 6) (0 : Fin 1) d) * ∑ n : Fin 16384, H (ix3 b s n) * H (ix3 b s n) * A4 (ix2 n d) := by
  pointwise [gated]

section
variable (A0 : FVec Ideal S16384x4096 .f32) (A1 : FVec Ideal S4096 .f32) (A2 : FVec Ideal S8x6x1x4096 .f32) (A3 : FVec Ideal S4096x16384 .bf16)
  (A4 : FVec Ideal S16384x4096 .bf16) (A5 : FVec Ideal S4096 .f32) (R : Fin 16384)

theorem uu_eq (k : Fin 4096) : moded (normed (byBatch A0) A1) A2 (ix3 (tb R) (tp R) k) = uu A0 A1 A2 R k := by
  rw [moded_at, normed_at]
  simp only [byBatch_tok]
  rfl

theorem hh_eq (n : Fin 16384) :
    relud (moded (normed (byBatch A0) A1) A2) A3 (ix3 (tb R) (tp R) n) * relud (moded (normed (byBatch A0) A1) A2) A3 (ix3 (tb R) (tp R) n) = hh A0 A1 A2 A3 R n := by
  rw [relud_at]
  simp only [uu_eq]
  rfl

theorem yy_eq (d : Fin 4096) :
    gated (byBatch A0) A2 (relud (moded (normed (byBatch A0) A1) A2) A3) A4 (ix3 (tb R) (tp R) d) = yy A0 A1 A2 A3 A4 R d := by
  rw [gated_at, byBatch_tok]
  simp only [hh_eq]
  rfl

theorem ref_at (d : Fin 4096) :
    joined (normed (gated (byBatch A0) A2 (relud (moded (normed (byBatch A0) A1) A2) A3) A4) A5) (ix2 R d) = spec A0 A1 A2 A3 A4 A5 R d := by
  rw [joined_at, normed_at]
  simp only [yy_eq]
  rfl

/-- The precondition gives real numbers. -/
theorem finM_of_pre (h : Cert.Pre_finite_mlp.fn (F := Ideal) A0 A1 A2 A3 A4 A5 = fun _ => 1#1) : FinM A1 A2 A3 A4 := by
  have h0 := congrFun h ((Shape.Idx.first Cert.Pre_finite_mlp.Gen.h_S_))
  dsimp only [Cert.Pre_finite_mlp.fn, Cert.Pre_finite_mlp.fn_part1] at h0
  have h1 := IntOp.andi_eq_one.1 h0
  have h2 := IntOp.andi_eq_one.1 h1.1
  have h3 := IntOp.andi_eq_one.1 h2.1
  constructor
  · intro k
    refine ⟨_, (Cert.KernelIdeal.Hand.real_of_abs_lt (Eq.trans ?_ (Host.reduce_andi_all _ _ _ _ _ h3.1 (ix1 k)))).symm⟩
    pointwise
    rfl
  · intro R s k
    refine ⟨_, (Cert.KernelIdeal.Hand.real_of_abs_lt (Eq.trans ?_ (Host.reduce_andi_all _ _ _ _ _ h3.2 (ix4 (bat R) s 0 k)))).symm⟩
    pointwise
    rfl
  · intro k n
    refine ⟨_, (Cert.KernelIdeal.Hand.real_of_abs_lt (Eq.trans ?_ (Host.reduce_andi_all _ _ _ _ _ h2.2 (ix2 k n)))).symm⟩
    pointwise
    rfl
  · intro n d
    refine ⟨_, (Cert.KernelIdeal.Hand.real_of_abs_lt (Eq.trans ?_ (Host.reduce_andi_all _ _ _ _ _ h1.2 (ix2 n d)))).symm⟩
    pointwise
    rfl

end

/-- The reference's result is the array of the formula. -/
theorem ref_final (m : (ℓ : Loc nD τ sig) → Buf (Elt Ideal) ℓ) (c : Dev nD) (R : Fin 16384) (d : Fin 4096) :
    Value.res_main_v48 m c (ix2 R d) = spec (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) R d := by
  rw [res_eq]
  exact ref_at _ _ _ _ _ _ R d

end Cert.Reference2Ideal.Hand

end
-- ==== Proof.K3I.Runs.lean ====
/- The feed-forward call without a last norm: its branch conditions over the steps, and the memrefs of a step. -/
module

public import proofs.«01_k».proof.Proof.Gen.Kernel3Ideal.Frame
public import proofs.«01_k».proof.Proof.Gen.Kernel3Ideal.Loops
public import proofs.«01_k».proof.Proof.Gen.Kernel3Ideal.Skeleton
public import Idealize.ShloMosaic.Lib.Exec
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the output is written back: at the end of each tile's steps. -/
theorem flush0_8 : ∀ t : Fin cfg0.N, (cfg0.win 8).flush t = true ↔ t.val % 32 = 0 ∧ t.val ≠ 0 :=
  (by decide +kernel : ∀ t : Fin grid0.N, win0_8.flush t = true ↔ t.val % 32 = 0 ∧ t.val ≠ 0)

/-! ## The body's branch conditions -/

abbrev cond0_0 (i : grid0.Coords) : Prop := k0_cond1 i = 1#1
theorem hcond0_0 : ∀ t : Fin cfg0.N, cond0_0 (grid0.coords t) ↔ (t.val % 32 = 0 ∧ t.val ≠ 512) :=
  (by decide +kernel : ∀ t : Fin grid0.N, cond0_0 (grid0.coords t) ↔ (t.val % 32 = 0 ∧ t.val ≠ 512))

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val = 0 :=
  (fun t => by
    have ht : t.val < 513 := Nat.lt_of_lt_of_eq t.isLt N_0
    have e0 : (grid0.coords t 0).val = t.val / 1 % 513 := Pipeline.Grid.coords_val t 0 (by decide) rfl
    simp only [cond0_1, e0]
    word_cmp
   : ∀ t : Fin grid0.N, cond0_1 (grid0.coords t) ↔ t.val = 0)

abbrev cond0_2 (i : grid0.Coords) : Prop := k0_cond3 i = 1#1
theorem hcond0_2 : ∀ t : Fin cfg0.N, cond0_2 (grid0.coords t) ↔ t.val % 32 = 1 :=
  (by decide +kernel : ∀ t : Fin grid0.N, cond0_2 (grid0.coords t) ↔ t.val % 32 = 1)

/-! ## The kernel body on any staging memrefs: a subtype the run finds -/

abbrev VO0_8 : View sig .tc .vmem S1024x4096 .f32 := (Memref.whole cc0_stg8_0 : Memref sig .tc .vmem S1024x4096 .f32).view
abbrev ms0_0 (t : Fin cfg0.N) : Memref sig .tc .vmem S1x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x4096 .f32 := win0_8.stage (cfg0.slots t 8)
abbrev hs0_8 (t : Fin cfg0.N) : (ms0_8 t).IsWhole := hstage0_8 ((cfg0.slots t 8).cast nbuf0_8)
abbrev scM0_0 : Memref sig .tc .vmem S1024x4096 .bf16 := Memref.whole cc0_scratch0
abbrev scM0_1 : Memref sig .tc .vmem S1024x512 .bf16 := Memref.whole cc0_scratch1
abbrev VS0_0 : View sig .tc .vmem S1024x4096 .bf16 := scM0_0.view
abbrev VS0_1 : View sig .tc .vmem S1024x512 .bf16 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Gen

end
-- ==== Proof.K3I.RunA.lean ====
/- What the body stores in the first step (the pieces are those that the run finds). -/
module

public import proofs.«01_k».proof.Proof.K3I.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option backward.proofsInPublic true in
set_option maxHeartbeats 1000000 in
def kernelRun0_A (hc0 : cond0_0 i) (hc1 : cond0_1 i) (hc2 : ¬cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_mlp_residual_eq_skeleton]; unfold cc0_mlp_residual_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    have hrd0 : ∀ (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole) (k0_h1 : k0_cond1 i = 1#1) (v71 : Vec F S1x4096 .f32) (v73 : Vec F S1x1x1x4096 .f32) (v77 : Vec F S1x1x1x4096 .f32) (X_arg8 : BufTy.Contents (Elt F) arg8.view.ty) (hrdF : BufTy.Contents (Elt F) arg10.view.ty) (hrdB : LoadRect S1024x4096), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st))) = arg10.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 k0_h1 v71 v73 v77 X_arg8 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) S16x4096.size (by sl_kernel_rfl) (hrdB.idx hrdJ))
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel3Ideal.Gen

end
-- ==== Proof.K3I.RunB.lean ====
/- What the body stores in a tile's second step, where its rows are copied into the output (the pieces are those that the run finds). -/
module

public import proofs.«01_k».proof.Proof.K3I.RunA

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option backward.proofsInPublic true in
set_option maxHeartbeats 1000000 in
def kernelRun0_B (hc0 : ¬cond0_0 i) (hc1 : ¬cond0_1 i) (hc2 : cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xs0 : Vec F S1024x4096 .bf16) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_mlp_residual_eq_skeleton]; unfold cc0_mlp_residual_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    have hrd0 : ∀ (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole) (k0_h3 : k0_cond3 i = 1#1) (X_arg8 : BufTy.Contents (Elt F) arg8.view.ty) (hrdF : BufTy.Contents (Elt F) arg9.view.ty) (hrdB : LoadRect S1024x4096), arg9.view.readAt (Elt F) hrdB (arg9.view.writes (Elt F) hrdF (pb_k0_t2 (F := F) 𝒱 c bd i arg1 harg1 arg2 harg2 arg3 harg3 arg4 harg4 arg5 harg5 arg6 harg6 arg7 harg7 arg8 harg8 arg9 harg9 arg10 harg10 arg11 harg11 k0_h3 X_arg8 (Scf.trips k0_t2_loop.lb k0_t2_loop.ub k0_t2_loop.st))) = arg9.view.readCov (pb_k0_t2 (F := F) 𝒱 c bd i arg1 harg1 arg2 harg2 arg3 harg3 arg4 harg4 arg5 harg5 arg6 harg6 arg7 harg7 arg8 harg8 arg9 harg9 arg10 harg10 arg11 harg11 k0_h3 X_arg8 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 arg11 harg11 k0_h3 X_arg8 hrdF hrdB => View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 arg11 harg11 k0_h3 X_arg8 (Scf.trips k0_t2_loop.lb k0_t2_loop.ub k0_t2_loop.st)) S16x4096.size (by sl_kernel_rfl) (hrdB.idx hrdJ))
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.Kernel3Ideal.Gen

end
-- ==== Proof.K3I.RunC.lean ====
/- What the body stores in a step with no branch taken (the pieces are those that the run finds). -/
module

public import proofs.«01_k».proof.Proof.K3I.RunB

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option maxHeartbeats 1000000 in
def kernelRun0_C (hc0 : ¬cond0_0 i) (hc1 : ¬cond0_1 i) (hc2 : ¬cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs0 : Vec F S1024x4096 .bf16) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, [], ?_, fun E K => ?run⟩
  case run =>
    simp only [cc0_mlp_residual_eq_skeleton]; unfold cc0_mlp_residual_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    iexists _; iexact HS1

end Cert.Kernel3Ideal.Gen

end
-- ==== Proof.K3I.RunD.lean ====
/- What the body stores in a tile's first step after the first tile: the last of the tile before, the modulation of this one (the pieces are those that the run finds). -/
module

public import proofs.«01_k».proof.Proof.K3I.RunC

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

set_option backward.proofsInPublic true in
set_option maxHeartbeats 1000000 in
def kernelRun0_D (hc0 : cond0_0 i) (hc1 : ¬cond0_1 i) (hc2 : ¬cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs1 : Vec F S1024x512 .bf16) :
    Σ' (L8 : List (View.Piece (Elt F) S1024x4096 .f32)), Σ' (LS0 : List (View.Piece (Elt F) S1024x4096 .bf16)), { LS1 : List (View.Piece (Elt F) S1024x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ (∃ d, owns (c : Thread nD τ) arg10 fullShare d) ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_mlp_residual i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_mlp_residual_eq_skeleton]; unfold cc0_mlp_residual_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs1
    have hrd0 : ∀ (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole) (k0_h1 : k0_cond1 i = 1#1) (v71 : Vec F S1x4096 .f32) (v73 : Vec F S1x1x1x4096 .f32) (v77 : Vec F S1x1x1x4096 .f32) (X_arg8 : BufTy.Contents (Elt F) arg8.view.ty) (hrdF : BufTy.Contents (Elt F) arg10.view.ty) (hrdB : LoadRect S1024x4096), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st))) = arg10.view.readCov (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 k0_h1 v71 v73 v77 X_arg8 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 k0_h1 v71 v73 v77 X_arg8 (Scf.trips k0_t1_loop.lb k0_t1_loop.ub k0_t1_loop.st)) S16x4096.size (by sl_kernel_rfl) (hrdB.idx hrdJ))
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel3Ideal.Gen

end
-- ==== Proof.K3I.Frame.lean ====
/- The contents after each step, and the frame of the feed-forward call without a last norm. -/
module

public import proofs.«01_k».proof.Proof.K3I.RunD
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Cases

variable (c : Dev nD) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

section CaseA
variable (hc0 : cond0_0 i) (hc1 : cond0_1 i) (hc2 : ¬cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32)

theorem cover0_A_8 (y : S1024x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).1, y ∈ pc.1.set :=
  View.cover_of_tiledL _ S1024x4096.size (by sl_kernel_rfl) y

def out0_A_8 : Vec F S1024x4096 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).1)

theorem scover0_A_0 (y : S1024x4096.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).2.1 S16x4096.size (by sl_kernel_rfl) y

def sout0_A_0 : Vec F S1024x4096 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).2.1)

theorem scover0_A_1 (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).2.2.1, y ∈ pc.1.set :=
  View.cover_of_tiledL _ S1024x512.size (by sl_kernel_rfl) y

def sout0_A_1 : Vec F S1024x512 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7).2.2.1)

end CaseA

section CaseB
variable (hc0 : ¬cond0_0 i) (hc1 : ¬cond0_1 i) (hc2 : cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xs0 : Vec F S1024x4096 .bf16) (xs1 : Vec F S1024x512 .bf16)

theorem cover0_B_8 (y : S1024x4096.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1).1, y ∈ pc.1.set :=
  View.cover_of_tiledBy _ ![16, 4096] (by sl_kernel_rfl) y

def out0_B_8 : Vec F S1024x4096 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1).1)

theorem scover0_B_1 (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1).2.2.1, y ∈ pc.1.set :=
  View.cover_of_tiledL _ S1024x512.size (by sl_kernel_rfl) y

def sout0_B_1 : Vec F S1024x512 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1).2.2.1)

end CaseB

section CaseC
variable (hc0 : ¬cond0_0 i) (hc1 : ¬cond0_1 i) (hc2 : ¬cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs0 : Vec F S1024x4096 .bf16) (xs1 : Vec F S1024x512 .bf16)

theorem cover0_C_8 (y : S1024x4096.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs0 xs1).1, y ∈ pc.1.set :=
  View.cover_of_tiledL _ S1024x4096.size (by sl_kernel_rfl) y

def out0_C_8 : Vec F S1024x4096 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs0 xs1).1)

theorem scover0_C_1 (y : S1024x512.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs0 xs1).2.2.1, y ∈ pc.1.set :=
  View.cover_of_tiledL _ S1024x512.size (by sl_kernel_rfl) y

def sout0_C_1 : Vec F S1024x512 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs0 xs1).2.2.1)

end CaseC

section CaseD
variable (hc0 : cond0_0 i) (hc1 : ¬cond0_1 i) (hc2 : ¬cond0_2 i)
    (x0 : Vec F S1x4096 .f32) (x1 : Vec F S1x1x1x4096 .f32) (x2 : Vec F S1x1x1x4096 .f32) (x3 : Vec F S1x1x1x4096 .f32) (x4 : Vec F S4096x512 .bf16) (x5 : Vec F S512x4096 .bf16) (x6 : Vec F S1x4096 .f32) (x7 : Vec F S1024x4096 .f32) (xo8 : Vec F S1024x4096 .f32) (xs1 : Vec F S1024x512 .bf16)

theorem cover0_D_8 (y : S1024x4096.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).1, y ∈ pc.1.set :=
  View.cover_of_tiledL _ S1024x4096.size (by sl_kernel_rfl) y

def out0_D_8 : Vec F S1024x4096 .f32 :=
  VO0_8.read (Elt F) (VO0_8.writes (Elt F) VO0_8.junk (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).1)

theorem scover0_D_0 (y : S1024x4096.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).2.1 S16x4096.size (by sl_kernel_rfl) y

def sout0_D_0 : Vec F S1024x4096 .bf16 :=
  VS0_0.read (Elt F) (VS0_0.writes (Elt F) VS0_0.junk (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).2.1)

theorem scover0_D_1 (y : S1024x512.Idx) :
    ∃ pc ∈ (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).2.2.1, y ∈ pc.1.set :=
  View.cover_of_tiledL _ S1024x512.size (by sl_kernel_rfl) y

def sout0_D_1 : Vec F S1024x512 .bf16 :=
  VS0_1.read (Elt F) (VS0_1.writes (Elt F) VS0_1.junk (kernelRun0_D c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xo8 xs1).2.2.1)

end CaseD

/-! ## What the outputs hold after each point -/

end Cases

def stA (c : Dev nD) (t : Fin cfg0.N) (h0 : (t.val % 32 = 0 ∧ t.val ≠ 512)) (h1 : t.val = 0) (h2 : ¬t.val % 32 = 1) :
    Vec F S1024x4096 .f32 × Vec F S1024x4096 .bf16 × Vec F S1024x512 .bf16 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t))

def stB (c : Dev nD) (t : Fin cfg0.N) (h0 : ¬(t.val % 32 = 0 ∧ t.val ≠ 512)) (h1 : ¬t.val = 0) (h2 : t.val % 32 = 1) (p : Vec F S1024x4096 .f32 × Vec F S1024x4096 .bf16 × Vec F S1024x512 .bf16) :
    Vec F S1024x4096 .f32 × Vec F S1024x4096 .bf16 × Vec F S1024x512 .bf16 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2,
    p.2.1,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2)

def stC (c : Dev nD) (t : Fin cfg0.N) (h0 : ¬(t.val % 32 = 0 ∧ t.val ≠ 512)) (h1 : ¬t.val = 0) (h2 : ¬t.val % 32 = 1) (p : Vec F S1024x4096 .f32 × Vec F S1024x4096 .bf16 × Vec F S1024x512 .bf16) :
    Vec F S1024x4096 .f32 × Vec F S1024x4096 .bf16 × Vec F S1024x512 .bf16 :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.1 p.2.1 p.2.2,
    p.2.1,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.1 p.2.1 p.2.2)

def stD (c : Dev nD) (t : Fin cfg0.N) (h0 : (t.val % 32 = 0 ∧ t.val ≠ 512)) (h1 : ¬t.val = 0) (h2 : ¬t.val % 32 = 1) (p : Vec F S1024x4096 .f32 × Vec F S1024x4096 .bf16 × Vec F S1024x512 .bf16) :
    Vec F S1024x4096 .f32 × Vec F S1024x4096 .bf16 × Vec F S1024x512 .bf16 :=
  (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.1 p.2.2,
    sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.1 p.2.2,
    sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.1 p.2.2)

/-- What the output's buffer and the two scratch buffers hold after each step. -/
def outsAt0 (c : Dev nD) : (n : ℕ) → n < cfg0.N → Vec F S1024x4096 .f32 × Vec F S1024x4096 .bf16 × Vec F S1024x512 .bf16
  | 0, hn => stA m c ⟨0, hn⟩ ⟨rfl, by dsimp only; omega⟩ rfl (by dsimp only; omega)
  | n + 1, hn =>
    if h2 : (n + 1) % 32 = 1 then
      stB m c ⟨n + 1, hn⟩ (by dsimp only; omega) (Nat.succ_ne_zero n) h2 (outsAt0 c n (Nat.lt_of_succ_lt hn))
    else if h0 : (n + 1) % 32 = 0 ∧ n + 1 ≠ 512 then
      stD m c ⟨n + 1, hn⟩ h0 (Nat.succ_ne_zero n) h2 (outsAt0 c n (Nat.lt_of_succ_lt hn))
    else
      stC m c ⟨n + 1, hn⟩ h0 (Nat.succ_ne_zero n) h2 (outsAt0 c n (Nat.lt_of_succ_lt hn))

theorem outsAt0_A (c : Dev nD) (t : Fin cfg0.N) (h0 : (t.val % 32 = 0 ∧ t.val ≠ 512)) (h1 : t.val = 0) (h2 : ¬t.val % 32 = 1) :
    outsAt0 m c t.val t.isLt = stA m c t h0 h1 h2 := by
  obtain ⟨n, hn⟩ := t
  cases n with
  | zero => rfl
  | succ n => exact absurd h1 (Nat.succ_ne_zero n)

theorem outsAt0_B (c : Dev nD) (t : Fin cfg0.N) (h0 : ¬(t.val % 32 = 0 ∧ t.val ≠ 512)) (h1 : ¬t.val = 0) (h2 : t.val % 32 = 1) :
    outsAt0 m c t.val t.isLt = stB m c t h0 h1 h2 (outsAt0 m c (t.val - 1) (Nat.lt_of_le_of_lt (Nat.sub_le _ _) t.isLt)) := by
  obtain ⟨n, hn⟩ := t
  cases n with
  | zero => exact absurd rfl h1
  | succ n => exact dif_pos h2

theorem outsAt0_C (c : Dev nD) (t : Fin cfg0.N) (h0 : ¬(t.val % 32 = 0 ∧ t.val ≠ 512)) (h1 : ¬t.val = 0) (h2 : ¬t.val % 32 = 1) :
    outsAt0 m c t.val t.isLt = stC m c t h0 h1 h2 (outsAt0 m c (t.val - 1) (Nat.lt_of_le_of_lt (Nat.sub_le _ _) t.isLt)) := by
  obtain ⟨n, hn⟩ := t
  cases n with
  | zero => exact absurd rfl h1
  | succ n => exact (dif_neg h2).trans (dif_neg h0)

theorem outsAt0_D (c : Dev nD) (t : Fin cfg0.N) (h0 : (t.val % 32 = 0 ∧ t.val ≠ 512)) (h1 : ¬t.val = 0) (h2 : ¬t.val % 32 = 1) :
    outsAt0 m c t.val t.isLt = stD m c t h0 h1 h2 (outsAt0 m c (t.val - 1) (Nat.lt_of_le_of_lt (Nat.sub_le _ _) t.isLt)) := by
  obtain ⟨n, hn⟩ := t
  cases n with
  | zero => exact absurd rfl h1
  | succ n => exact (dif_neg h2).trans (dif_pos h0)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8_C (c : Dev nD) (t : Fin cfg0.N) (h0 : ¬(t.val % 32 = 0 ∧ t.val ≠ 512)) (h1 : ¬t.val = 0) (h2 : ¬t.val % 32 = 1) (d) :
    (dats m 0 c).before 8 t d = (outsAt0 m c (t.val - 1) (Nat.lt_of_le_of_lt (Nat.sub_le _ _) t.isLt)).1 := by
  have hN : t.val < 513 := lt_of_lt_of_eq t.isLt (show cfg0.N = 513 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_8_D (c : Dev nD) (t : Fin cfg0.N) (h0 : (t.val % 32 = 0 ∧ t.val ≠ 512)) (h1 : ¬t.val = 0) (h2 : ¬t.val % 32 = 1) (d) :
    (dats m 0 c).before 8 t d = (outsAt0 m c (t.val - 1) (Nat.lt_of_le_of_lt (Nat.sub_le _ _) t.isLt)).1 := by
  have hN : t.val < 513 := lt_of_lt_of_eq t.isLt (show cfg0.N = 513 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 20000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 513 := lt_of_lt_of_eq t.isLt (show cfg0.N = 513 from N_0)
  by_cases h0 : (t.val % 32 = 0 ∧ t.val ≠ 512)
  · have h2 : ¬t.val % 32 = 1 := by omega
    by_cases h1 : t.val = 0
    · rw [PhiS_castSucc m c t, PhiS_zero m c _ _ h1, PhiA0_eq]
      rw [outsAt0_A m c t h0 h1 h2]
      unfold stA out0_A_8 sout0_A_1 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _)
    · rw [PhiS_castSucc m c t, PhiS_pos m c _ _ h1]
      rw [outsAt0_D m c t h0 h1 h2]
      simp only [before0_8_D m c t h0 h1 h2]
      unfold stD out0_D_8 sout0_D_1 sout0_D_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_D c (grid0.coords t) _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_D_0 c _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_D_1 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_D_8 c _ _ _ _ _ _ _ _ _ _ _ _ _ _ _ _ _ _ _ _ _ _ _ _ _ _ _ _ _ _ _ _ _ _ _ _)
  · have h1 : ¬t.val = 0 := by omega
    by_cases h2 : t.val % 32 = 1
    · rw [PhiS_castSucc m c t, PhiS_pos m c _ _ h1]
      rw [outsAt0_B m c t h0 h1 h2]
      unfold stB out0_B_8 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _)
    · rw [PhiS_castSucc m c t, PhiS_pos m c _ _ h1]
      rw [outsAt0_C m c t h0 h1 h2]
      simp only [before0_8_C m c t h0 h1 h2]
      unfold stC out0_C_8 sout0_C_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) _ _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, ⟨%e8, H8⟩, HS0, ⟨%es1, HS1⟩⟩
      isplitl [HS0 HS1 Hg]
      · isplitl [HS0 HS1]
        · isplitl [HS0]
          · iexact HS0
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 513 := N_0; omega)

/-! ## The run and the frame -/

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Gen

end
-- ==== Proof.Mlp0.Loops.lean ====
/- What the stores and the two row loops of the feed-forward kernel without a last norm leave. -/
module

public import proofs.«01_k».proof.Proof.Mlp.Final
public import proofs.«01_k».proof.Proof.K3I.Frame

@[expose] public section

set_option maxRecDepth 16384

noncomputable section

namespace Cert.Kernel3Ideal.Hand

open Cert.Kernel3Ideal Cert.Kernel3Ideal.Gen Idealize.ShloMosaic Idealize.ShloMosaic.TcCoe
open Cert.Kernel2Ideal.Hand (mdlB mdl_piece copy_piece cov_full)

/-! The stored vectors are those of the call with a last norm. -/

theorem pay1_eq : k0_pay1 (F := Ideal) = Cert.Kernel2Ideal.Gen.k0_pay5 (F := Ideal) := rfl

theorem pay2_eq : k0_pay2 (F := Ideal) = Cert.Kernel2Ideal.Gen.k0_pay6 (F := Ideal) := rfl

theorem pay3_eq : k0_pay3 (F := Ideal) = Cert.Kernel2Ideal.Gen.k0_pay2 (F := Ideal) := rfl

theorem off1 : ∀ k : Fin k0_t1_loop.trips, k0_off1 k = ![k.val * 16, 0] := by decide +kernel

/-- Sixteen rows modulated are those rows of the block modulated. -/
theorem pay_piece (X : Vec Ideal S1024x4096 .f32) (g : Vec Ideal S1x4096 .f32) (sc sh : Vec Ideal S1x1x1x4096 .f32) (k : ℕ) (o : Fin 2 → ℕ) (h : o = ![k * 16, 0])
    (inb inb') (x : (Rect.unit (s := S1024x4096) o ![16, 4096] inb).shape.Idx) :
    k0_pay3 (F := Ideal) g sc sh (View.ld X (Rect.unit (s := S1024x4096) o ![16, 4096] inb')) x
      = mdlB X g sc sh ((Rect.unit (s := S1024x4096) o ![16, 4096] inb).emb x) := by
  rw [pay3_eq]
  exact mdl_piece X g sc sh k o h inb inb' x

section
variable (𝒱 : Variants) (c : Dev nD) (bd : Option 𝒱.V) (i : grid0.Coords) (arg1 : Memref sig .tc .vmem S1x4096 .f32) (harg1 : arg1.IsWhole) (arg2 : Memref sig .tc .vmem S1x1x1x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S1024x4096 .f32) (harg8 : arg8.IsWhole) (arg9 : Memref sig .tc .vmem S1024x4096 .f32) (harg9 : arg9.IsWhole) (arg10 : Memref sig .tc .vmem S1024x4096 .bf16) (harg10 : arg10.IsWhole) (arg11 : Memref sig .tc .vmem S1024x512 .bf16) (harg11 : arg11.IsWhole)

theorem t1_pieces (h1 : k0_cond1 i = 1#1) (g : Vec Ideal S1x4096 .f32) (sc sh : Vec Ideal S1x1x1x4096 .f32) (X : Vec Ideal S1024x4096 .f32) (n : ℕ) (hn : n ≤ k0_t1_loop.trips) :
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) n, ∀ x : p.1.shape.Idx, p.2 x = mdlB X g sc sh (p.1.emb x) := by
  induction n with
  | zero => intro p hp; rw [pb_k0_t1.eq_1] at hp; simp at hp
  | succ n ih =>
    have ht : ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) ⟨n, hn⟩, ∀ x : p.1.shape.Idx, p.2 x = mdlB X g sc sh (p.1.emb x) := by
      unfold tripL_k0_t1 trip_k0_t1
      dsimp only
      frame_out
      intro p hp
      obtain rfl := List.mem_singleton.mp hp
      intro x
      exact pay_piece X g sc sh n _ (off1 ⟨n, hn⟩) (k0_off1_inb i ⟨n, hn⟩ h1) (k0_off1_inb i ⟨n, hn⟩ h1) x
    intro p hp
    rw [pb_k0_t1_succ 𝒱 c bd i arg1 harg1 arg2 harg2 arg3 harg3 arg4 harg4 arg5 harg5 arg6 harg6 arg7 harg7 arg8 harg8 arg9 harg9 arg10 harg10 arg11 harg11 h1 _ _ _ _ ⟨n, hn⟩] at hp
    rcases List.mem_append.mp hp with h | h
    · exact ht p h
    · exact ih (Nat.le_of_succ_le hn) p h

/-- The modulated rows after their loop. -/
theorem t1_canon (h1 : k0_cond1 i = 1#1) (g : Vec Ideal S1x4096 .f32) (sc sh : Vec Ideal S1x1x1x4096 .f32) (X : Vec Ideal S1024x4096 .f32) :
    View.canon (pb_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) (Scf.trips (0#32) (Scalar.addi 0#32 64#32) 1#32)) = mdlB X g sc sh := by
  funext y
  exact View.canon_apply_of_pieces (mdlB X g sc sh) _ (t1_pieces 𝒱 c bd i arg1 harg1 arg2 harg2 arg3 harg3 arg4 harg4 arg5 harg5 arg6 harg6 arg7 harg7 arg8 harg8 arg9 harg9 arg10 harg10 arg11 harg11 h1 g sc sh X _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 h1 g sc sh (harg8.unread X) (Scf.trips k0_t1_loop.lb k0_t1_loop.ub k0_t1_loop.st)) S16x4096.size (by sl_kernel_rfl) y)

theorem t2_pieces (h3 : k0_cond3 i = 1#1) (X : Vec Ideal S1024x4096 .f32) (n : ℕ) (hn : n ≤ k0_t2_loop.trips) :
    ∀ p ∈ pb_k0_t2 (F := Ideal) 𝒱 c bd i arg1 harg1 arg2 harg2 arg3 harg3 arg4 harg4 arg5 harg5 arg6 harg6 arg7 harg7 arg8 harg8 arg9 harg9 arg10 harg10 arg11 harg11 h3 (harg8.unread X) n, ∀ x : p.1.shape.Idx, p.2 x = X (p.1.emb x) := by
  induction n with
  | zero => intro p hp; rw [pb_k0_t2.eq_1] at hp; simp at hp
  | succ n ih =>
    have ht : ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 h3 (harg8.unread X) ⟨n, hn⟩, ∀ x : p.1.shape.Idx, p.2 x = X (p.1.emb x) := by
      unfold tripL_k0_t2 trip_k0_t2
      dsimp only
      frame_out
      intro p hp
      obtain rfl := List.mem_singleton.mp hp
      intro x
      exact copy_piece X _ (k0_off2_inb i ⟨n, hn⟩ h3) (k0_off2_inb i ⟨n, hn⟩ h3) x
    intro p hp
    rw [pb_k0_t2_succ 𝒱 c bd i arg1 harg1 arg2 harg2 arg3 harg3 arg4 harg4 arg5 harg5 arg6 harg6 arg7 harg7 arg8 harg8 arg9 harg9 arg10 harg10 arg11 harg11 h3 _ ⟨n, hn⟩] at hp
    rcases List.mem_append.mp hp with h | h
    · exact ht p h
    · exact ih (Nat.le_of_succ_le hn) p h

/-- The copied rows after their loop. -/
theorem t2_canon (h3 : k0_cond3 i = 1#1) (X : Vec Ideal S1024x4096 .f32) :
    View.canon (pb_k0_t2 (F := Ideal) 𝒱 c bd i arg1 harg1 arg2 harg2 arg3 harg3 arg4 harg4 arg5 harg5 arg6 harg6 arg7 harg7 arg8 harg8 arg9 harg9 arg10 harg10 arg11 harg11 h3 (harg8.unread X) (Scf.trips (0#32) (Scalar.addi 0#32 64#32) 1#32)) = X := by
  funext y
  exact View.canon_apply_of_pieces X _ (t2_pieces 𝒱 c bd i arg1 harg1 arg2 harg2 arg3 harg3 arg4 harg4 arg5 harg5 arg6 harg6 arg7 harg7 arg8 harg8 arg9 harg9 arg10 harg10 arg11 harg11 h3 X _ le_rfl) y
    (View.cover_of_tiledL (pb_k0_t2 (F := Ideal) 𝒱 c bd i arg1 harg1 arg2 harg2 arg3 harg3 arg4 harg4 arg5 harg5 arg6 harg6 arg7 harg7 arg8 harg8 arg9 harg9 arg10 harg10 arg11 harg11 h3 (harg8.unread X) (Scf.trips k0_t2_loop.lb k0_t2_loop.ub k0_t2_loop.st)) S16x4096.size (by sl_kernel_rfl) y)
end

end Cert.Kernel3Ideal.Hand

end
-- ==== Proof.Mlp0.Steps.lean ====
/- What each step of the feed-forward kernel without a last norm leaves: the output's block, the modulated rows and the hidden block. -/
module

public import proofs.«01_k».proof.Proof.Mlp0.Loops

@[expose] public section

set_option maxRecDepth 16384
set_option maxHeartbeats 1000000

noncomputable section

namespace Cert.Kernel3Ideal.Hand

open Cert.Kernel3Ideal Cert.Kernel3Ideal.Gen Idealize.ShloMosaic Idealize.ShloMosaic.TcCoe
open Cert.Kernel2Ideal.Hand (mdlB cov_full)

variable (m : (ℓ : Loc nD τ sig) → Buf (Elt Ideal) ℓ)

/-- The step's rows, modulated. -/
def xsB (c : Dev nD) (t : Fin cfg0.N) : Vec Ideal S1024x4096 .bf16 := mdlB (iblk m c 7 t) (iblk m c 0 t) (iblk m c 2 t) (iblk m c 1 t)

/-- The step before. -/
def prev (c : Dev nD) (t : Fin cfg0.N) : Vec Ideal S1024x4096 .f32 × Vec Ideal S1024x4096 .bf16 × Vec Ideal S1024x512 .bf16 :=
  outsAt0 m c (t.val - 1) (Nat.lt_of_le_of_lt (Nat.sub_le _ _) t.isLt)

/-- The first step of a tile modulates its rows and computes its first hidden block. -/
theorem st_first (c : Dev nD) (t : Fin cfg0.N) (h : t.val % 32 = 0) (h' : t.val ≠ 512) :
    (outsAt0 m c t.val t.isLt).2.1 = xsB m c t ∧ (outsAt0 m c t.val t.isLt).2.2 = k0_pay2 (xsB m c t) (iblk m c 4 t) := by
  by_cases hz : t.val = 0
  · rw [outsAt0_A m c t ⟨h, h'⟩ hz (by omega)]
    constructor
    · funext y
      dsimp only [stA]; frame_out
      rw [t1_canon]; rfl
    · funext y
      dsimp only [stA]; frame_out
      rw [cov_full, t1_canon]; rfl
  · rw [outsAt0_D m c t ⟨h, h'⟩ hz (by omega)]
    constructor
    · funext y
      dsimp only [stD]; frame_out
      rw [t1_canon]; rfl
    · funext y
      dsimp only [stD]; frame_out
      rw [cov_full, t1_canon]; rfl

/-- The later steps keep the rows -/
theorem st_keep (c : Dev nD) (t : Fin cfg0.N) (h : ¬t.val % 32 = 0) : (outsAt0 m c t.val t.isLt).2.1 = (prev m c t).2.1 := by
  by_cases h1 : t.val % 32 = 1
  · rw [outsAt0_B m c t (by omega) (by omega) h1]
    dsimp only [stB, prev]
  · rw [outsAt0_C m c t (by omega) (by omega) h1]
    dsimp only [stC, prev]

/-- … and compute their own hidden blocks. -/
theorem st_hid (c : Dev nD) (t : Fin cfg0.N) (h : ¬t.val % 32 = 0) : (outsAt0 m c t.val t.isLt).2.2 = k0_pay2 (prev m c t).2.1 (iblk m c 4 t) := by
  by_cases h1 : t.val % 32 = 1
  · rw [outsAt0_B m c t (by omega) (by omega) h1]
    funext y
    dsimp only [stB]; frame_out
    simp only [read_unread_whole]; rfl
  · rw [outsAt0_C m c t (by omega) (by omega) h1]
    funext y
    dsimp only [stC]; frame_out
    simp only [read_unread_whole]; rfl

/-- The output's block: begun from the residual's rows, -/
theorem out_first (c : Dev nD) (t : Fin cfg0.N) (h : t.val % 32 = 1) :
    (outsAt0 m c t.val t.isLt).1 = k0_pay1 (iblk m c 3 t) (prev m c t).2.2 (iblk m c 5 t) (iblk m c 7 t) := by
  rw [outsAt0_B m c t (by omega) (by omega) h]
  funext y
  dsimp only [stB]; frame_out
  rw [cov_full, t2_canon]
  simp only [read_unread_whole]; rfl

/-- … and added to. -/
theorem out_mid (c : Dev nD) (t : Fin cfg0.N) (hz : t.val ≠ 0) (h' : ¬t.val % 32 = 1) :
    (outsAt0 m c t.val t.isLt).1 = k0_pay1 (iblk m c 3 t) (prev m c t).2.2 (iblk m c 5 t) (prev m c t).1 := by
  by_cases h : t.val % 32 = 0 ∧ t.val ≠ 512
  · rw [outsAt0_D m c t h hz h']
    funext y
    dsimp only [stD]; frame_out
    simp only [read_unread_whole]; rfl
  · rw [outsAt0_C m c t h hz h']
    funext y
    dsimp only [stC]; frame_out
    simp only [read_unread_whole]; rfl

end Cert.Kernel3Ideal.Hand

end
-- ==== Proof.Mlp0.Final.lean ====
/- The result array of the feed-forward kernel without a last norm: the layer's formula at every index. -/
module

public import proofs.«01_k».proof.Proof.Mlp0.Steps

@[expose] public section

set_option maxRecDepth 16384

noncomputable section

namespace Cert.Kernel3Ideal.Hand

open Cert.Kernel3Ideal Cert.Kernel3Ideal.Gen Idealize.ShloMosaic Idealize.ShloMosaic.TcCoe
open Cert.Kernel2Ideal.Hand (mdl bat uu yy FinM col col_val gsum hsq Steps cast_at pay5_at pay6_at)

variable (m : (ℓ : Loc nD τ sig) → Buf (Elt Ideal) ℓ)

/-- The windows' blocks at every step: step `t` computes hidden block `t % 32` of tile `t / 32` and adds up hidden block `(t - 1) % 32` of tile `(t - 1) / 32`. -/
theorem idx_val : ∀ t : Fin cfg0.N, win0_0.index t = ![0, 0] ∧ win0_1.index t = ![min (t.val / 32) 15 / 8, 3, 0, 0] ∧ win0_2.index t = ![min (t.val / 32) 15 / 8, 4, 0, 0]
    ∧ win0_3.index t = ![(t.val - 1) / 32 / 8, 5, 0, 0] ∧ win0_4.index t = ![0, t.val % 32] ∧ win0_5.index t = ![(t.val - 1) % 32, 0]
    ∧ win0_6.index t = ![0, 0] ∧ win0_7.index t = ![min (t.val / 32) 15, 0] ∧ win0_8.index t = ![(t.val - 1) / 32, 0] :=
  (by decide +kernel : ∀ t : Fin grid0.N, _)

/-- The gain as the host shapes it. -/
theorem V_v0 (c : Dev nD) : V m c main_v0 = shapeCast S1x4096 (m ((c : Thread nD τ).loc main_arg1)) shapeCasts_S4096_S1x4096 := by
  unfold V
  after_results
  rfl

/-! The blocks of step `t` read at an index of their arrays. -/

theorem gn_read (c : Dev nD) (t : Fin cfg0.N) (k : Fin 4096) : iblk m c 0 t (ix2 0 k) = m ((c : Thread nD τ).loc main_arg1) (ix1 k) := by
  have h : iblk m c 0 t (ix2 0 k) = V m c main_v0 (ix2 0 k) := by
    blk_ext [iblk, idx_val t]
  rw [h, V_v0]
  exact cast_at _ k

theorem sh_read (c : Dev nD) (t : Fin cfg0.N) (k : Fin 4096) (b : Fin 8) (hb : b.val = min (t.val / 32) 15 / 8) :
    iblk m c 1 t (ix4 0 0 0 k) = m ((c : Thread nD τ).loc main_arg2) (ix4 b 3 0 k) := by
  blk_ext [iblk, V, idx_val t]

theorem sc_read (c : Dev nD) (t : Fin cfg0.N) (k : Fin 4096) (b : Fin 8) (hb : b.val = min (t.val / 32) 15 / 8) :
    iblk m c 2 t (ix4 0 0 0 k) = m ((c : Thread nD τ).loc main_arg2) (ix4 b 4 0 k) := by
  blk_ext [iblk, V, idx_val t]

theorem gate_read (c : Dev nD) (t : Fin cfg0.N) (k : Fin 4096) (b : Fin 8) (hb : b.val = (t.val - 1) / 32 / 8) :
    iblk m c 3 t (ix4 0 0 0 k) = m ((c : Thread nD τ).loc main_arg2) (ix4 b 5 0 k) := by
  blk_ext [iblk, V, idx_val t]

theorem w1_read (c : Dev nD) (t : Fin cfg0.N) (k : Fin 4096) (n : Fin 512) (N : Fin 16384) (hN : N.val = t.val % 32 * 512 + n.val) :
    iblk m c 4 t (ix2 k n) = m ((c : Thread nD τ).loc main_arg3) (ix2 k N) := by
  blk_ext [iblk, V, idx_val t]

theorem w2_read (c : Dev nD) (t : Fin cfg0.N) (n : Fin 512) (d : Fin 4096) (N : Fin 16384) (hN : N.val = (t.val - 1) % 32 * 512 + n.val) :
    iblk m c 5 t (ix2 n d) = m ((c : Thread nD τ).loc main_arg4) (ix2 N d) := by
  blk_ext [iblk, V, idx_val t]

theorem h_read (c : Dev nD) (t : Fin cfg0.N) (r : Fin 1024) (d : Fin 4096) (R : Fin 16384) (hR : R.val = min (t.val / 32) 15 * 1024 + r.val) :
    iblk m c 7 t (ix2 r d) = m ((c : Thread nD τ).loc main_arg0) (ix2 R d) := by
  blk_ext [iblk, V, idx_val t]

/-! What a step stores, over the arrays. -/

theorem hid_step (c : Dev nD) (t : Fin cfg0.N) (X : Vec Ideal S1024x4096 .bf16) (r : Fin 1024) (j : Fin 512) :
    k0_pay2 X (iblk m c 4 t) (ix2 r j) = hsq (m ((c : Thread nD τ).loc main_arg3)) X r (col t.val j) := by
  rw [pay2_eq, pay6_at]
  unfold hsq
  simp only [w1_read m c t _ j (col t.val j) (col_val t.val j)]

theorem out_step (c : Dev nD) (t : Fin cfg0.N) (hz : t.val ≠ 0) (z : Vec Ideal S1024x512 .bf16) (o : Vec Ideal S1024x4096 .f32) (r : Fin 1024) (d : Fin 4096) (R : Fin 16384)
    (hR : R.val = (t.val - 1) / 32 * 1024 + r.val) :
    k0_pay1 (iblk m c 3 t) z (iblk m c 5 t) o (ix2 r d)
      = gsum (m ((c : Thread nD τ).loc main_arg2)) (m ((c : Thread nD τ).loc main_arg4)) z (t.val - 1) R r d + o (ix2 r d) := by
  have ht : t.val < 513 := lt_of_lt_of_eq t.isLt Gen.N_0
  have hb : (bat R).val = (t.val - 1) / 32 / 8 := by show R.val / 8192 = _; omega
  rw [pay1_eq, pay5_at, gate_read m c t d (bat R) hb]
  unfold gsum
  simp only [w2_read m c t _ d (col (t.val - 1) _) (col_val (t.val - 1) _)]

/-- The steps are those of the formula. -/
theorem steps (c : Dev nD) : Steps (m ((c : Thread nD τ).loc main_arg0)) (m ((c : Thread nD τ).loc main_arg1)) (m ((c : Thread nD τ).loc main_arg2))
    (m ((c : Thread nD τ).loc main_arg3)) (m ((c : Thread nD τ).loc main_arg4)) cfg0.N (outsAt0 m c) where
  len := Gen.N_0
  first n hn h h512 r k R hR := by
    have hb : (bat R).val = min (n / 32) 15 / 8 := by show R.val / 8192 = _; omega
    refine (congrFun (st_first m c ⟨n, hn⟩ h (by show n ≠ 512; omega)).1 _).trans ?_
    refine Eq.trans (b := mdl (fun k => iblk m c 7 ⟨n, hn⟩ (ix2 r k)) (fun k => iblk m c 0 ⟨n, hn⟩ (ix2 0 k)) (fun k => iblk m c 2 ⟨n, hn⟩ (ix4 0 0 0 k)) (fun k => iblk m c 1 ⟨n, hn⟩ (ix4 0 0 0 k)) k) rfl ?_
    unfold uu
    simp only [gn_read, sh_read m c ⟨n, hn⟩ _ (bat R) hb, sc_read m c ⟨n, hn⟩ _ (bat R) hb, h_read m c ⟨n, hn⟩ r _ R (by show R.val = min (n / 32) 15 * 1024 + r.val; omega)]
  keep n hn h := st_keep m c ⟨n + 1, hn⟩ h
  hid n hn h512 r j := by
    by_cases h : n % 32 = 0
    · have e := st_first m c ⟨n, hn⟩ h (by show n ≠ 512; omega)
      exact (congrFun e.2 _).trans ((hid_step m c ⟨n, hn⟩ _ r j).trans (congrArg (fun X => hsq _ X r _) e.1.symm))
    · exact (congrFun (st_hid m c ⟨n, hn⟩ h) _).trans ((hid_step m c ⟨n, hn⟩ _ r j).trans (congrArg (fun X => hsq _ X r _) (st_keep m c ⟨n, hn⟩ h).symm))
  begun n hn h r d R hR := by
    have hN : n + 1 < 513 := lt_of_lt_of_eq hn Gen.N_0
    refine (congrFun (out_first m c ⟨n + 1, hn⟩ (by show (n + 1) % 32 = 1; omega)) _).trans ((out_step m c ⟨n + 1, hn⟩ (Nat.succ_ne_zero n) _ _ r d R hR).trans ?_)
    exact congrArg (HAdd.hAdd (α := EReal) _) (h_read m c ⟨n + 1, hn⟩ r d R (by show R.val = min ((n + 1) / 32) 15 * 1024 + r.val; omega))
  added n hn h h' r d R hR :=
    (congrFun (out_mid m c ⟨n + 1, hn⟩ (Nat.succ_ne_zero n) (by show ¬(n + 1) % 32 = 1; omega)) _).trans (out_step m c ⟨n + 1, hn⟩ (Nat.succ_ne_zero n) _ _ r d R hR)

/-- The output's block when its tile is done. -/
theorem out_done (c : Dev nD)
    (hf : FinM (m ((c : Thread nD τ).loc main_arg1)) (m ((c : Thread nD τ).loc main_arg2)) (m ((c : Thread nD τ).loc main_arg3)) (m ((c : Thread nD τ).loc main_arg4)))
    (t : Fin cfg0.N) (h : t.val % 32 = 0) (hz : t.val ≠ 0) (r : Fin 1024) (d : Fin 4096) (R : Fin 16384)
    (hR : R.val = (t.val - 1) / 32 * 1024 + r.val) :
    (outsAt0 m c t.val t.isLt).1 (ix2 r d)
      = yy (m ((c : Thread nD τ).loc main_arg0)) (m ((c : Thread nD τ).loc main_arg1)) (m ((c : Thread nD τ).loc main_arg2)) (m ((c : Thread nD τ).loc main_arg3))
        (m ((c : Thread nD τ).loc main_arg4)) R d := by
  have ht : t.val < 513 := lt_of_lt_of_eq t.isLt Gen.N_0
  refine (congrFun (out_mid m c t hz (by omega)) _).trans ?_
  exact (out_step m c t hz _ _ r d R hR).trans ((steps m c).total hf (t.val - 1) _ (by omega) (by omega) r d R hR)

/-- The result array is any array of the formula's values. -/
theorem final (c : Dev nD)
    (hf : FinM (m ((c : Thread nD τ).loc main_arg1)) (m ((c : Thread nD τ).loc main_arg2)) (m ((c : Thread nD τ).loc main_arg3)) (m ((c : Thread nD τ).loc main_arg4)))
    (G : FVec Ideal S16384x4096 .f32)
    (hG : ∀ R d, G (ix2 R d) = yy (m ((c : Thread nD τ).loc main_arg0)) (m ((c : Thread nD τ).loc main_arg1)) (m ((c : Thread nD τ).loc main_arg2))
      (m ((c : Thread nD τ).loc main_arg3)) (m ((c : Thread nD τ).loc main_arg4)) R d) :
    (dats m 0 c).arrAt 8 (cfgs 0).N = G := by
  refine (dats m 0 c).arrAt_eq_of_covers 8 G (by decide +kernel) fun t hfl y => ?_
  obtain ⟨h, hz⟩ := (flush0_8 t).1 hfl
  blk_simp
  rw [after0_8]
  have ht : t.val < 513 := lt_of_lt_of_eq t.isLt Gen.N_0
  have h0 : (y 0).val < 1024 := (y 0).isLt
  have h1 : (y 1).val < 4096 := (y 1).isLt
  refine Eq.trans (b := (outsAt0 m c t.val t.isLt).1 (ix2 ⟨(y 0).val, h0⟩ ⟨(y 1).val, h1⟩)) (congrArg _ (by funext i; fin_cases i <;> rfl)) ?_
  refine (out_done m c hf t h hz _ _ ⟨(t.val - 1) / 32 * 1024 + (y 0).val, by omega⟩ rfl).trans ((hG _ _).symm.trans ?_)
  blk_ext [idx_val t]

end Cert.Kernel3Ideal.Hand

end
-- ==== Proof.Mlp0.Ref.lean ====
/- The result at an index of the feed-forward reference without a last norm: the layer's formula. -/
module

public import proofs.«01_k».proof.Proof.Mlp.Ref
public import proofs.«01_k».proof.Proof.Gen.Reference3Ideal.Run

@[expose] public section

set_option maxRecDepth 16384

noncomputable section

namespace Cert.Reference3Ideal.Hand

open Cert.Reference3Ideal Cert.Reference3Ideal.Gen Idealize.ShloMosaic Idealize.ShloMosaic.TcCoe
open Cert.Kernel2Ideal.Hand (yy)
open Cert.Reference2Ideal.Hand (byBatch normed moded relud gated joined joined_at yy_eq)

theorem res_eq (m : (ℓ : Loc nD τ sig) → Buf (Elt Ideal) ℓ) (c : Dev nD) :
    Value.res_main_v35 m c = joined (gated (byBatch (m ((c.tc : Thread nD τ).loc main_arg0))) (m ((c.tc : Thread nD τ).loc main_arg2))
      (relud (moded (normed (byBatch (m ((c.tc : Thread nD τ).loc main_arg0))) (m ((c.tc : Thread nD τ).loc main_arg1))) (m ((c.tc : Thread nD τ).loc main_arg2)))
        (m ((c.tc : Thread nD τ).loc main_arg3))) (m ((c.tc : Thread nD τ).loc main_arg4))) := rfl

/-- The reference's result is the array of the formula. -/
theorem ref_final (m : (ℓ : Loc nD τ sig) → Buf (Elt Ideal) ℓ) (c : Dev nD) (R : Fin 16384) (d : Fin 4096) :
    Value.res_main_v35 m c (ix2 R d) = yy (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) R d := by
  rw [res_eq, joined_at]
  exact yy_eq _ _ _ _ _ R d

end Cert.Reference3Ideal.Hand

end
-- ==== Proof.Proj.Even.lean ====
/- The first layer's input projection: a block, the result array and the reference at an index are the product's element. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe

/-- Element `d` of head `j` of token `R`: the token's row times column `128 j + d` of the weight. -/
def proj (A0 : FVec Ideal S16384x4096 .bf16) (A1 : FVec Ideal S4096x9216 .bf16) (j : Fin 72) (R : Fin 16384) (d : Fin 128) : EReal :=
  ∑ k : Fin 4096, A0 (ix2 R k) * A1 (ix2 k ⟨j.val * 128 + d.val, by omega⟩)

theorem pay4_at (x : Vec Ideal S1024x4096 .bf16) (w : Vec Ideal S4096x1024 .bf16) (r n : Fin 1024) :
    k0_pay4 x w (ix2 r n) = ∑ k : Fin 4096, x (ix2 r k) * w (ix2 k n) := by
  pointwise [k0_pay4]

/-- The block that a step stores, at an index. -/
theorem out_at (x : Vec Ideal S1024x4096 .bf16) (w : Vec Ideal S4096x1024 .bf16) (j : Fin 8) (r : Fin 1024) (d : Fin 128) :
    out0_2 x w (ix3 j r d) = ∑ k : Fin 4096, x (ix2 r k) * w (ix2 k ⟨j.val * 128 + d.val, by omega⟩) := by
  have hx : View.ld x r0_0 = x := View.ld_unit_zero (by funext a; fin_cases a <;> rfl) _ x
  have hw : View.ld w r0_1 = w := View.ld_unit_zero (by funext a; fin_cases a <;> rfl) _ w
  refine (Value.canon2_eq (View.ld x r0_0) (View.ld w r0_1) (ix3 j r d)).trans ?_
  rw [hx, hw]
  refine Eq.trans ?_ (pay4_at x w r ⟨j.val * 128 + d.val, by omega⟩)
  exact congrArg (k0_pay4 x w) (by funext a; fin_cases a <;> rfl)

variable (m : (ℓ : Loc nD τ sig) → Buf (Elt Ideal) ℓ)

/-- Step `t` multiplies tile `t % 16` of the tokens by block `t / 16` of the weight's columns. -/
theorem idx_val : ∀ t : Fin cfg0.N, win0_0.index t = ![t.val % 16, 0] ∧ win0_1.index t = ![0, t.val / 16] ∧ win0_2.index t = ![t.val / 16, t.val % 16, 0] :=
  (by decide +kernel : ∀ t : Fin grid0.N, _)

theorem x_read (c : Dev nD) (t : Fin cfg0.N) (r : Fin 1024) (k : Fin 4096) (R : Fin 16384) (hR : R.val = t.val % 16 * 1024 + r.val) :
    iblk m c 0 t (ix2 r k) = m ((c : Thread nD τ).loc main_arg0) (ix2 R k) := by
  blk_ext [iblk, V, idx_val t]

theorem w_read (c : Dev nD) (t : Fin cfg0.N) (k : Fin 4096) (n : Fin 1024) (N : Fin 9216) (hN : N.val = t.val / 16 * 1024 + n.val) :
    iblk m c 1 t (ix2 k n) = m ((c : Thread nD τ).loc main_arg1) (ix2 k N) := by
  blk_ext [iblk, V, idx_val t]

theorem block_at (c : Dev nD) (t : Fin cfg0.N) (j : Fin 8) (r : Fin 1024) (d : Fin 128) (J : Fin 72) (hJ : J.val = t.val / 16 * 8 + j.val)
    (R : Fin 16384) (hR : R.val = t.val % 16 * 1024 + r.val) :
    out0_2 (iblk m c 0 t) (iblk m c 1 t) (ix3 j r d) = proj (m ((c : Thread nD τ).loc main_arg0)) (m ((c : Thread nD τ).loc main_arg1)) J R d := by
  rw [out_at]
  unfold proj
  simp only [x_read m c t r _ R hR, w_read m c t _ ⟨j.val * 128 + d.val, by omega⟩ ⟨J.val * 128 + d.val, by omega⟩ (by show J.val * 128 + d.val = t.val / 16 * 1024 + (j.val * 128 + d.val); omega)]

/-- The result array is any array of the products' elements. -/
theorem final (c : Dev nD) (G : FVec Ideal S72x16384x128 .bf16)
    (hG : ∀ J R d, G (ix3 J R d) = proj (m ((c : Thread nD τ).loc main_arg0)) (m ((c : Thread nD τ).loc main_arg1)) J R d) :
    (dats m 0 c).arrAt 2 (cfgs 0).N = G := by
  refine (dats m 0 c).arrAt_eq_of_covers 2 G (by decide +kernel) fun t hfl y => ?_
  blk_simp
  rw [after0_2]
  have ht : t.val < 144 := lt_of_lt_of_eq t.isLt Gen.N_0
  have h0 : (y 0).val < 8 := (y 0).isLt
  have h1 : (y 1).val < 1024 := (y 1).isLt
  have h2 : (y 2).val < 128 := (y 2).isLt
  refine Eq.trans (b := out0_2 (iblk m c 0 t) (iblk m c 1 t) (ix3 ⟨(y 0).val, h0⟩ ⟨(y 1).val, h1⟩ ⟨(y 2).val, h2⟩)) (congrArg _ (by funext i; fin_cases i <;> rfl)) ?_
  refine (block_at m c t _ _ _ ⟨t.val / 16 * 8 + (y 0).val, by omega⟩ rfl ⟨t.val % 16 * 1024 + (y 1).val, by omega⟩ rfl).trans ((hG _ _ _).symm.trans ?_)
  blk_ext [idx_val t]

end Cert.Kernel4Ideal.Hand

namespace Cert.Reference4Ideal.Hand

open Cert.Reference4Ideal Cert.Reference4Ideal.Gen Idealize.ShloMosaic Idealize.ShloMosaic.TcCoe

/-- The reference's result as a function of its arguments. -/
def res (A0 : FVec Ideal S16384x4096 .bf16) (A1 : FVec Ideal S4096x9216 .bf16) : FVec Ideal S72x16384x128 .bf16 :=
  truncf .bf16 (transpose S72x16384x128 [1, 0, 2] (shapeCast S16384x72x128 (Host.dotGeneral dot_S16384x4096_S4096x9216_S16384x9216_1_0_0_1_n_n none (extf .f32 A0 bitsLt_bf16_f32) (extf .f32 A1 bitsLt_bf16_f32)) shapeCasts_S16384x9216_S16384x72x128) transposes_S16384x72x128_S72x16384x128_1_0_2) bitsLt_bf16_f32

theorem res_at (A0 : FVec Ideal S16384x4096 .bf16) (A1 : FVec Ideal S4096x9216 .bf16) (J : Fin 72) (R : Fin 16384) (d : Fin 128) :
    res A0 A1 (ix3 J R d) = Cert.Kernel4Ideal.Hand.proj A0 A1 J R d := by
  unfold Cert.Kernel4Ideal.Hand.proj
  pointwise [res]

end Cert.Reference4Ideal.Hand

end
-- ==== Proof.Proj.Odd.lean ====
/- The second layer's input projection: a block, the result array and the reference at an index are the product's element. -/
module

public import proofs.«01_k».proof.Proof.Proj.Even
public import proofs.«01_k».proof.Proof.Gen.Kernel5Ideal.Value
public import proofs.«01_k».proof.Proof.Gen.Reference5Ideal.Run

@[expose] public section

set_option maxRecDepth 16384

noncomputable section

namespace Cert.Kernel5Ideal.Hand

open Cert.Kernel5Ideal Cert.Kernel5Ideal.Gen Idealize.ShloMosaic Idealize.ShloMosaic.TcCoe

/-- Element `d` of head `j` of token `R`: the token's row times column `128 j + d` of the weight. -/
def proj (A0 : FVec Ideal S16384x4096 .bf16) (A1 : FVec Ideal S4096x12288 .bf16) (j : Fin 96) (R : Fin 16384) (d : Fin 128) : EReal :=
  ∑ k : Fin 4096, A0 (ix2 R k) * A1 (ix2 k ⟨j.val * 128 + d.val, by omega⟩)

/-- The block that a step stores, at an index: the first layer's call stores the same. -/
theorem out_at (x : Vec Ideal S1024x4096 .bf16) (w : Vec Ideal S4096x1024 .bf16) (j : Fin 8) (r : Fin 1024) (d : Fin 128) :
    out0_2 x w (ix3 j r d) = ∑ k : Fin 4096, x (ix2 r k) * w (ix2 k ⟨j.val * 128 + d.val, by omega⟩) :=
  Cert.Kernel4Ideal.Hand.out_at x w j r d

variable (m : (ℓ : Loc nD τ sig) → Buf (Elt Ideal) ℓ)

/-- Step `t` multiplies tile `t % 16` of the tokens by block `t / 16` of the weight's columns. -/
theorem idx_val : ∀ t : Fin cfg0.N, win0_0.index t = ![t.val % 16, 0] ∧ win0_1.index t = ![0, t.val / 16] ∧ win0_2.index t = ![t.val / 16, t.val % 16, 0] :=
  (by decide +kernel : ∀ t : Fin grid0.N, _)

theorem x_read (c : Dev nD) (t : Fin cfg0.N) (r : Fin 1024) (k : Fin 4096) (R : Fin 16384) (hR : R.val = t.val % 16 * 1024 + r.val) :
    iblk m c 0 t (ix2 r k) = m ((c : Thread nD τ).loc main_arg0) (ix2 R k) := by
  blk_ext [iblk, V, idx_val t]

theorem w_read (c : Dev nD) (t : Fin cfg0.N) (k : Fin 4096) (n : Fin 1024) (N : Fin 12288) (hN : N.val = t.val / 16 * 1024 + n.val) :
    iblk m c 1 t (ix2 k n) = m ((c : Thread nD τ).loc main_arg1) (ix2 k N) := by
  blk_ext [iblk, V, idx_val t]

theorem block_at (c : Dev nD) (t : Fin cfg0.N) (j : Fin 8) (r : Fin 1024) (d : Fin 128) (J : Fin 96) (hJ : J.val = t.val / 16 * 8 + j.val)
    (R : Fin 16384) (hR : R.val = t.val % 16 * 1024 + r.val) :
    out0_2 (iblk m c 0 t) (iblk m c 1 t) (ix3 j r d) = proj (m ((c : Thread nD τ).loc main_arg0)) (m ((c : Thread nD τ).loc main_arg1)) J R d := by
  rw [out_at]
  unfold proj
  simp only [x_read m c t r _ R hR, w_read m c t _ ⟨j.val * 128 + d.val, by omega⟩ ⟨J.val * 128 + d.val, by omega⟩ (by show J.val * 128 + d.val = t.val / 16 * 1024 + (j.val * 128 + d.val); omega)]

/-- The result array is any array of the products' elements. -/
theorem final (c : Dev nD) (G : FVec Ideal S96x16384x128 .bf16)
    (hG : ∀ J R d, G (ix3 J R d) = proj (m ((c : Thread nD τ).loc main_arg0)) (m ((c : Thread nD τ).loc main_arg1)) J R d) :
    (dats m 0 c).arrAt 2 (cfgs 0).N = G := by
  refine (dats m 0 c).arrAt_eq_of_covers 2 G (by decide +kernel) fun t hfl y => ?_
  blk_simp
  rw [after0_2]
  have ht : t.val < 192 := lt_of_lt_of_eq t.isLt Gen.N_0
  have h0 : (y 0).val < 8 := (y 0).isLt
  have h1 : (y 1).val < 1024 := (y 1).isLt
  have h2 : (y 2).val < 128 := (y 2).isLt
  refine Eq.trans (b := out0_2 (iblk m c 0 t) (iblk m c 1 t) (ix3 ⟨(y 0).val, h0⟩ ⟨(y 1).val, h1⟩ ⟨(y 2).val, h2⟩)) (congrArg _ (by funext i; fin_cases i <;> rfl)) ?_
  refine (block_at m c t _ _ _ ⟨t.val / 16 * 8 + (y 0).val, by omega⟩ rfl ⟨t.val % 16 * 1024 + (y 1).val, by omega⟩ rfl).trans ((hG _ _ _).symm.trans ?_)
  blk_ext [idx_val t]

end Cert.Kernel5Ideal.Hand

namespace Cert.Reference5Ideal.Hand

open Cert.Reference5Ideal Cert.Reference5Ideal.Gen Idealize.ShloMosaic Idealize.ShloMosaic.TcCoe

/-- The reference's result as a function of its arguments. -/
def res (A0 : FVec Ideal S16384x4096 .bf16) (A1 : FVec Ideal S4096x12288 .bf16) : FVec Ideal S96x16384x128 .bf16 :=
  truncf .bf16 (transpose S96x16384x128 [1, 0, 2] (shapeCast S16384x96x128 (Host.dotGeneral dot_S16384x4096_S4096x12288_S16384x12288_1_0_0_1_n_n none (extf .f32 A0 bitsLt_bf16_f32) (extf .f32 A1 bitsLt_bf16_f32)) shapeCasts_S16384x12288_S16384x96x128) transposes_S16384x96x128_S96x16384x128_1_0_2) bitsLt_bf16_f32

theorem res_at (A0 : FVec Ideal S16384x4096 .bf16) (A1 : FVec Ideal S4096x12288 .bf16) (J : Fin 96) (R : Fin 16384) (d : Fin 128) :
    res A0 A1 (ix3 J R d) = Cert.Kernel5Ideal.Hand.proj A0 A1 J R d := by
  unfold Cert.Kernel5Ideal.Hand.proj
  pointwise [res]

end Cert.Reference5Ideal.Hand

end
-- ==== Proof.Proj.Out.lean ====
/- The second layer's output projection: a block, the result array and the reference at an index are the residual and the gated product. -/
module

public import proofs.«01_k».proof.Proof.Mlp.Ref
public import proofs.«01_k».proof.Proof.Gen.Kernel6Ideal.Value
public import proofs.«01_k».proof.Proof.Gen.Reference6Ideal.Run

@[expose] public section

set_option maxRecDepth 16384

noncomputable section

namespace Cert.Kernel6Ideal.Hand

open Cert.Kernel6Ideal Cert.Kernel6Ideal.Gen Idealize.ShloMosaic Idealize.ShloMosaic.TcCoe
open Cert.Kernel2Ideal.Hand (bat)

/-- The residual of token `R` and, times its batch's gate, the token's row `o` times column `d` of the weight. -/
def added (W : FVec Ideal S4096x4096 .bf16) (X : FVec Ideal S16384x4096 .f32) (M : FVec Ideal S8x6x1x4096 .f32) (o : Fin 4096 → EReal)
    (R : Fin 16384) (d : Fin 4096) : EReal :=
  X (ix2 R d) + M (ix4 (bat R) 2 0 d) * ∑ k : Fin 4096, o k * W (ix2 k d)

theorem zeros2 : (![0, 0] : Fin 2 → ℕ) = fun _ => 0 := by
  funext a
  fin_cases a <;> rfl

/-- The block that a step stores, at an index. -/
theorem out_at (x : Vec Ideal S1024x4096 .bf16) (w : Vec Ideal S4096x1024 .bf16) (h : Vec Ideal S1024x1024 .f32) (g : Vec Ideal S1x1x1x1024 .f32) (r d : Fin 1024) :
    out0_4 x w h g (ix2 r d) = h (ix2 r d) + g (ix4 0 0 0 d) * ∑ k : Fin 4096, x (ix2 r k) * w (ix2 k d) := by
  have e : out0_4 x w h g = k0_pay1 x w h g := by
    unfold out0_4
    rw [View.canon_unit_zero zeros2, View.ld_unit_zero zeros2, View.ld_unit_zero zeros2, View.ld_unit_zero zeros2, View.ld_unit_zero (by funext a; fin_cases a <;> rfl)]
  rw [e]
  pointwise [k0_pay1]

variable (m : (ℓ : Loc nD τ sig) → Buf (Elt Ideal) ℓ)

/-- Step `t` computes block `t / 16` of the columns of tile `t % 16` of the tokens. -/
theorem idx_val : ∀ t : Fin cfg0.N, win0_0.index t = ![t.val % 16, 0] ∧ win0_1.index t = ![0, t.val / 16] ∧ win0_2.index t = ![t.val % 16, t.val / 16]
    ∧ win0_3.index t = ![t.val % 16 / 8, 2, 0, t.val / 16] ∧ win0_4.index t = ![t.val % 16, t.val / 16] :=
  (by decide +kernel : ∀ t : Fin grid0.N, _)

section
variable (c : Dev nD) (t : Fin cfg0.N) (r : Fin 1024) (R : Fin 16384) (hR : R.val = t.val % 16 * 1024 + r.val) (d : Fin 1024) (D : Fin 4096)
  (hD : D.val = t.val / 16 * 1024 + d.val)
include hR in
theorem x_read (k : Fin 4096) : iblk m c 0 t (ix2 r k) = m ((c : Thread nD τ).loc main_arg0) (ix2 R k) := by
  blk_ext [iblk, V, idx_val t]

include hD in
theorem w_read (k : Fin 4096) : iblk m c 1 t (ix2 k d) = m ((c : Thread nD τ).loc main_arg1) (ix2 k D) := by
  blk_ext [iblk, V, idx_val t]

include hR hD in
theorem h_read : iblk m c 2 t (ix2 r d) = m ((c : Thread nD τ).loc main_arg2) (ix2 R D) := by
  blk_ext [iblk, V, idx_val t]

include hD in
theorem g_read (b : Fin 8) (hb : b.val = t.val % 16 / 8) : iblk m c 3 t (ix4 0 0 0 d) = m ((c : Thread nD τ).loc main_arg3) (ix4 b 2 0 D) := by
  blk_ext [iblk, V, idx_val t]

include hR hD in
theorem block_at : out0_4 (iblk m c 0 t) (iblk m c 1 t) (iblk m c 2 t) (iblk m c 3 t) (ix2 r d)
    = added (m ((c : Thread nD τ).loc main_arg1)) (m ((c : Thread nD τ).loc main_arg2)) (m ((c : Thread nD τ).loc main_arg3))
      (fun k => m ((c : Thread nD τ).loc main_arg0) (ix2 R k)) R D := by
  have hb : (bat R).val = t.val % 16 / 8 := by show R.val / 8192 = _; omega
  rw [out_at]
  unfold added
  simp only [x_read m c t r R hR, w_read m c t d D hD, h_read m c t r R hR d D hD, g_read m c t d D hD (bat R) hb]
end

/-- The result array is any array of the formula's values. -/
theorem final (c : Dev nD) (G : FVec Ideal S16384x4096 .f32)
    (hG : ∀ R D, G (ix2 R D) = added (m ((c : Thread nD τ).loc main_arg1)) (m ((c : Thread nD τ).loc main_arg2)) (m ((c : Thread nD τ).loc main_arg3))
      (fun k => m ((c : Thread nD τ).loc main_arg0) (ix2 R k)) R D) :
    (dats m 0 c).arrAt 4 (cfgs 0).N = G := by
  refine (dats m 0 c).arrAt_eq_of_covers 4 G (by decide +kernel) fun t hfl y => ?_
  blk_simp
  rw [after0_4]
  have ht : t.val < 64 := lt_of_lt_of_eq t.isLt Gen.N_0
  have h0 : (y 0).val < 1024 := (y 0).isLt
  have h1 : (y 1).val < 1024 := (y 1).isLt
  refine Eq.trans (b := out0_4 (iblk m c 0 t) (iblk m c 1 t) (iblk m c 2 t) (iblk m c 3 t) (ix2 ⟨(y 0).val, h0⟩ ⟨(y 1).val, h1⟩)) (congrArg _ (by funext i; fin_cases i <;> rfl)) ?_
  refine (block_at m c t _ ⟨t.val % 16 * 1024 + (y 0).val, by omega⟩ rfl _ ⟨t.val / 16 * 1024 + (y 1).val, by omega⟩ rfl).trans ((hG _ _).symm.trans ?_)
  blk_ext [idx_val t]

end Cert.Kernel6Ideal.Hand

namespace Cert.Reference6Ideal.Hand

open Cert.Reference6Ideal Cert.Reference6Ideal.Gen Idealize.ShloMosaic Idealize.ShloMosaic.TcCoe
open Cert.Reference2Ideal.Hand (byBatch joined joined_at byBatch_tok tb tp)
open Cert.Kernel6Ideal.Hand (added)

/-- The residual and the gated product, batch by batch. -/
def gated (X : FVec Ideal S2x8192x4096 .f32) (M : FVec Ideal S8x6x1x4096 .f32) (O : FVec Ideal S2x8192x4096 .f32) (W : FVec Ideal S4096x4096 .bf16) :
    FVec Ideal S2x8192x4096 .f32 :=
  addf X (mulf (broadcastInDim S2x8192x4096 ![0, 1, 2] bcast_S2x1x4096_S2x8192x4096_0_1_2 (shapeCast S2x1x4096 (extractStridedSlice S2x1x1x4096 ![0, 2, 0, 0] M slices_S8x6x1x4096_S2x1x1x4096_0_2_0_0) shapeCasts_S2x1x1x4096_S2x1x4096)) (Host.dotGeneral dot_S2x8192x4096_S4096x4096_S2x8192x4096_2_0_01_1_n_n none O (extf .f32 W bitsLt_bf16_f32)))

theorem gated_at (X : FVec Ideal S2x8192x4096 .f32) (M : FVec Ideal S8x6x1x4096 .f32) (O : FVec Ideal S2x8192x4096 .f32) (W : FVec Ideal S4096x4096 .bf16)
    (b : Fin 2) (s : Fin 8192) (d : Fin 4096) :
    gated X M O W (ix3 b s d) = X (ix3 b s d) + M (ix4 (⟨b.val, by omega⟩ : Fin 8) (2 : Fin 6) (0 : Fin 1) d) * ∑ k : Fin 4096, O (ix3 b s k) * W (ix2 k d) := by
  pointwise [gated]

/-- The result from the rows `O` that are projected. -/
def res (O : FVec Ideal S16384x4096 .f32) (W : FVec Ideal S4096x4096 .bf16) (X : FVec Ideal S16384x4096 .f32) (M : FVec Ideal S8x6x1x4096 .f32) :
    FVec Ideal S16384x4096 .f32 := joined (gated (byBatch X) M (byBatch O) W)

theorem res_at (O : FVec Ideal S16384x4096 .f32) (W : FVec Ideal S4096x4096 .bf16) (X : FVec Ideal S16384x4096 .f32) (M : FVec Ideal S8x6x1x4096 .f32)
    (R : Fin 16384) (d : Fin 4096) : res O W X M (ix2 R d) = added W X M (fun k => O (ix2 R k)) R d := by
  unfold res
  rw [joined_at, gated_at, byBatch_tok]
  simp only [byBatch_tok]
  rfl

end Cert.Reference6Ideal.Hand

end
-- ==== Proof.Proj.OutEven.lean ====
/- The first layer's output projection, of two arrays of heads side by side: a block, the result array and the reference at an index. -/
module

public import proofs.«01_k».proof.Proof.Proj.Out
public import proofs.«01_k».proof.Proof.Gen.Kernel7Ideal.Value
public import proofs.«01_k».proof.Proof.Gen.Reference7Ideal.Run

@[expose] public section

set_option maxRecDepth 16384

noncomputable section

namespace Cert.Kernel7Ideal.Hand

open Cert.Kernel7Ideal Cert.Kernel7Ideal.Gen Idealize.ShloMosaic Idealize.ShloMosaic.TcCoe
open Cert.Kernel2Ideal.Hand (bat)
open Cert.Kernel6Ideal.Hand (added zeros2)

/-- Token `R`'s row of the first array, then its row of the second. -/
def both (A B : FVec Ideal S16384x2048 .bf16) (R : Fin 16384) (k : Fin 4096) : EReal :=
  if h : k.val < 2048 then A (ix2 R ⟨k.val, h⟩) else B (ix2 R ⟨k.val - 2048, by omega⟩)

/-- A sum over 4096 indices is that over the first 2048 and that over the others. -/
theorem sum_halves (f : Fin 4096 → EReal) : ∑ k, f k = ∑ k : Fin 2048, f ⟨k.val, by omega⟩ + ∑ k : Fin 2048, f ⟨2048 + k.val, by omega⟩ :=
  Fin.sum_univ_add (a := 2048) (b := 2048) f

theorem pay1_at (x : Vec Ideal S1024x2048 .bf16) (w : Vec Ideal S2048x1024 .bf16) (y : Vec Ideal S1024x2048 .bf16) (v : Vec Ideal S2048x1024 .bf16)
    (h : Vec Ideal S1024x1024 .f32) (g : Vec Ideal S1x1x1x1024 .f32) (r d : Fin 1024) :
    k0_pay1 x w y v h g (ix2 r d) = h (ix2 r d) + g (ix4 0 0 0 d) * (∑ k : Fin 2048, x (ix2 r k) * w (ix2 k d) + ∑ k : Fin 2048, y (ix2 r k) * v (ix2 k d)) := by
  pointwise [k0_pay1]

/-- The block that a step stores, at an index. -/
theorem out_at (x y : Vec Ideal S1024x2048 .bf16) (w : Vec Ideal S4096x1024 .bf16) (h : Vec Ideal S1024x1024 .f32) (g : Vec Ideal S1x1x1x1024 .f32) (r d : Fin 1024) :
    out0_5 x y w h g (ix2 r d) = h (ix2 r d) + g (ix4 0 0 0 d)
      * (∑ k : Fin 2048, x (ix2 r k) * w (ix2 ⟨k.val, by omega⟩ d) + ∑ k : Fin 2048, y (ix2 r k) * w (ix2 ⟨2048 + k.val, by omega⟩ d)) := by
  have e : out0_5 x y w h g = k0_pay1 x (View.ld w r0_1) y (View.ld w r0_2) h g := by
    unfold out0_5
    rw [View.canon_unit_zero zeros2, View.ld_unit_zero zeros2, View.ld_unit_zero zeros2, View.ld_unit_zero zeros2, View.ld_unit_zero (by funext a; fin_cases a <;> rfl)]
  have lo : ∀ k : Fin 2048, View.ld w r0_1 (ix2 k d) = w (ix2 ⟨k.val, by omega⟩ d) := fun k =>
    View.ld_unit_apply_of _ _ _ _ _ _ (fun a => by fin_cases a <;> simp)
  have hi : ∀ k : Fin 2048, View.ld w r0_2 (ix2 k d) = w (ix2 ⟨2048 + k.val, by omega⟩ d) := fun k =>
    View.ld_unit_apply_of _ _ _ _ _ _ (fun a => by fin_cases a <;> simp)
  rw [e, pay1_at]
  simp only [lo, hi]

variable (m : (ℓ : Loc nD τ sig) → Buf (Elt Ideal) ℓ)

/-- Step `t` computes block `t / 16` of the columns of tile `t % 16` of the tokens. -/
theorem idx_val : ∀ t : Fin cfg0.N, win0_0.index t = ![t.val % 16, 0] ∧ win0_1.index t = ![t.val % 16, 0] ∧ win0_2.index t = ![0, t.val / 16]
    ∧ win0_3.index t = ![t.val % 16, t.val / 16] ∧ win0_4.index t = ![t.val % 16 / 8, 2, 0, t.val / 16] ∧ win0_5.index t = ![t.val % 16, t.val / 16] :=
  (by decide +kernel : ∀ t : Fin grid0.N, _)

section
variable (c : Dev nD) (t : Fin cfg0.N) (r : Fin 1024) (R : Fin 16384) (hR : R.val = t.val % 16 * 1024 + r.val) (d : Fin 1024) (D : Fin 4096)
  (hD : D.val = t.val / 16 * 1024 + d.val)
include hR in
theorem a_read (k : Fin 2048) : iblk m c 0 t (ix2 r k) = m ((c : Thread nD τ).loc main_arg0) (ix2 R k) := by
  blk_ext [iblk, V, idx_val t]

include hR in
theorem b_read (k : Fin 2048) : iblk m c 1 t (ix2 r k) = m ((c : Thread nD τ).loc main_arg1) (ix2 R k) := by
  blk_ext [iblk, V, idx_val t]

include hD in
theorem w_read (k : Fin 4096) : iblk m c 2 t (ix2 k d) = m ((c : Thread nD τ).loc main_arg2) (ix2 k D) := by
  blk_ext [iblk, V, idx_val t]

include hR hD in
theorem h_read : iblk m c 3 t (ix2 r d) = m ((c : Thread nD τ).loc main_arg3) (ix2 R D) := by
  blk_ext [iblk, V, idx_val t]

include hD in
theorem g_read (b : Fin 8) (hb : b.val = t.val % 16 / 8) : iblk m c 4 t (ix4 0 0 0 d) = m ((c : Thread nD τ).loc main_arg4) (ix4 b 2 0 D) := by
  blk_ext [iblk, V, idx_val t]

include hR hD in
theorem block_at : out0_5 (iblk m c 0 t) (iblk m c 1 t) (iblk m c 2 t) (iblk m c 3 t) (iblk m c 4 t) (ix2 r d)
    = added (m ((c : Thread nD τ).loc main_arg2)) (m ((c : Thread nD τ).loc main_arg3)) (m ((c : Thread nD τ).loc main_arg4))
      (both (m ((c : Thread nD τ).loc main_arg0)) (m ((c : Thread nD τ).loc main_arg1)) R) R D := by
  have hb : (bat R).val = t.val % 16 / 8 := by show R.val / 8192 = _; omega
  have hlt : ∀ k : Fin 2048, k.val < 2048 := fun k => k.isLt
  have hge : ∀ k : Fin 2048, ¬ 2048 + k.val < 2048 := fun k => by omega
  rw [out_at]
  unfold added
  rw [sum_halves]
  simp only [a_read m c t r R hR, b_read m c t r R hR, w_read m c t d D hD, h_read m c t r R hR d D hD, g_read m c t d D hD (bat R) hb,
    both, dif_pos (hlt _), dif_neg (hge _), Nat.add_sub_cancel_left]
end

/-- The result array is any array of the formula's values. -/
theorem final (c : Dev nD) (G : FVec Ideal S16384x4096 .f32)
    (hG : ∀ R D, G (ix2 R D) = added (m ((c : Thread nD τ).loc main_arg2)) (m ((c : Thread nD τ).loc main_arg3)) (m ((c : Thread nD τ).loc main_arg4))
      (both (m ((c : Thread nD τ).loc main_arg0)) (m ((c : Thread nD τ).loc main_arg1)) R) R D) :
    (dats m 0 c).arrAt 5 (cfgs 0).N = G := by
  refine (dats m 0 c).arrAt_eq_of_covers 5 G (by decide +kernel) fun t hfl y => ?_
  blk_simp
  rw [after0_5]
  have ht : t.val < 64 := lt_of_lt_of_eq t.isLt Gen.N_0
  have h0 : (y 0).val < 1024 := (y 0).isLt
  have h1 : (y 1).val < 1024 := (y 1).isLt
  refine Eq.trans (b := out0_5 (iblk m c 0 t) (iblk m c 1 t) (iblk m c 2 t) (iblk m c 3 t) (iblk m c 4 t) (ix2 ⟨(y 0).val, h0⟩ ⟨(y 1).val, h1⟩)) (congrArg _ (by funext i; fin_cases i <;> rfl)) ?_
  refine (block_at m c t _ ⟨t.val % 16 * 1024 + (y 0).val, by omega⟩ rfl _ ⟨t.val / 16 * 1024 + (y 1).val, by omega⟩ rfl).trans ((hG _ _).symm.trans ?_)
  blk_ext [idx_val t]

end Cert.Kernel7Ideal.Hand

namespace Cert.Reference7Ideal.Hand

open Cert.Reference7Ideal Cert.Reference7Ideal.Gen Idealize.ShloMosaic Idealize.ShloMosaic.TcCoe
open Cert.Kernel7Ideal.Hand (both)
open Cert.Kernel6Ideal.Hand (added)

/-- The two arrays side by side. -/
def joint (A B : FVec Ideal S16384x2048 .bf16) : FVec Ideal S16384x4096 .f32 :=
  concatenate S16384x4096 1 [⟨S16384x2048, (extf .f32 A bitsLt_bf16_f32)⟩, ⟨S16384x2048, (extf .f32 B bitsLt_bf16_f32)⟩] concatenates_S16384x2048_S16384x2048_S16384x4096_d1

theorem joint_at (A B : FVec Ideal S16384x2048 .bf16) (R : Fin 16384) (k : Fin 4096) : joint A B (ix2 R k) = both A B R k := by
  unfold both
  pointwise [joint]

theorem res_at (A B : FVec Ideal S16384x2048 .bf16) (W : FVec Ideal S4096x4096 .bf16) (X : FVec Ideal S16384x4096 .f32) (M : FVec Ideal S8x6x1x4096 .f32)
    (R : Fin 16384) (d : Fin 4096) : Cert.Reference6Ideal.Hand.res (joint A B) W X M (ix2 R d) = added W X M (both A B R) R d :=
  (Cert.Reference6Ideal.Hand.res_at (joint A B) W X M R d).trans (congrArg (fun o => added W X M o R d) (funext fun k => joint_at A B R k))

end Cert.Reference7Ideal.Hand

end
-- ==== Proof.Diff.Step.lean ====
/- The differential attention at one grid point: two online softmaxes over the same values, their difference, normed. -/
module

public import proofs.«01_k».proof.Proof.Soft
public import proofs.«01_k».proof.Proof.Gen.Kernel8Ideal.Skeleton
public import Idealize.ShloMosaic.Lib.Pointwise

@[expose] public section

set_option maxRecDepth 16384

noncomputable section

namespace Cert.Kernel8Ideal.Hand

open Cert.Kernel8Ideal Cert.Kernel8Ideal.Gen Idealize.ShloMosaic Cert.Soft

/-! One chunk of latent keys: `k0_pay29` is the running maximum's step, `k0_pay32` the running sum's and `k0_pay39` the weighted sum's,
    from the chunk's scores `S` and its transposed values `V`. -/

/-- The running maximum, sum and weighted sum of one map after `c` chunks. -/
def st (S : ℕ → FVec Ideal S1024x512 .f32) (V : ℕ → Vec Ideal S1x256x1024 .bf16) :
    ℕ → FVec Ideal S1x512 .f32 × FVec Ideal S1x512 .f32 × FVec Ideal S256x512 .f32
  | 0 => (k0_pay5, k0_pay6, k0_pay7)
  | c + 1 => (k0_pay29 (S c) (st S V c).1, k0_pay32 (S c) (st S V c).1 (st S V c).2.1, k0_pay39 (S c) (st S V c).1 (st S V c).2.2 (V c))

/-- One map's sum and weighted sum after the context's step too. -/
def sums (S : ℕ → FVec Ideal S1024x512 .f32) (V : ℕ → Vec Ideal S1x256x1024 .bf16) (Sx : FVec Ideal S256x512 .f32) (vx : Vec Ideal S256x256 .bf16) :
    FVec Ideal S1x512 .f32 × FVec Ideal S256x512 .f32 :=
  (k0_pay133 Sx (st S V 8).1 (st S V 8).2.1, k0_pay135 Sx (st S V 8).1 (st S V 8).2.2 vx)

/-- The two maps' attentions, the second times `lam` taken from the first. -/
def mix (lam : FVec Ideal S1x1 .f32) (l₀ l₁ : FVec Ideal S1x512 .f32) (a₀ a₁ : FVec Ideal S256x512 .f32) : FVec Ideal S512x256 .f32 :=
  transpose S512x256 [1, 0] (subf (mulf a₀ (broadcastTo S256x512 (divf (broadcast S1x512 (Scalar.ofBits .f32 0x3F800000#32)) l₀) broadcasts_S1x512_S256x512))
    (mulf (broadcastTo S256x512 lam broadcasts_S1x1_S256x512)
      (mulf a₁ (broadcastTo S256x512 (divf (broadcast S1x512 (Scalar.ofBits .f32 0x3F800000#32)) l₁) broadcasts_S1x512_S256x512)))) transposes_S256x512_p1_0_S512x256

/-- The mean of the squares of the rows. -/
def msq (o : FVec Ideal S512x256 .f32) : FVec Ideal S512x1 .f32 :=
  divf (shapeCast S512x1 (multiReduction .add [1] S512 (mulf o o) 0x00000000#32 reduces_S512x256_S512 (.inl rfl) rfl) shapeCasts_S512_S512x1)
    (broadcast S512x1 (Scalar.ofBits .f32 0x43800000#32))

/-- The rows over the root of their mean square, scaled. -/
def nrm (o : FVec Ideal S512x256 .f32) (q : FVec Ideal S512x1 .f32) (g : Vec Ideal S1x256 .f32) : FVec Ideal S512x256 .bf16 :=
  truncf .bf16 (mulf (mulf (mulf o (broadcastTo S512x256 (rsqrt (addf q (broadcast S512x1 (Scalar.ofBits .f32 0x358637BD#32)))) broadcasts_S512x1_S512x256))
    (broadcastTo S512x256 (shapeCast S1x256 g shapeCasts_S1x256_S1x256) broadcasts_S1x256_S512x256))
    (broadcast S512x256 (Scalar.ofBits .f32 0x3F4CCCCD#32))) bitsLt_bf16_f32

/-- The factor of the second map. -/
def lamv (x₁ y₁ x₂ y₂ : Vec Ideal S1x128 .f32) : FVec Ideal S1x1 .f32 :=
  addf (subf (k0_pay136 x₁ y₁) (k0_pay136 x₂ y₂)) (broadcast S1x1 (Scalar.ofBits .f32 0x3E4CCCCD#32))

/-- One grid point's block. -/
def att (S₀ S₁ : ℕ → FVec Ideal S1024x512 .f32) (V : ℕ → Vec Ideal S1x256x1024 .bf16) (Sx₀ Sx₁ : FVec Ideal S256x512 .f32) (vx : Vec Ideal S256x256 .bf16)
    (x₁ y₁ x₂ y₂ : Vec Ideal S1x128 .f32) (g : Vec Ideal S1x256 .f32) : FVec Ideal S512x256 .bf16 :=
  k0_pay138 (sums S₀ V Sx₀ vx).1 (sums S₁ V Sx₁ vx).1 (sums S₀ V Sx₀ vx).2 (sums S₁ V Sx₁ vx).2 (k0_pay136 x₁ y₁) (k0_pay137 x₂) y₂ g

/-- The difference that is normed. -/
def dif (S₀ S₁ : ℕ → FVec Ideal S1024x512 .f32) (V : ℕ → Vec Ideal S1x256x1024 .bf16) (Sx₀ Sx₁ : FVec Ideal S256x512 .f32) (vx : Vec Ideal S256x256 .bf16)
    (x₁ y₁ x₂ y₂ : Vec Ideal S1x128 .f32) : FVec Ideal S512x256 .f32 :=
  mix (lamv x₁ y₁ x₂ y₂) (sums S₀ V Sx₀ vx).1 (sums S₁ V Sx₁ vx).1 (sums S₀ V Sx₀ vx).2 (sums S₁ V Sx₁ vx).2

theorem att_nrm (S₀ S₁ : ℕ → FVec Ideal S1024x512 .f32) (V : ℕ → Vec Ideal S1x256x1024 .bf16) (Sx₀ Sx₁ : FVec Ideal S256x512 .f32) (vx : Vec Ideal S256x256 .bf16)
    (x₁ y₁ x₂ y₂ : Vec Ideal S1x128 .f32) (g : Vec Ideal S1x256 .f32) :
    att S₀ S₁ V Sx₀ Sx₁ vx x₁ y₁ x₂ y₂ g = nrm (dif S₀ S₁ V Sx₀ Sx₁ vx x₁ y₁ x₂ y₂) (msq (dif S₀ S₁ V Sx₀ Sx₁ vx x₁ y₁ x₂ y₂)) g := by
  unfold att dif
  generalize sums S₀ V Sx₀ vx = A
  generalize sums S₁ V Sx₁ vx = B
  rfl

/-! The pieces at an index. -/

theorem ofBits_bot : Ideal.ofBits .f32 0xFF800000#32 = ⊥ := by simp [Ideal.ofBits, Ideal.ieee]

/-- The running maximum's first value is a real. -/
theorem init_real : ∃ r : ℝ, Ideal.ofBits .f32 0xF149F2CA#32 = ((r : ℝ) : EReal) := by
  unfold Ideal.ofBits Ideal.ieee
  dsimp only
  rw [if_neg (by decide), if_neg (by decide)]
  exact ⟨_, rfl⟩

theorem pay5_real : ∃ r : ℝ, ∀ j : Fin 512, k0_pay5 (F := Ideal) (ix2 (0 : Fin 1) j) = ((r : ℝ) : EReal) :=
  init_real.imp fun r h j => h

theorem colmax_at (S : FVec Ideal S1024x512 .f32) (j : Fin 512) :
    multiReduction .maximumf [0] S512 S 0xFF800000#32 reduces_S1024x512_S512 (.inl rfl) rfl (ix1 j)
      = Finset.univ.fold max (Ideal.ofBits .f32 0xFF800000#32) fun i : Fin 1024 => S (ix2 i j) := by
  pointwise

theorem max_colmax (S : FVec Ideal S1024x512 .f32) (m : FVec Ideal S1x512 .f32) (j : Fin 512) :
    k0_pay29 S m (ix2 0 j) = max (m (ix2 0 j)) (multiReduction .maximumf [0] S512 S 0xFF800000#32 reduces_S1024x512_S512 (.inl rfl) rfl (ix1 j)) := by
  delta k0_pay29
  generalize multiReduction .maximumf [0] S512 S 0xFF800000#32 reduces_S1024x512_S512 (.inl rfl) rfl = M
  pointwise

/-- The running maximum's step, at a column. -/
theorem max_at (S : FVec Ideal S1024x512 .f32) (m : FVec Ideal S1x512 .f32) (j : Fin 512) :
    k0_pay29 S m (ix2 0 j) = max (m (ix2 0 j)) (Finset.univ.fold max ⊥ fun i : Fin 1024 => S (ix2 i j)) :=
  (max_colmax S m j).trans (by rw [colmax_at, ofBits_bot])

theorem sum_at (S : FVec Ideal S1024x512 .f32) (m l : FVec Ideal S1x512 .f32) (j : Fin 512) :
    k0_pay32 S m l (ix2 0 j) = Ideal.exp2 (m (ix2 0 j) - k0_pay29 S m (ix2 0 j)) * l (ix2 0 j)
      + ∑ i : Fin 1024, Ideal.exp2 (S (ix2 i j) - k0_pay29 S m (ix2 0 j)) := by
  pointwise [k0_pay32, k0_pay30, k0_pay31]
  rfl

theorem acc_at (S : FVec Ideal S1024x512 .f32) (m : FVec Ideal S1x512 .f32) (a : FVec Ideal S256x512 .f32) (V : Vec Ideal S1x256x1024 .bf16) (d : Fin 256) (j : Fin 512) :
    k0_pay39 S m a V (ix2 d j) = Ideal.exp2 (m (ix2 0 j) - k0_pay29 S m (ix2 0 j)) * a (ix2 d j)
      + ∑ i : Fin 1024, V (ix3 0 d i) * Ideal.exp2 (S (ix2 i j) - k0_pay29 S m (ix2 0 j)) := by
  pointwise [k0_pay39, k0_pay30, k0_pay31, k0_pay38]
  rfl

theorem xmax_at' (S : FVec Ideal S256x512 .f32) (j : Fin 512) :
    multiReduction .maximumf [0] S512 S 0xFF800000#32 reduces_S256x512_S512 (.inl rfl) rfl (ix1 j)
      = Finset.univ.fold max (Ideal.ofBits .f32 0xFF800000#32) fun i : Fin 256 => S (ix2 i j) := by
  pointwise

theorem xmax_colmax (S : FVec Ideal S256x512 .f32) (m : FVec Ideal S1x512 .f32) (j : Fin 512) :
    k0_pay130 S m (ix2 0 j) = max (m (ix2 0 j)) (multiReduction .maximumf [0] S512 S 0xFF800000#32 reduces_S256x512_S512 (.inl rfl) rfl (ix1 j)) := by
  delta k0_pay130
  generalize multiReduction .maximumf [0] S512 S 0xFF800000#32 reduces_S256x512_S512 (.inl rfl) rfl = M
  pointwise

theorem xmax_at (S : FVec Ideal S256x512 .f32) (m : FVec Ideal S1x512 .f32) (j : Fin 512) :
    k0_pay130 S m (ix2 0 j) = max (m (ix2 0 j)) (Finset.univ.fold max ⊥ fun i : Fin 256 => S (ix2 i j)) :=
  (xmax_colmax S m j).trans (by rw [xmax_at', ofBits_bot])

theorem xsum_at (S : FVec Ideal S256x512 .f32) (m l : FVec Ideal S1x512 .f32) (j : Fin 512) :
    k0_pay133 S m l (ix2 0 j) = Ideal.exp2 (m (ix2 0 j) - k0_pay130 S m (ix2 0 j)) * l (ix2 0 j)
      + ∑ i : Fin 256, Ideal.exp2 (S (ix2 i j) - k0_pay130 S m (ix2 0 j)) := by
  pointwise [k0_pay133, k0_pay131, k0_pay132]
  rfl

theorem xacc_at (S : FVec Ideal S256x512 .f32) (m : FVec Ideal S1x512 .f32) (a : FVec Ideal S256x512 .f32) (V : Vec Ideal S256x256 .bf16) (d : Fin 256) (j : Fin 512) :
    k0_pay135 S m a V (ix2 d j) = Ideal.exp2 (m (ix2 0 j) - k0_pay130 S m (ix2 0 j)) * a (ix2 d j)
      + ∑ i : Fin 256, V (ix2 d i) * Ideal.exp2 (S (ix2 i j) - k0_pay130 S m (ix2 0 j)) := by
  pointwise [k0_pay135, k0_pay131, k0_pay132]
  rfl

theorem score_at (k : Vec Ideal S1x1024x128 .bf16) (q : Vec Ideal S1x512x128 .bf16) (i : Fin 1024) (j : Fin 512) :
    k0_pay11 k q (ix2 i j) = ∑ e : Fin 128, k (ix3 0 i e) * q (ix3 0 j e) := by
  pointwise [k0_pay11]

theorem xscore_at (k : Vec Ideal S1x256x128 .bf16) (q : Vec Ideal S1x512x128 .bf16) (i : Fin 256) (j : Fin 512) :
    k0_pay112 k q (ix2 i j) = ∑ e : Fin 128, k (ix3 0 i e) * q (ix3 0 j e) := by
  pointwise [k0_pay112]

theorem mix_at (lam : FVec Ideal S1x1 .f32) (l₀ l₁ : FVec Ideal S1x512 .f32) (a₀ a₁ : FVec Ideal S256x512 .f32) (j : Fin 512) (d : Fin 256) :
    mix lam l₀ l₁ a₀ a₁ (ix2 j d) = a₀ (ix2 d j) * Ideal.div 1 (l₀ (ix2 0 j)) - lam (ix2 0 0) * (a₁ (ix2 d j) * Ideal.div 1 (l₁ (ix2 0 j))) := by
  pointwise [mix]

theorem msq_at (o : FVec Ideal S512x256 .f32) (j : Fin 512) :
    msq o (ix2 j 0) = Ideal.div (∑ d : Fin 256, o (ix2 j d) * o (ix2 j d)) (Ideal.ofBits .f32 0x43800000#32) := by
  pointwise [msq]

theorem nrm_at (o : FVec Ideal S512x256 .f32) (q : FVec Ideal S512x1 .f32) (g : Vec Ideal S1x256 .f32) (j : Fin 512) (d : Fin 256) :
    nrm o q g (ix2 j d) = o (ix2 j d) * Ideal.rsqrt (q (ix2 j 0) + Ideal.ofBits .f32 0x358637BD#32) * g (ix2 0 d) * Ideal.ofBits .f32 0x3F4CCCCD#32 := by
  pointwise [nrm]

theorem lam_at (x₁ y₁ x₂ y₂ : Vec Ideal S1x128 .f32) :
    lamv x₁ y₁ x₂ y₂ (ix2 0 0) = Ideal.exp (∑ e : Fin 128, x₁ (ix2 0 e) * y₁ (ix2 0 e)) - Ideal.exp (∑ e : Fin 128, x₂ (ix2 0 e) * y₂ (ix2 0 e))
      + Ideal.ofBits .f32 0x3E4CCCCD#32 := by
  pointwise [lamv, k0_pay136]

/-! The two sums of one map. -/

section
variable (S : ℕ → FVec Ideal S1024x512 .f32) (V : ℕ → Vec Ideal S1x256x1024 .bf16) (Sx : FVec Ideal S256x512 .f32) (vx : Vec Ideal S256x256 .bf16)

/-- The state after `c` chunks: with `μ` the running maximum, the sum is `2^(-μ)` times the plain sum of the powers so far, and the weighted
    sum is `2^(-μ)` times the plain weighted sum so far. -/
theorem st_inv (j : Fin 512) (d : Fin 256) (σ : ℕ → Fin 1024 → ℝ) (c : ℕ) (hσ : ∀ c' < c, ∀ i, S c' (ix2 i j) = ((σ c' i : ℝ) : EReal)) :
    ∃ μ : ℝ, (st S V c).1 (ix2 0 j) = (μ : EReal)
      ∧ (st S V c).2.1 (ix2 0 j) = ((pw (-μ) * ∑ c' ∈ Finset.range c, ∑ i, pw (σ c' i) : ℝ) : EReal)
      ∧ (st S V c).2.2 (ix2 d j) = ((pw (-μ) : ℝ) : EReal) * ∑ c' ∈ Finset.range c, ∑ i, V c' (ix3 0 d i) * ((pw (σ c' i) : ℝ) : EReal) := by
  induction c with
  | zero =>
    obtain ⟨r, hr⟩ := pay5_real
    refine ⟨r, hr j, ?_, ?_⟩
    · simp only [Finset.range_zero, Finset.sum_empty, mul_zero, EReal.coe_zero]
      exact Ideal.ofBits_zero_f32
    · simp only [Finset.range_zero, Finset.sum_empty, mul_zero]
      exact Ideal.ofBits_zero_f32
  | succ c ih =>
    obtain ⟨ν, h1, h2, h3⟩ := step (σ c) (fun i => V c (ix3 0 d i)) _ _ _ _ _ _ _ (hσ c (Nat.lt_succ_self c)) (max_at (S c) (st S V c).1 j)
      (ih fun c' h => hσ c' (h.trans (Nat.lt_succ_self c)))
    refine ⟨ν, h1, ?_, ?_⟩
    · rw [Finset.sum_range_succ]
      exact (sum_at _ _ _ j).trans h2
    · rw [Finset.sum_range_succ]
      exact (acc_at _ _ _ _ d j).trans h3

/-- The plain sum of the powers of two of all the scores. -/
def tot (σ : ℕ → Fin 1024 → ℝ) (σx : Fin 256 → ℝ) : ℝ := ∑ c ∈ Finset.range 8, ∑ i, pw (σ c i) + ∑ i, pw (σx i)

theorem tot_pos (σ : ℕ → Fin 1024 → ℝ) (σx : Fin 256 → ℝ) : 0 < tot σ σx :=
  add_pos_of_nonneg_of_pos (Finset.sum_nonneg fun c _ => Finset.sum_nonneg fun i _ => (pw_pos _).le)
    (Finset.sum_pos (fun i _ => pw_pos _) Finset.univ_nonempty)

/-- One map's attention at a query and a value row: the values weighted by the powers of two of the scores, over the sum of those powers. -/
theorem sums_at (j : Fin 512) (d : Fin 256) (σ : ℕ → Fin 1024 → ℝ) (σx : Fin 256 → ℝ)
    (hσ : ∀ c < 8, ∀ i, S c (ix2 i j) = ((σ c i : ℝ) : EReal)) (hx : ∀ i, Sx (ix2 i j) = ((σx i : ℝ) : EReal)) :
    (sums S V Sx vx).2 (ix2 d j) * Ideal.div 1 ((sums S V Sx vx).1 (ix2 0 j)) = ((1 / tot σ σx : ℝ) : EReal)
      * (∑ c ∈ Finset.range 8, ∑ i, V c (ix3 0 d i) * ((pw (σ c i) : ℝ) : EReal) + ∑ i, vx (ix2 d i) * ((pw (σx i) : ℝ) : EReal)) := by
  have h := step σx (fun i => vx (ix2 d i)) _ _ _ _ _ _ _ hx (xmax_at Sx (st S V 8).1 j) (st_inv S V j d σ 8 hσ)
  rw [← xsum_at, ← xacc_at] at h
  have hp := tot_pos σ σx
  unfold tot at hp ⊢
  exact finish _ _ _ _ _ hp h
end

end Cert.Kernel8Ideal.Hand

end
-- ==== Proof.Diff.Scratch.lean ====
/- What the two carried scratches of the differential attention hold at every grid point: the two maps' value blocks, transposed. -/
module

public import proofs.«01_k».proof.Proof.Diff.Step
public import proofs.«01_k».proof.Proof.Gen.Kernel8Ideal.Frame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Kernel8Ideal.Hand

open Cert.Kernel8Ideal Cert.Kernel8Ideal.Gen Idealize.ShloMosaic Idealize.ShloMosaic.TcCoe

/-- The two blocks of latent values cut into eight chunks of 1024 rows, each transposed, the second below the first. -/
def vlt (X : Vec Ideal S2x8192x128 .bf16) : Vec Ideal S8x256x1024 .bf16 := fun y =>
  X (ix3 ⟨(y 1).val / 128, by have h1 : (y 1).val < 256 := (y 1).isLt; omega⟩
    ⟨(y 0).val * 1024 + (y 2).val, by have h0 : (y 0).val < 8 := (y 0).isLt; have h2 : (y 2).val < 1024 := (y 2).isLt; omega⟩
    ⟨(y 1).val % 128, Nat.mod_lt _ (by decide)⟩)

/-- The two blocks of context values, each transposed, the second below the first. -/
def vct (X : Vec Ideal S2x256x128 .bf16) : Vec Ideal S256x256 .bf16 := fun y =>
  X (ix3 ⟨(y 0).val / 128, by have h0 : (y 0).val < 256 := (y 0).isLt; omega⟩ ⟨(y 1).val, (y 1).isLt⟩ ⟨(y 0).val % 128, Nat.mod_lt _ (by decide)⟩)

/-- The loop's offsets at a trip. -/
theorem offs : ∀ k : Fin k0_t1_loop.trips, k0_off1 k = ![0, k.val * 1024, 0] ∧ k0_off2 k = ![k.val, 0, 0]
    ∧ k0_off3 k = ![1, k.val * 1024, 0] ∧ k0_off4 k = ![k.val, 128, 0] := by decide +kernel

/-- What a trip stores, at an index. -/
theorem pay3_at (X : Vec Ideal S1x1024x128 .bf16) (d : Fin 128) (n : Fin 1024) : k0_pay3 X (ix3 0 d n) = X (ix3 0 n d) := by
  pointwise [k0_pay3]

theorem pay1_at (X : Vec Ideal S1x256x128 .bf16) (d : Fin 128) (n : Fin 256) : k0_pay1 X (ix2 d n) = X (ix3 0 n d) := by
  pointwise [k0_pay1]

/-- The transposed chunk `k` of map `h` is a block of the transposed values. -/
theorem piece_at (X : Vec Ideal S2x8192x128 .bf16) (k h : ℕ) (o₁ o₂ : Fin 3 → ℕ) (h₁ : o₁ = ![h, k * 1024, 0]) (h₂ : o₂ = ![k, h * 128, 0]) (inb₁ inb₂)
    (x : (Rect.unit (s := S8x256x1024) o₂ ![1, 128, 1024] inb₂).shape.Idx) :
    k0_pay3 (F := Ideal) (View.ld X (Rect.unit (s := S2x8192x128) o₁ ![1, 1024, 128] inb₁)) x
      = vlt X ((Rect.unit (s := S8x256x1024) o₂ ![1, 128, 1024] inb₂).emb x) := by
  subst h₁ h₂
  have hx0 : (x 0).val < 1 := (x 0).isLt
  have hx1 : (x 1).val < 128 := (x 1).isLt
  have hx2 : (x 2).val < 1024 := (x 2).isLt
  have e : ∀ a, (((Rect.unit (s := S8x256x1024) ![k, h * 128, 0] ![1, 128, 1024] inb₂).emb x) a : ℕ) = (![k, h * 128, 0] : Fin 3 → ℕ) a + x a :=
    fun a => Rect.idx_unit_val _ _ _ x a
  have f0 : _ = k + (x 0).val := e 0
  have f1 : _ = h * 128 + (x 1).val := e 1
  have f2 : _ = 0 + (x 2).val := e 2
  refine Eq.trans (b := (k0_pay3 (F := Ideal) (View.ld X (Rect.unit (s := S2x8192x128) ![h, k * 1024, 0] ![1, 1024, 128] inb₁))) (ix3 (0 : Fin 1) ⟨(x 1).val, hx1⟩ ⟨(x 2).val, hx2⟩)) ?_ ?_
  · refine congrArg (k0_pay3 (F := Ideal) _) ?_
    funext a
    fin_cases a
    · exact Fin.ext (by show (x 0).val = 0; omega)
    · rfl
    · rfl
  · refine (pay3_at _ _ _).trans ?_
    refine View.ld_unit_apply_of _ _ _ _ _ _ ?_
    intro a
    fin_cases a
    · show _ / 128 = h + 0
      rw [f1]; omega
    · show _ * 1024 + _ = k * 1024 + (x 2).val
      rw [f0, f2]; omega
    · show _ % 128 = 0 + (x 1).val
      rw [f1]; omega

/-- The transposed context values of map `h` are a block of both. -/
theorem xpiece_at (X : Vec Ideal S2x256x128 .bf16) (h : ℕ) (inb₁ inb₂)
    (x : (Rect.unit (s := S256x256) ![h * 128, 0] ![128, 256] inb₂).shape.Idx) :
    k0_pay1 (F := Ideal) (View.ld X (Rect.unit (s := S2x256x128) ![h, 0, 0] ![1, 256, 128] inb₁)) x
      = vct X ((Rect.unit (s := S256x256) ![h * 128, 0] ![128, 256] inb₂).emb x) := by
  have hx0 : (x 0).val < 128 := (x 0).isLt
  have hx1 : (x 1).val < 256 := (x 1).isLt
  have e : ∀ a, (((Rect.unit (s := S256x256) ![h * 128, 0] ![128, 256] inb₂).emb x) a : ℕ) = (![h * 128, 0] : Fin 2 → ℕ) a + x a :=
    fun a => Rect.idx_unit_val _ _ _ x a
  have f0 : _ = h * 128 + (x 0).val := e 0
  have f1 : _ = 0 + (x 1).val := e 1
  refine Eq.trans (b := (k0_pay1 (F := Ideal) (View.ld X (Rect.unit (s := S2x256x128) ![h, 0, 0] ![1, 256, 128] inb₁))) (ix2 ⟨(x 0).val, hx0⟩ ⟨(x 1).val, hx1⟩)) ?_ ?_
  · refine congrArg (k0_pay1 (F := Ideal) _) ?_
    funext a
    fin_cases a <;> rfl
  · refine (pay1_at _ _ _).trans ?_
    refine View.ld_unit_apply_of _ _ _ _ _ _ ?_
    intro a
    fin_cases a
    · show _ / 128 = h + 0
      rw [f0]; omega
    · exact f1
    · show _ % 128 = 0 + (x 0).val
      rw [f0]; omega

/-- The second scratch's two stores leave the transposed context values. -/
theorem ctx_canon (X : Vec Ideal S2x256x128 .bf16) (i₁ i₂ i₃ i₄) :
    View.canon [(⟨Rect.unit (s := S256x256) ![128, 0] ![128, 256] i₁, k0_pay2 (F := Ideal) (View.ld X (Rect.unit (s := S2x256x128) ![1, 0, 0] ![1, 256, 128] i₂))⟩ : View.Piece (Elt Ideal) S256x256 .bf16),
      ⟨Rect.unit (s := S256x256) ![0, 0] ![128, 256] i₃, k0_pay1 (F := Ideal) (View.ld X (Rect.unit (s := S2x256x128) ![0, 0, 0] ![1, 256, 128] i₄))⟩] = vct X := by
  funext y
  refine View.canon_apply_of_pieces (vct X) _ ?_ y (View.cover_of_tiledL (s := S256x256) _ S128x256.size (by sl_kernel_rfl) y)
  intro p hp
  rcases List.mem_cons.mp hp with rfl | hp
  · exact xpiece_at X 1 i₂ i₁
  · obtain rfl := List.mem_singleton.mp hp
    exact xpiece_at X 0 i₄ i₃

section
variable (𝒱 : Variants) (c : Dev nD) (bd : Option 𝒱.V) (i : grid0.Coords)
  (arg3 : Memref sig .tc .vmem S2x512x128 .bf16) (harg3 : arg3.IsWhole) (arg4 : Memref sig .tc .vmem S2x8192x128 .bf16) (harg4 : arg4.IsWhole) (arg5 : Memref sig .tc .vmem S2x8192x128 .bf16) (harg5 : arg5.IsWhole) (arg6 : Memref sig .tc .vmem S2x256x128 .bf16) (harg6 : arg6.IsWhole) (arg7 : Memref sig .tc .vmem S2x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x256 .f32) (harg12 : arg12.IsWhole) (arg13 : Memref sig .tc .vmem S512x256 .bf16) (harg13 : arg13.IsWhole) (arg14 : Memref sig .tc .vmem S8x256x1024 .bf16) (harg14 : arg14.IsWhole) (arg15 : Memref sig .tc .vmem S256x256 .bf16) (harg15 : arg15.IsWhole)
  (hc0 : k0_cond1 i = 1#1) (x2 : Vec Ideal S2x8192x128 .bf16)

/-- A trip's stores are blocks of the transposed values. -/
theorem trip_pieces (k : Fin k0_t1_loop.trips) :
    ∀ p ∈ tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 hc0 (harg5.unread x2) k,
      ∀ x : p.1.shape.Idx, p.2 x = vlt x2 (p.1.emb x) := by
  unfold tripL_k0_t1 trip_k0_t1
  dsimp only
  frame_out
  intro p hp
  rcases List.mem_cons.mp hp with rfl | hp
  · intro x
    exact piece_at x2 k.val 1 _ _ (offs k).2.2.1 (offs k).2.2.2 (k0_off3_inb i k hc0) (k0_off4_inb i k hc0) x
  · obtain rfl := List.mem_singleton.mp hp
    intro x
    exact piece_at x2 k.val 0 _ _ (offs k).1 (offs k).2.1 (k0_off1_inb i k hc0) (k0_off2_inb i k hc0) x

/-- All the stores of the loop's trips are. -/
theorem loop_pieces (n : ℕ) (hn : n ≤ k0_t1_loop.trips) :
    ∀ p ∈ pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 hc0 (harg5.unread x2) n,
      ∀ x : p.1.shape.Idx, p.2 x = vlt x2 (p.1.emb x) := by
  induction n with
  | zero => intro p hp; rw [pb_k0_t1.eq_1] at hp; simp at hp
  | succ n ih =>
    intro p hp
    rw [pb_k0_t1_succ 𝒱 c bd i arg3 harg3 arg4 harg4 arg5 harg5 arg6 harg6 arg7 harg7 arg8 harg8 arg9 harg9 arg10 harg10 arg11 harg11 arg12 harg12 arg13 harg13 arg14 harg14 arg15 harg15 hc0 _ ⟨n, hn⟩] at hp
    rcases List.mem_append.mp hp with h | h
    · exact trip_pieces 𝒱 c bd i arg3 harg3 arg4 harg4 arg5 harg5 arg6 harg6 arg7 harg7 arg8 harg8 arg9 harg9 arg10 harg10 arg11 harg11 arg12 harg12 arg13 harg13 arg14 harg14 arg15 harg15 hc0 x2 _ p h
    · exact ih (Nat.le_of_succ_le hn) p h

/-- The scratch after the loop: the transposed values. -/
theorem loop_canon :
    View.canon (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 hc0 (harg5.unread x2) (Scf.trips (0#32) (Scalar.addi 0#32 8#32) 1#32)) = vlt x2 := by
  funext y
  exact View.canon_apply_of_pieces (vlt x2) _
    (loop_pieces 𝒱 c bd i arg3 harg3 arg4 harg4 arg5 harg5 arg6 harg6 arg7 harg7 arg8 harg8 arg9 harg9 arg10 harg10 arg11 harg11 arg12 harg12 arg13 harg13 arg14 harg14 arg15 harg15 hc0 x2 _ le_rfl) y
    (View.cover_of_tiledL (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 hc0 (harg5.unread x2) (Scf.trips k0_t1_loop.lb k0_t1_loop.ub k0_t1_loop.st)) S1x128x1024.size (by sl_kernel_rfl) y)
end

variable (m : (ℓ : Loc nD τ sig) → Buf (Elt Ideal) ℓ)

/-- The windows' blocks at every grid point: point `t` is batch `t / 128`, pair of heads `t / 16 % 8`, query block `t % 16`. -/
theorem idx_val : ∀ t : Fin cfg0.N, win0_0.index t = ![10 + t.val / 16 % 8, t.val / 128 * 16 + t.val % 16, 0] ∧ win0_1.index t = ![18 + t.val / 16 % 8, t.val / 128, 0]
    ∧ win0_2.index t = ![28 + t.val / 16 % 8, t.val / 128, 0] ∧ win0_3.index t = ![18 + t.val / 16 % 8, t.val / 128, 0]
    ∧ win0_4.index t = ![28 + t.val / 16 % 8, t.val / 128, 0] ∧ win0_5.index t = ![0, 0] ∧ win0_6.index t = ![0, 0] ∧ win0_7.index t = ![0, 0]
    ∧ win0_8.index t = ![0, 0] ∧ win0_9.index t = ![0, 0] ∧ win0_10.index t = ![t.val / 128 * 16 + t.val % 16, t.val / 16 % 8] :=
  (by decide +kernel : ∀ t : Fin grid0.N, _)

/-- The value blocks do not move within a run of 16 points. -/
theorem blk2_run (c : Dev nD) (t : Fin cfg0.N) : iblk m c 2 ⟨16 * (t.val / 16), Pipeline.run_start_lt t⟩ = iblk m c 2 t := by
  have ht : t.val < 256 := lt_of_lt_of_eq t.isLt Gen.N_0
  blk_ext! [iblk, V, idx_val t, idx_val ⟨16 * (t.val / 16), Pipeline.run_start_lt t⟩]

theorem blk4_run (c : Dev nD) (t : Fin cfg0.N) : iblk m c 4 ⟨16 * (t.val / 16), Pipeline.run_start_lt t⟩ = iblk m c 4 t := by
  have ht : t.val < 256 := lt_of_lt_of_eq t.isLt Gen.N_0
  blk_ext! [iblk, V, idx_val t, idx_val ⟨16 * (t.val / 16), Pipeline.run_start_lt t⟩]

/-- The first scratch after any point: the point's latent values, transposed. -/
theorem scr0 (c : Dev nD) (t : Fin cfg0.N) : (outsAt0 m c t.val t.isLt).2.1 = vlt (iblk m c 2 t) := by
  rw [Pipeline.eq_of_write_hold (fun n h => (outsAt0 m c n h).2.1) 16 (fun t => vlt (iblk m c 2 t))
    (fun t h => by
      funext y
      show (outsAt0 m c t.val t.isLt).2.1 y = _
      rw [outsAt0_A m c t h]; frame_out; rw [loop_canon])
    (fun t h => by
      show (outsAt0 m c t.val t.isLt).2.1 = _
      rw [outsAt0_B m c t h]; rfl) t]
  exact congrArg vlt (blk2_run m c t)

/-- The second scratch after any point: the point's context values, transposed. -/
theorem scr1 (c : Dev nD) (t : Fin cfg0.N) : (outsAt0 m c t.val t.isLt).2.2 = vct (iblk m c 4 t) := by
  rw [Pipeline.eq_of_write_hold (fun n h => (outsAt0 m c n h).2.2) 16 (fun t => vct (iblk m c 4 t))
    (fun t h => by
      funext y
      show (outsAt0 m c t.val t.isLt).2.2 y = _
      rw [outsAt0_A m c t h]; frame_out
      rw [ctx_canon])
    (fun t h => by
      show (outsAt0 m c t.val t.isLt).2.2 = _
      rw [outsAt0_B m c t h]; rfl) t]
  exact congrArg vct (blk4_run m c t)

/-- Past a run's first point the blocks are those of the point before. -/
theorem blk2_pred (c : Dev nD) (t : Fin cfg0.N) (h : ¬t.val % 16 = 0) : iblk m c 2 ⟨t.val - 1, Nat.lt_of_le_of_lt (Nat.sub_le _ _) t.isLt⟩ = iblk m c 2 t := by
  have ht : t.val < 256 := lt_of_lt_of_eq t.isLt Gen.N_0
  blk_ext! [iblk, V, idx_val t, idx_val ⟨t.val - 1, Nat.lt_of_le_of_lt (Nat.sub_le _ _) t.isLt⟩]

theorem blk4_pred (c : Dev nD) (t : Fin cfg0.N) (h : ¬t.val % 16 = 0) : iblk m c 4 ⟨t.val - 1, Nat.lt_of_le_of_lt (Nat.sub_le _ _) t.isLt⟩ = iblk m c 4 t := by
  have ht : t.val < 256 := lt_of_lt_of_eq t.isLt Gen.N_0
  blk_ext! [iblk, V, idx_val t, idx_val ⟨t.val - 1, Nat.lt_of_le_of_lt (Nat.sub_le _ _) t.isLt⟩]

/-- The scratches a later point of a run finds. -/
theorem scr0_pred (c : Dev nD) (t : Fin cfg0.N) (h : ¬t.val % 16 = 0) :
    (outsAt0 m c (t.val - 1) (Nat.lt_of_le_of_lt (Nat.sub_le _ _) t.isLt)).2.1 = vlt (iblk m c 2 t) :=
  (scr0 m c ⟨t.val - 1, Nat.lt_of_le_of_lt (Nat.sub_le _ _) t.isLt⟩).trans (congrArg vlt (blk2_pred m c t h))

theorem scr1_pred (c : Dev nD) (t : Fin cfg0.N) (h : ¬t.val % 16 = 0) :
    (outsAt0 m c (t.val - 1) (Nat.lt_of_le_of_lt (Nat.sub_le _ _) t.isLt)).2.2 = vct (iblk m c 4 t) :=
  (scr1 m c ⟨t.val - 1, Nat.lt_of_le_of_lt (Nat.sub_le _ _) t.isLt⟩).trans (congrArg vct (blk4_pred m c t h))

end Cert.Kernel8Ideal.Hand

end
-- ==== Proof.Diff.Block.lean ====
/- What a grid point leaves in the output's buffer: its differential attention. -/
module

public import proofs.«01_k».proof.Proof.Diff.Scratch

@[expose] public section

set_option maxRecDepth 16384

noncomputable section

namespace Cert.Kernel8Ideal.Hand

open Cert.Kernel8Ideal Cert.Kernel8Ideal.Gen Idealize.ShloMosaic Idealize.ShloMosaic.TcCoe

/-- Chunk `n` of map `h`'s block of latent keys. -/
def kch (X : Vec Ideal S2x8192x128 .bf16) (h : Fin 2) (n : ℕ) : Vec Ideal S1x1024x128 .bf16 := fun y =>
  X (ix3 h ⟨(n * 1024 + (y 1).val) % 8192, Nat.mod_lt _ (by decide)⟩ ⟨(y 2).val, (y 2).isLt⟩)

/-- Map `h`'s block of context keys. -/
def kcx (X : Vec Ideal S2x256x128 .bf16) (h : Fin 2) : Vec Ideal S1x256x128 .bf16 := fun y => X (ix3 h ⟨(y 1).val, (y 1).isLt⟩ ⟨(y 2).val, (y 2).isLt⟩)

/-- Map `h`'s block of queries. -/
def qm (X : Vec Ideal S2x512x128 .bf16) (h : Fin 2) : Vec Ideal S1x512x128 .bf16 := fun y => X (ix3 h ⟨(y 1).val, (y 1).isLt⟩ ⟨(y 2).val, (y 2).isLt⟩)

/-- Chunk `n` of the transposed latent values. -/
def vch (Y : Vec Ideal S8x256x1024 .bf16) (n : ℕ) : Vec Ideal S1x256x1024 .bf16 := fun y =>
  Y (ix3 ⟨n % 8, Nat.mod_lt _ (by decide)⟩ ⟨(y 1).val, (y 1).isLt⟩ ⟨(y 2).val, (y 2).isLt⟩)

theorem ld_k {X : Vec Ideal S2x8192x128 .bf16} (h : Fin 2) (n a o : ℕ) (ha : a = h.val) (ho : o = n * 1024) {inb} :
    View.ld X (Rect.unit (s := S2x8192x128) ![a, o, 0] ![1, 1024, 128] inb) = kch X h n := by
  subst ho ha
  have hb : n * 1024 + 1024 ≤ 8192 := inb 1
  funext y
  have h0 : (y 0).val < 1 := (y 0).isLt
  have h1 : (y 1).val < 1024 := (y 1).isLt
  refine View.ld_unit_apply_of _ _ _ _ _ _ ?_
  intro a
  fin_cases a
  · show h.val = h.val + (y 0).val; omega
  · show (n * 1024 + (y 1).val) % 8192 = n * 1024 + (y 1).val; omega
  · show (y 2).val = 0 + (y 2).val; omega

theorem ld_kx {X : Vec Ideal S2x256x128 .bf16} (h : Fin 2) (a : ℕ) (ha : a = h.val) {inb} :
    View.ld X (Rect.unit (s := S2x256x128) ![a, 0, 0] ![1, 256, 128] inb) = kcx X h := by
  subst ha
  funext y
  have h0 : (y 0).val < 1 := (y 0).isLt
  refine View.ld_unit_apply_of _ _ _ _ _ _ ?_
  intro a
  fin_cases a
  · show h.val = h.val + (y 0).val; omega
  · show (y 1).val = 0 + (y 1).val; omega
  · show (y 2).val = 0 + (y 2).val; omega

theorem ld_q {X : Vec Ideal S2x512x128 .bf16} (h : Fin 2) (a : ℕ) (ha : a = h.val) {inb} :
    View.ld X (Rect.unit (s := S2x512x128) ![a, 0, 0] ![1, 512, 128] inb) = qm X h := by
  subst ha
  funext y
  have h0 : (y 0).val < 1 := (y 0).isLt
  refine View.ld_unit_apply_of _ _ _ _ _ _ ?_
  intro a
  fin_cases a
  · show h.val = h.val + (y 0).val; omega
  · show (y 1).val = 0 + (y 1).val; omega
  · show (y 2).val = 0 + (y 2).val; omega

theorem ld_v (Y : Vec Ideal S8x256x1024 .bf16) (n : ℕ) (inb) :
    View.ld Y (Rect.unit (s := S8x256x1024) ![n, 0, 0] ![1, 256, 1024] inb) = vch Y n := by
  have hb : n + 1 ≤ 8 := inb 0
  funext y
  have h0 : (y 0).val < 1 := (y 0).isLt
  refine View.ld_unit_apply_of _ _ _ _ _ _ ?_
  intro a
  fin_cases a
  · show n % 8 = n + (y 0).val; omega
  · show (y 1).val = 0 + (y 1).val; omega
  · show (y 2).val = 0 + (y 2).val; omega

/-- A load from a buffer some writes have filled is the load from what they leave. -/
theorem cov_ld (v : View sig .tc .vmem S8x256x1024 .bf16) (L : List (View.Piece (Elt Ideal) S8x256x1024 .bf16)) (o : Fin 3 → ℕ) (inb) :
    v.readCov L (Rect.unit (s := S8x256x1024) o ![1, 256, 1024] inb).toLoadRect = View.ld (View.canon L) (Rect.unit o ![1, 256, 1024] inb) :=
  View.readCov_eq_canon' v L _

theorem cov_ldx (v : View sig .tc .vmem S256x256 .bf16) (L : List (View.Piece (Elt Ideal) S256x256 .bf16)) (inb) :
    v.readCov L (Rect.unit (s := S256x256) ![0, 0] ![256, 256] inb).toLoadRect = View.canon L :=
  (View.readCov_eq_canon' v L _).trans (View.ld_unit_zero (by funext a; fin_cases a <;> rfl) _ _)

variable (m : (ℓ : Loc nD τ sig) → Buf (Elt Ideal) ℓ)

/-- The differential attention of point `t`. -/
def attB (c : Dev nD) (t : Fin cfg0.N) : FVec Ideal S512x256 .bf16 :=
  att (fun n => k0_pay11 (kch (iblk m c 1 t) 0 n) (qm (iblk m c 0 t) 0)) (fun n => k0_pay11 (kch (iblk m c 1 t) 1 n) (qm (iblk m c 0 t) 1))
    (vch (vlt (iblk m c 2 t))) (k0_pay112 (kcx (iblk m c 3 t) 0) (qm (iblk m c 0 t) 0)) (k0_pay112 (kcx (iblk m c 3 t) 1) (qm (iblk m c 0 t) 1))
    (vct (iblk m c 4 t)) (iblk m c 5 t) (iblk m c 6 t) (iblk m c 7 t) (iblk m c 8 t) (iblk m c 9 t)

theorem zeros2 : (![0, 0] : Fin 2 → ℕ) = fun _ => 0 := by funext a; fin_cases a <;> rfl

theorem ld_128 {X : Vec Ideal S1x128 .f32} {inb} : View.ld X (Rect.unit (s := S1x128) ![0, 0] ![1, 128] inb) = X := View.ld_unit_zero zeros2 _ _

theorem ld_256 {X : Vec Ideal S1x256 .f32} {inb} : View.ld X (Rect.unit (s := S1x256) ![0, 0] ![1, 256] inb) = X := View.ld_unit_zero zeros2 _ _

/-- The scores' names, one for each chunk and map. -/
theorem scores_eq (k : Vec Ideal S1x1024x128 .bf16) (q : Vec Ideal S1x512x128 .bf16) :
    k0_pay12 k q = k0_pay11 k q ∧ k0_pay13 k q = k0_pay11 k q ∧ k0_pay14 k q = k0_pay11 k q ∧ k0_pay27 (k0_pay26 k) q = k0_pay11 k q ∧
    k0_pay28 k q = k0_pay11 k q ∧ k0_pay42 k q = k0_pay11 k q ∧ k0_pay43 k q = k0_pay11 k q ∧ k0_pay57 k q = k0_pay11 k q ∧ k0_pay58 k q = k0_pay11 k q ∧
    k0_pay71 k q = k0_pay11 k q ∧ k0_pay72 k q = k0_pay11 k q ∧ k0_pay85 k q = k0_pay11 k q ∧ k0_pay86 k q = k0_pay11 k q ∧ k0_pay98 k q = k0_pay11 k q ∧
    k0_pay100 (k0_pay99 k) q = k0_pay11 k q := by
  refine ⟨?_, ?_, ?_, ?_, ?_, ?_, ?_, ?_, ?_, ?_, ?_, ?_, ?_, ?_, ?_⟩ <;> rfl

theorem xscore_eq (k : Vec Ideal S1x256x128 .bf16) (q : Vec Ideal S1x512x128 .bf16) : k0_pay113 k q = k0_pay112 k q := rfl

theorem init_eq : k0_pay8 (F := Ideal) = k0_pay5 ∧ k0_pay9 (F := Ideal) = k0_pay6 ∧ k0_pay10 (F := Ideal) = k0_pay7 := ⟨rfl, rfl, rfl⟩

/-- The running maxima's names. -/
theorem maxs_eq (S : FVec Ideal S1024x512 .f32) (m : FVec Ideal S1x512 .f32) :
    k0_pay15 m S = k0_pay29 S m ∧ k0_pay19 m S = k0_pay29 S m ∧ k0_pay33 S m = k0_pay29 S m ∧ k0_pay44 S m = k0_pay29 S m ∧ k0_pay49 S m = k0_pay29 S m ∧
    k0_pay59 S m = k0_pay29 S m ∧ k0_pay64 S m = k0_pay29 S m ∧ k0_pay73 S m = k0_pay29 S m ∧ k0_pay78 S m = k0_pay29 S m ∧ k0_pay87 S m = k0_pay29 S m ∧
    k0_pay91 S m = k0_pay29 S m ∧ k0_pay101 S m = k0_pay29 S m ∧ k0_pay105 S m = k0_pay29 S m ∧ k0_pay114 S m = k0_pay29 S m ∧
    k0_pay118 S m = k0_pay29 S m := by
  refine ⟨?_, ?_, ?_, ?_, ?_, ?_, ?_, ?_, ?_, ?_, ?_, ?_, ?_, ?_, ?_⟩ <;> rfl

/-- The running sums' names. -/
theorem sums_eq (S : FVec Ideal S1024x512 .f32) (m l : FVec Ideal S1x512 .f32) :
    k0_pay18 m l S = k0_pay32 S m l ∧ k0_pay22 m l S = k0_pay32 S m l ∧ k0_pay36 S m l = k0_pay32 S m l ∧ k0_pay47 S m l = k0_pay32 S m l ∧
    k0_pay52 S m l = k0_pay32 S m l ∧ k0_pay62 S m l = k0_pay32 S m l ∧ k0_pay67 l (k0_pay65 S m) (k0_pay66 S m) = k0_pay32 S m l ∧
    k0_pay76 S m l = k0_pay32 S m l ∧ k0_pay81 S m l = k0_pay32 S m l ∧ k0_pay90 S l (k0_pay29 S m) (k0_pay88 S m) = k0_pay32 S m l ∧
    k0_pay94 S m l = k0_pay32 S m l ∧ k0_pay104 S m l = k0_pay32 S m l ∧ k0_pay108 S m l = k0_pay32 S m l ∧ k0_pay117 S m l = k0_pay32 S m l ∧
    k0_pay121 S m l = k0_pay32 S m l := by
  refine ⟨?_, ?_, ?_, ?_, ?_, ?_, ?_, ?_, ?_, ?_, ?_, ?_, ?_, ?_, ?_⟩ <;> rfl

/-- The weighted sums' names. -/
theorem accs_eq (S : FVec Ideal S1024x512 .f32) (m : FVec Ideal S1x512 .f32) (a : FVec Ideal S256x512 .f32) (v : Vec Ideal S1x256x1024 .bf16) :
    k0_pay24 m a S v = k0_pay39 S m a v ∧ k0_pay25 m a S v = k0_pay39 S m a v ∧
    k0_pay41 (k0_pay37 S m) (k0_pay38 v) (k0_pay40 S m a) = k0_pay39 S m a v ∧ k0_pay55 a (k0_pay45 S m) (k0_pay48 S m) v = k0_pay39 S m a v ∧
    k0_pay56 a (k0_pay50 S m) (k0_pay53 S m) v = k0_pay39 S m a v ∧ k0_pay69 a (k0_pay60 S m) (k0_pay63 S m) v = k0_pay39 S m a v ∧
    k0_pay70 a (k0_pay65 S m) (k0_pay66 S m) v = k0_pay39 S m a v ∧ k0_pay83 a (k0_pay74 S m) (k0_pay77 S m) v = k0_pay39 S m a v ∧
    k0_pay84 S m a v = k0_pay39 S m a v ∧ k0_pay96 S a (k0_pay29 S m) (k0_pay88 S m) v = k0_pay39 S m a v ∧ k0_pay97 S m a v = k0_pay39 S m a v ∧
    k0_pay110 S m a v = k0_pay39 S m a v ∧ k0_pay111 S m a v = k0_pay39 S m a v ∧ k0_pay123 S m a v = k0_pay39 S m a v ∧
    k0_pay124 S m a v = k0_pay39 S m a v := by
  refine ⟨?_, ?_, ?_, ?_, ?_, ?_, ?_, ?_, ?_, ?_, ?_, ?_, ?_, ?_, ?_⟩ <;> rfl

/-- The context's step of the first map is the second's. -/
theorem ctx_eq (S : FVec Ideal S256x512 .f32) (m l : FVec Ideal S1x512 .f32) (a : FVec Ideal S256x512 .f32) (v : Vec Ideal S256x256 .bf16) :
    k0_pay129 S m l (k0_pay125 S) = k0_pay133 S m l ∧ k0_pay134 S m a (k0_pay125 S) v = k0_pay135 S m a v := ⟨rfl, rfl⟩

theorem out_at (c : Dev nD) (t : Fin cfg0.N) (y : S512x256.Idx) : (outsAt0 m c t.val t.isLt).1 y = attB m c t y := by
  by_cases h : t.val % 16 = 0
  · rw [outsAt0_A m c t h]; frame_out
    simp only [cov_ld, cov_ldx, loop_canon, ctx_canon]
    simp only [ld_k 0 0 0 0 rfl rfl, ld_k 0 1 0 1024 rfl rfl, ld_k 0 2 0 2048 rfl rfl, ld_k 0 3 0 3072 rfl rfl, ld_k 0 4 0 4096 rfl rfl, ld_k 0 5 0 5120 rfl rfl,
      ld_k 0 6 0 6144 rfl rfl, ld_k 0 7 0 7168 rfl rfl, ld_k 1 0 1 0 rfl rfl, ld_k 1 1 1 1024 rfl rfl, ld_k 1 2 1 2048 rfl rfl, ld_k 1 3 1 3072 rfl rfl,
      ld_k 1 4 1 4096 rfl rfl, ld_k 1 5 1 5120 rfl rfl, ld_k 1 6 1 6144 rfl rfl, ld_k 1 7 1 7168 rfl rfl, ld_v, ld_q 0 0 rfl, ld_q 1 1 rfl, ld_kx 0 0 rfl,
      ld_kx 1 1 rfl, ld_128, ld_256]
    simp only [scores_eq, xscore_eq, init_eq, maxs_eq, sums_eq, accs_eq, ctx_eq]
    refine congrFun ?_ y
    unfold attB att
    congr 1
  · rw [outsAt0_B m c t h]; frame_out
    simp only [read_unread_whole, scr0_pred m c t h, scr1_pred m c t h]
    simp only [ld_k 0 0 0 0 rfl rfl, ld_k 0 1 0 1024 rfl rfl, ld_k 0 2 0 2048 rfl rfl, ld_k 0 3 0 3072 rfl rfl, ld_k 0 4 0 4096 rfl rfl, ld_k 0 5 0 5120 rfl rfl,
      ld_k 0 6 0 6144 rfl rfl, ld_k 0 7 0 7168 rfl rfl, ld_k 1 0 1 0 rfl rfl, ld_k 1 1 1 1024 rfl rfl, ld_k 1 2 1 2048 rfl rfl, ld_k 1 3 1 3072 rfl rfl,
      ld_k 1 4 1 4096 rfl rfl, ld_k 1 5 1 5120 rfl rfl, ld_k 1 6 1 6144 rfl rfl, ld_k 1 7 1 7168 rfl rfl, ld_v, ld_q 0 0 rfl, ld_q 1 1 rfl, ld_kx 0 0 rfl,
      ld_kx 1 1 rfl, ld_128, ld_256]
    simp only [scores_eq, xscore_eq, init_eq, maxs_eq, sums_eq, accs_eq, ctx_eq]
    refine congrFun ?_ y
    unfold attB att
    congr 1

end Cert.Kernel8Ideal.Hand

end
-- ==== Proof.Diff.Spec.lean ====
/- The differential attention as one formula over the call's arrays, and what its precondition gives. -/
module

public import proofs.«01_k».proof.Proof.Spec
public import proofs.«01_k».proof.Proof.Gen.Kernel8Ideal
public import proofs.«01_k».proof.Proof.Gen.Pre_finite_diff

@[expose] public section

set_option maxRecDepth 16384

noncomputable section

namespace Cert.Kernel8Ideal.Hand

open Cert.Kernel8Ideal Idealize.ShloMosaic Cert.Soft
open Cert.KernelIdeal.Hand (sum_mul_real real_of_abs_lt)

section
variable (A0 : FVec Ideal S52x16384x128 .bf16) (A1 : FVec Ideal S72x16384x128 .bf16) (A2 : FVec Ideal S52x512x128 .bf16) (A3 : FVec Ideal S72x512x128 .bf16)
  (x₁ y₁ x₂ y₂ : FVec Ideal S128 .f32) (g : FVec Ideal S256 .f32)

/-- The score of query row `R` of map `k` of pair `h` against latent key `i` of its batch, a real number. -/
def scL (h : Fin 8) (k : Fin 2) (R : Fin 16384) (i : Fin 8192) : ℝ :=
  ∑ e : Fin 128, (A0 (ix3 ⟨36 + h.val * 2 + k.val, by omega⟩ ⟨R.val / 8192 * 8192 + i.val, by omega⟩ e)).toReal * (A0 (ix3 ⟨20 + h.val * 2 + k.val, by omega⟩ R e)).toReal

/-- … and against context key `i`. -/
def scC (h : Fin 8) (k : Fin 2) (R : Fin 16384) (i : Fin 256) : ℝ :=
  ∑ e : Fin 128, (A2 (ix3 ⟨36 + h.val * 2 + k.val, by omega⟩ ⟨R.val / 8192 * 256 + i.val, by omega⟩ e)).toReal * (A0 (ix3 ⟨20 + h.val * 2 + k.val, by omega⟩ R e)).toReal

/-- Dimension `d` of pair `h`'s latent value `i` in row `R`'s batch. -/
def vlL (h : Fin 8) (R : Fin 16384) (d : Fin 256) (i : Fin 8192) : EReal :=
  A1 (ix3 ⟨56 + h.val * 2 + d.val / 128, by omega⟩ ⟨R.val / 8192 * 8192 + i.val, by omega⟩ ⟨d.val % 128, by omega⟩)

/-- … and of context value `i`. -/
def vlC (h : Fin 8) (R : Fin 16384) (d : Fin 256) (i : Fin 256) : EReal :=
  A3 (ix3 ⟨56 + h.val * 2 + d.val / 128, by omega⟩ ⟨R.val / 8192 * 256 + i.val, by omega⟩ ⟨d.val % 128, by omega⟩)

/-- The sum of the weights of map `k`. -/
def wsum (h : Fin 8) (k : Fin 2) (R : Fin 16384) : ℝ := ∑ i, pw (scL A0 h k R i) + ∑ i, pw (scC A0 A2 h k R i)

/-- Map `k`'s attention: the weighted sum of the values over the sum of the weights. -/
def av (h : Fin 8) (k : Fin 2) (R : Fin 16384) (d : Fin 256) : EReal :=
  ((1 / wsum A0 A2 h k R : ℝ) : EReal)
    * (∑ i, vlL A1 h R d i * (pw (scL A0 h k R i) : EReal) + ∑ i, vlC A3 h R d i * (pw (scC A0 A2 h k R i) : EReal))

/-- The factor of the second map. -/
def lam : EReal := Ideal.exp (∑ e : Fin 128, x₁ (ix1 e) * y₁ (ix1 e)) - Ideal.exp (∑ e : Fin 128, x₂ (ix1 e) * y₂ (ix1 e)) + Ideal.ofBits .f32 0x3E4CCCCD#32

/-- The difference of the two maps' attentions. -/
def od (h : Fin 8) (R : Fin 16384) (d : Fin 256) : EReal := av A0 A1 A2 A3 h 0 R d - lam x₁ y₁ x₂ y₂ * av A0 A1 A2 A3 h 1 R d

/-- A row over the root of its mean square, scaled. -/
def normed (o : Fin 256 → EReal) (g : EReal) (d : Fin 256) : EReal :=
  o d * Ideal.rsqrt (Ideal.div (∑ d, o d * o d) (Ideal.ofBits .f32 0x43800000#32) + Ideal.ofBits .f32 0x358637BD#32) * g * Ideal.ofBits .f32 0x3F4CCCCD#32

/-- The call's value at pair `h`, row `R`, dimension `d`. -/
def spec (h : Fin 8) (R : Fin 16384) (d : Fin 256) : EReal := normed (od A0 A1 A2 A3 x₁ y₁ x₂ y₂ h R) (g (ix1 d)) d

/-- Queries, keys, values and the vectors of the factor are real numbers. -/
structure FinD : Prop where
  lat : ∀ (a : Fin 52) (r : Fin 16384) (e : Fin 128), 20 ≤ a.val → ((A0 (ix3 a r e)).toReal : EReal) = A0 (ix3 a r e)
  ctx : ∀ (a : Fin 52) (r : Fin 512) (e : Fin 128), 36 ≤ a.val → ((A2 (ix3 a r e)).toReal : EReal) = A2 (ix3 a r e)
  vlat : ∀ (a : Fin 72) (r : Fin 16384) (e : Fin 128), 56 ≤ a.val → ((A1 (ix3 a r e)).toReal : EReal) = A1 (ix3 a r e)
  vctx : ∀ (a : Fin 72) (r : Fin 512) (e : Fin 128), 56 ≤ a.val → ((A3 (ix3 a r e)).toReal : EReal) = A3 (ix3 a r e)
  q₁ : ∀ e : Fin 128, ((x₁ (ix1 e)).toReal : EReal) = x₁ (ix1 e)
  k₁ : ∀ e : Fin 128, ((y₁ (ix1 e)).toReal : EReal) = y₁ (ix1 e)
  q₂ : ∀ e : Fin 128, ((x₂ (ix1 e)).toReal : EReal) = x₂ (ix1 e)
  k₂ : ∀ e : Fin 128, ((y₂ (ix1 e)).toReal : EReal) = y₂ (ix1 e)
end

open Cert.Pre_finite_diff in
/-- Finite entries of a vector are real numbers. -/
theorem vec_real (x : FVec Ideal S128 .f32)
    (h : Host.reduce IntOp.andi (cmpf .olt (Host.absf x) (broadcastInDim Cert.Pre_finite_diff.S128 ![] Gen.bcast_S_S128 (constant Cert.Pre_finite_diff.S_ .f32 0x7F800000#32)))
      (constantI Cert.Pre_finite_diff.S_ 1 1#1) Gen.reducesTo_S128_S_d0 Gen.h_S_ (Shape.Idx.first Gen.h_S_) = 1#1) (e : Fin 128) :
    ((x (ix1 e)).toReal : EReal) = x (ix1 e) := by
  refine real_of_abs_lt (Eq.trans ?_ (Host.reduce_andi_all _ _ _ _ _ h (ix1 e)))
  pointwise
  rfl

/-- The precondition gives them. -/
theorem finD_of_pre (A0 : FVec Ideal S52x16384x128 .bf16) (A1 : FVec Ideal S72x16384x128 .bf16) (A2 : FVec Ideal S52x512x128 .bf16) (A3 : FVec Ideal S72x512x128 .bf16)
    (x₁ y₁ x₂ y₂ : FVec Ideal S128 .f32) (g : FVec Ideal S256 .f32)
    (h : Cert.Pre_finite_diff.fn (F := Ideal) A0 A1 A2 A3 x₁ y₁ x₂ y₂ g = fun _ => 1#1) : FinD A0 A1 A2 A3 x₁ y₁ x₂ y₂ := by
  have h0 := congrFun h ((Shape.Idx.first Cert.Pre_finite_diff.Gen.h_S_))
  dsimp only [Cert.Pre_finite_diff.fn, Cert.Pre_finite_diff.fn_part1, Cert.Pre_finite_diff.fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  refine ⟨?_, ?_, ?_, ?_, vec_real _ e5, vec_real _ e6, vec_real _ e7, vec_real _ e8⟩
  · intro a r e ha
    refine real_of_abs_lt (Eq.trans ?_ (Host.reduce_andi_all _ _ _ _ _ e1 (ix3 (⟨a.val - 20, by omega⟩ : Fin 32) r e)))
    pointwise
    have hA : (⟨20 + (a.val - 20), by omega⟩ : Fin 52) = a := Fin.ext (by show 20 + (a.val - 20) = a.val; omega)
    simp only [hA]
    rfl
  · intro a r e ha
    refine real_of_abs_lt (Eq.trans ?_ (Host.reduce_andi_all _ _ _ _ _ e2 (ix3 (⟨a.val - 36, by omega⟩ : Fin 16) r e)))
    pointwise
    have hA : (⟨36 + (a.val - 36), by omega⟩ : Fin 52) = a := Fin.ext (by show 36 + (a.val - 36) = a.val; omega)
    simp only [hA]
    rfl
  · intro a r e ha
    refine real_of_abs_lt (Eq.trans ?_ (Host.reduce_andi_all _ _ _ _ _ e3 (ix3 (⟨a.val - 56, by omega⟩ : Fin 16) r e)))
    pointwise
    have hA : (⟨56 + (a.val - 56), by omega⟩ : Fin 72) = a := Fin.ext (by show 56 + (a.val - 56) = a.val; omega)
    simp only [hA]
    rfl
  · intro a r e ha
    refine real_of_abs_lt (Eq.trans ?_ (Host.reduce_andi_all _ _ _ _ _ e4 (ix3 (⟨a.val - 56, by omega⟩ : Fin 16) r e)))
    pointwise
    have hA : (⟨56 + (a.val - 56), by omega⟩ : Fin 72) = a := Fin.ext (by show 56 + (a.val - 56) = a.val; omega)
    simp only [hA]
    rfl

/-! What the reference needs of real numbers. -/

/-- `lambda_init` is a real. -/
theorem init_lam : ∃ r : ℝ, Ideal.ofBits .f32 0x3E4CCCCD#32 = ((r : ℝ) : EReal) := by
  unfold Ideal.ofBits Ideal.ieee
  dsimp only
  rw [if_neg (by decide), if_neg (by decide)]
  exact ⟨_, rfl⟩

/-- The factor of the second map is a real. -/
theorem lam_real {A0 : FVec Ideal S52x16384x128 .bf16} {A1 : FVec Ideal S72x16384x128 .bf16} {A2 : FVec Ideal S52x512x128 .bf16} {A3 : FVec Ideal S72x512x128 .bf16}
    {x₁ y₁ x₂ y₂ : FVec Ideal S128 .f32} (hf : FinD A0 A1 A2 A3 x₁ y₁ x₂ y₂) : ∃ r : ℝ, lam x₁ y₁ x₂ y₂ = ((r : ℝ) : EReal) := by
  obtain ⟨r, hr⟩ := init_lam
  unfold lam
  rw [sum_mul_real _ _ hf.q₁ hf.k₁, sum_mul_real _ _ hf.q₂ hf.k₂, hr, Ideal.exp_coe, Ideal.exp_coe, ← EReal.coe_sub, ← EReal.coe_add]
  exact ⟨_, rfl⟩

/-- One weight of a row's softmax, from scores that are real numbers times `log 2`. -/
theorem soft_one {ι : Type} [Fintype ι] [Nonempty ι] (σ : ι → ℝ) (s : ι → EReal) (M : EReal)
    (hs : ∀ i, s i = ((σ i * Real.log 2 : ℝ) : EReal)) (hM : M = Finset.univ.fold max ⊥ s) (i : ι) :
    Ideal.div (Ideal.exp (s i - M)) (∑ k, Ideal.exp (s k - M)) = (((1 / ∑ i, pw (σ i)) * pw (σ i) : ℝ) : EReal) := by
  obtain rfl : s = fun i => ((σ i * Real.log 2 : ℝ) : EReal) := funext hs
  obtain ⟨ν, hν⟩ := fold_max_real' Finset.univ Finset.univ_nonempty fun i => σ i * Real.log 2
  obtain rfl : M = ν := hM.trans hν
  have he : ∀ i, Ideal.exp (((σ i * Real.log 2 : ℝ) : EReal) - (ν : EReal)) = ((Real.exp (-ν) * pw (σ i) : ℝ) : EReal) := fun i => by
    rw [← EReal.coe_sub, Ideal.exp_coe, EReal.coe_eq_coe_iff, pw, Real.rpow_def_of_pos (by norm_num), ← Real.exp_add]
    congr 1; ring
  have hS : 0 < ∑ i, pw (σ i) := Finset.sum_pos (fun i _ => pw_pos _) Finset.univ_nonempty
  have hE := Real.exp_pos (-ν)
  simp only [he]
  rw [← coe_sum, ← Finset.mul_sum, Ideal.div_coe (by positivity), ← EReal.coe_mul, EReal.coe_eq_coe_iff]
  field_simp

/-- Values weighted by a difference of weights are the difference of the values weighted by each. -/
theorem sum_mix {ι : Type} [Fintype ι] (v : ι → EReal) (hv : ∀ i, ((v i).toReal : EReal) = v i) (P Q : ι → ℝ) (a b r : ℝ) :
    ∑ i, v i * (((a * P i : ℝ) : EReal) - (r : EReal) * ((b * Q i : ℝ) : EReal))
      = (a : EReal) * ∑ i, v i * (P i : EReal) - (r : EReal) * ((b : EReal) * ∑ i, v i * (Q i : EReal)) := by
  obtain ⟨w, rfl⟩ : ∃ w : ι → ℝ, v = fun i => (w i : EReal) := ⟨fun i => (v i).toReal, funext fun i => (hv i).symm⟩
  simp only [← EReal.coe_mul, ← EReal.coe_sub, ← coe_sum]
  rw [EReal.coe_eq_coe_iff]
  simp only [Finset.mul_sum, ← Finset.sum_sub_distrib]
  exact Finset.sum_congr rfl fun i _ => by ring

end Cert.Kernel8Ideal.Hand

end
-- ==== Proof.Diff.Final.lean ====
/- The kernel's result array: the formula of the differential attention at every index. -/
module

public import proofs.«01_k».proof.Proof.Diff.Block
public import proofs.«01_k».proof.Proof.Diff.Spec
public import proofs.«01_k».proof.Proof.Final

@[expose] public section

set_option maxRecDepth 16384

noncomputable section

namespace Cert.Kernel8Ideal.Hand

open Cert.Kernel8Ideal Cert.Kernel8Ideal.Gen Idealize.ShloMosaic Idealize.ShloMosaic.TcCoe Cert.Soft
open Cert.KernelIdeal.Hand (sum_mul_real)

variable (m : (ℓ : Loc nD τ sig) → Buf (Elt Ideal) ℓ)

/-- The vectors as the host shapes them. -/
theorem cast128_at (X : FVec Ideal S128 .f32) (k : Fin 128) : shapeCast S1x128 X shapeCasts_S128_S1x128 (ix2 0 k) = X (ix1 k) := by
  pointwise

theorem cast256_at (X : FVec Ideal S256 .f32) (k : Fin 256) : shapeCast S1x256 X shapeCasts_S256_S1x256 (ix2 0 k) = X (ix1 k) := by
  pointwise

theorem V_v0 (c : Dev nD) : V m c main_v0 = shapeCast S1x128 (m ((c : Thread nD τ).loc main_arg4)) shapeCasts_S128_S1x128 := by
  unfold V
  after_results
  rfl

theorem V_v1 (c : Dev nD) : V m c main_v1 = shapeCast S1x128 (m ((c : Thread nD τ).loc main_arg5)) shapeCasts_S128_S1x128 := by
  unfold V
  after_results
  rfl

theorem V_v2 (c : Dev nD) : V m c main_v2 = shapeCast S1x128 (m ((c : Thread nD τ).loc main_arg6)) shapeCasts_S128_S1x128 := by
  unfold V
  after_results
  rfl

theorem V_v3 (c : Dev nD) : V m c main_v3 = shapeCast S1x128 (m ((c : Thread nD τ).loc main_arg7)) shapeCasts_S128_S1x128 := by
  unfold V
  after_results
  rfl

theorem V_v4 (c : Dev nD) : V m c main_v4 = shapeCast S1x256 (m ((c : Thread nD τ).loc main_arg8)) shapeCasts_S256_S1x256 := by
  unfold V
  after_results
  rfl

/-! The blocks of point `t` read at an index of their arrays. -/

theorem q_read (c : Dev nD) (t : Fin cfg0.N) (a : Fin 2) (r : Fin 512) (e : Fin 128) (h : Fin 52) (R : Fin 16384)
    (hh : h.val = 20 + t.val / 16 % 8 * 2 + a.val) (hR : R.val = (t.val / 128 * 16 + t.val % 16) * 512 + r.val) :
    iblk m c 0 t (ix3 a r e) = m ((c : Thread nD τ).loc main_arg0) (ix3 h R e) := by
  blk_ext [iblk, V, idx_val t]

theorem k_read (c : Dev nD) (t : Fin cfg0.N) (a : Fin 2) (r : Fin 8192) (e : Fin 128) (h : Fin 52) (R : Fin 16384)
    (hh : h.val = 36 + t.val / 16 % 8 * 2 + a.val) (hR : R.val = t.val / 128 * 8192 + r.val) :
    iblk m c 1 t (ix3 a r e) = m ((c : Thread nD τ).loc main_arg0) (ix3 h R e) := by
  blk_ext [iblk, V, idx_val t]

theorem v_read (c : Dev nD) (t : Fin cfg0.N) (a : Fin 2) (r : Fin 8192) (e : Fin 128) (h : Fin 72) (R : Fin 16384)
    (hh : h.val = 56 + t.val / 16 % 8 * 2 + a.val) (hR : R.val = t.val / 128 * 8192 + r.val) :
    iblk m c 2 t (ix3 a r e) = m ((c : Thread nD τ).loc main_arg1) (ix3 h R e) := by
  blk_ext [iblk, V, idx_val t]

theorem kx_read (c : Dev nD) (t : Fin cfg0.N) (a : Fin 2) (r : Fin 256) (e : Fin 128) (h : Fin 52) (R : Fin 512)
    (hh : h.val = 36 + t.val / 16 % 8 * 2 + a.val) (hR : R.val = t.val / 128 * 256 + r.val) :
    iblk m c 3 t (ix3 a r e) = m ((c : Thread nD τ).loc main_arg2) (ix3 h R e) := by
  blk_ext [iblk, V, idx_val t]

theorem vx_read (c : Dev nD) (t : Fin cfg0.N) (a : Fin 2) (r : Fin 256) (e : Fin 128) (h : Fin 72) (R : Fin 512)
    (hh : h.val = 56 + t.val / 16 % 8 * 2 + a.val) (hR : R.val = t.val / 128 * 256 + r.val) :
    iblk m c 4 t (ix3 a r e) = m ((c : Thread nD τ).loc main_arg3) (ix3 h R e) := by
  blk_ext [iblk, V, idx_val t]

theorem x₁_read (c : Dev nD) (t : Fin cfg0.N) (k : Fin 128) : iblk m c 5 t (ix2 0 k) = m ((c : Thread nD τ).loc main_arg4) (ix1 k) := by
  have h : iblk m c 5 t (ix2 0 k) = V m c main_v0 (ix2 0 k) := by
    blk_ext [iblk, idx_val t]
  rw [h, V_v0]
  exact cast128_at _ k

theorem y₁_read (c : Dev nD) (t : Fin cfg0.N) (k : Fin 128) : iblk m c 6 t (ix2 0 k) = m ((c : Thread nD τ).loc main_arg5) (ix1 k) := by
  have h : iblk m c 6 t (ix2 0 k) = V m c main_v1 (ix2 0 k) := by
    blk_ext [iblk, idx_val t]
  rw [h, V_v1]
  exact cast128_at _ k

theorem x₂_read (c : Dev nD) (t : Fin cfg0.N) (k : Fin 128) : iblk m c 7 t (ix2 0 k) = m ((c : Thread nD τ).loc main_arg6) (ix1 k) := by
  have h : iblk m c 7 t (ix2 0 k) = V m c main_v2 (ix2 0 k) := by
    blk_ext [iblk, idx_val t]
  rw [h, V_v2]
  exact cast128_at _ k

theorem y₂_read (c : Dev nD) (t : Fin cfg0.N) (k : Fin 128) : iblk m c 8 t (ix2 0 k) = m ((c : Thread nD τ).loc main_arg7) (ix1 k) := by
  have h : iblk m c 8 t (ix2 0 k) = V m c main_v3 (ix2 0 k) := by
    blk_ext [iblk, idx_val t]
  rw [h, V_v3]
  exact cast128_at _ k

theorem g_read (c : Dev nD) (t : Fin cfg0.N) (k : Fin 256) : iblk m c 9 t (ix2 0 k) = m ((c : Thread nD τ).loc main_arg8) (ix1 k) := by
  have h : iblk m c 9 t (ix2 0 k) = V m c main_v4 (ix2 0 k) := by
    blk_ext [iblk, idx_val t]
  rw [h, V_v4]
  exact cast256_at _ k

theorem vch_at (X : Vec Ideal S2x8192x128 .bf16) (n : ℕ) (hn : n < 8) (d : Fin 256) (i : Fin 1024) :
    vch (vlt X) n (ix3 0 d i) = X (ix3 ⟨d.val / 128, by omega⟩ ⟨n * 1024 + i.val, by omega⟩ ⟨d.val % 128, by omega⟩) := by
  show X _ = X _
  refine congrArg X ?_
  funext a
  fin_cases a
  · rfl
  · refine Fin.ext ?_
    show n % 8 * 1024 + i.val = n * 1024 + i.val
    omega
  · rfl

/-- One map's weighted sum over its sum of weights, at a query and a dimension. -/
theorem map_at (c : Dev nD) (t : Fin cfg0.N)
    (hf : FinD (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)))
    (k : Fin 2) (j : Fin 512) (d : Fin 256) (h : Fin 8) (R : Fin 16384) (hh : h.val = t.val / 16 % 8) (hR : R.val = (t.val / 128 * 16 + t.val % 16) * 512 + j.val) :
    (sums (fun n => k0_pay11 (kch (iblk m c 1 t) k n) (qm (iblk m c 0 t) k)) (vch (vlt (iblk m c 2 t))) (k0_pay112 (kcx (iblk m c 3 t) k) (qm (iblk m c 0 t) k)) (vct (iblk m c 4 t))).2 (ix2 d j)
      * Ideal.div 1 ((sums (fun n => k0_pay11 (kch (iblk m c 1 t) k n) (qm (iblk m c 0 t) k)) (vch (vlt (iblk m c 2 t))) (k0_pay112 (kcx (iblk m c 3 t) k) (qm (iblk m c 0 t) k)) (vct (iblk m c 4 t))).1 (ix2 0 j))
      = av (m ((c : Thread nD τ).loc main_arg0)) (m ((c : Thread nD τ).loc main_arg1)) (m ((c : Thread nD τ).loc main_arg2)) (m ((c : Thread nD τ).loc main_arg3)) h k R d := by
  have ht : t.val < 256 := lt_of_lt_of_eq t.isLt Gen.N_0
  have h2 : R.val / 8192 = t.val / 128 := by omega
  have hq : ∀ e, iblk m c 0 t (ix3 k j e) = m ((c : Thread nD τ).loc main_arg0) (ix3 ⟨20 + h.val * 2 + k.val, by omega⟩ R e) :=
    fun e => q_read m c t _ _ e _ _ (by show 20 + h.val * 2 + k.val = _; omega) hR
  refine (sums_at _ _ _ _ j d
    (fun n i => scL (m ((c : Thread nD τ).loc main_arg0)) h k R ⟨(n * 1024 + i.val) % 8192, Nat.mod_lt _ (by decide)⟩)
    (fun i => scC (m ((c : Thread nD τ).loc main_arg0)) (m ((c : Thread nD τ).loc main_arg2)) h k R i) ?_ ?_).trans ?_
  · intro n hn i
    rw [score_at]
    refine Eq.trans (Finset.sum_congr rfl fun e _ => ?_) (sum_mul_real _ _ (fun e => hf.lat _ _ e ?_) (fun e => hf.lat _ _ e ?_))
    · refine congrArg₂ (· * ·) ?_ (hq e)
      exact k_read m c t k ⟨(n * 1024 + i.val) % 8192, Nat.mod_lt _ (by decide)⟩ e ⟨36 + h.val * 2 + k.val, by omega⟩ ⟨R.val / 8192 * 8192 + (n * 1024 + i.val) % 8192, by omega⟩
        (by show 36 + h.val * 2 + k.val = _; omega) (by show R.val / 8192 * 8192 + _ = _; rw [h2])
    · show 20 ≤ 36 + h.val * 2 + k.val; omega
    · show 20 ≤ 20 + h.val * 2 + k.val; omega
  · intro i
    rw [xscore_at]
    refine Eq.trans (Finset.sum_congr rfl fun e _ => ?_) (sum_mul_real _ _ (fun e => hf.ctx _ _ e ?_) (fun e => hf.lat _ _ e ?_))
    · refine congrArg₂ (· * ·) ?_ (hq e)
      exact kx_read m c t k i e ⟨36 + h.val * 2 + k.val, by omega⟩ ⟨R.val / 8192 * 256 + i.val, by omega⟩
        (by show 36 + h.val * 2 + k.val = _; omega) (by show R.val / 8192 * 256 + _ = _; rw [h2])
    · show 36 ≤ 36 + h.val * 2 + k.val; omega
    · show 20 ≤ 20 + h.val * 2 + k.val; omega
  · unfold tot av wsum
    have hm : ∀ n (hn : n < 8) (i : Fin 1024), (⟨(n * 1024 + i.val) % 8192, Nat.mod_lt _ (by decide)⟩ : Fin 8192) = ⟨n * 1024 + i.val, by omega⟩ :=
      fun n hn i => Fin.ext (Nat.mod_eq_of_lt (by omega))
    rw [Cert.KernelIdeal.Hand.sum_chunks (fun i => pw (scL (m ((c : Thread nD τ).loc main_arg0)) h k R i)) _ (fun n hn i => by beta_reduce; rw [hm n hn i]),
      Cert.KernelIdeal.Hand.sum_chunks (fun i : Fin 8192 => vlL (m ((c : Thread nD τ).loc main_arg1)) h R d i * (pw (scL (m ((c : Thread nD τ).loc main_arg0)) h k R i) : EReal)) _
        (fun n hn i => by
          beta_reduce
          rw [hm n hn i, vch_at _ n hn]
          refine congrArg (· * _) ?_
          exact v_read m c t _ _ _ ⟨56 + h.val * 2 + d.val / 128, by omega⟩ ⟨R.val / 8192 * 8192 + (n * 1024 + i.val), by omega⟩
            (by show 56 + h.val * 2 + d.val / 128 = 56 + t.val / 16 % 8 * 2 + d.val / 128; omega) (by show R.val / 8192 * 8192 + _ = _; rw [h2]))]
    congr 2
    refine Finset.sum_congr rfl fun i _ => congrArg (· * _) ?_
    exact vx_read m c t ⟨d.val / 128, by omega⟩ i ⟨d.val % 128, by omega⟩ ⟨56 + h.val * 2 + d.val / 128, by omega⟩ ⟨R.val / 8192 * 256 + i.val, by omega⟩
      (by show 56 + h.val * 2 + d.val / 128 = 56 + t.val / 16 % 8 * 2 + d.val / 128; omega) (by show R.val / 8192 * 256 + _ = _; rw [h2])

/-- The factor from the point's blocks. -/
theorem lamv_at (c : Dev nD) (t : Fin cfg0.N) : lamv (iblk m c 5 t) (iblk m c 6 t) (iblk m c 7 t) (iblk m c 8 t) (ix2 0 0)
    = lam (m ((c : Thread nD τ).loc main_arg4)) (m ((c : Thread nD τ).loc main_arg5)) (m ((c : Thread nD τ).loc main_arg6)) (m ((c : Thread nD τ).loc main_arg7)) := by
  rw [lam_at]
  unfold lam
  simp only [x₁_read, y₁_read, x₂_read, y₂_read]

/-- One value of the point's block: the formula at the pair, row and dimension the value stands for. -/
theorem point (c : Dev nD) (t : Fin cfg0.N)
    (hf : FinD (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)))
    (j : Fin 512) (d : Fin 256) (h : Fin 8) (R : Fin 16384) (hh : h.val = t.val / 16 % 8) (hR : R.val = (t.val / 128 * 16 + t.val % 16) * 512 + j.val) :
    attB m c t (ix2 j d) = spec (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) h R d := by
  unfold attB
  rw [att_nrm, nrm_at, msq_at, g_read]
  unfold spec normed
  have hd : ∀ d, dif (fun n => k0_pay11 (kch (iblk m c 1 t) 0 n) (qm (iblk m c 0 t) 0)) (fun n => k0_pay11 (kch (iblk m c 1 t) 1 n) (qm (iblk m c 0 t) 1))
      (vch (vlt (iblk m c 2 t))) (k0_pay112 (kcx (iblk m c 3 t) 0) (qm (iblk m c 0 t) 0)) (k0_pay112 (kcx (iblk m c 3 t) 1) (qm (iblk m c 0 t) 1))
      (vct (iblk m c 4 t)) (iblk m c 5 t) (iblk m c 6 t) (iblk m c 7 t) (iblk m c 8 t) (ix2 j d)
      = od (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) h R d := fun d => by
    unfold dif od
    rw [mix_at, lamv_at, map_at m c t hf 0 j d h R hh hR, map_at m c t hf 1 j d h R hh hR]
  simp only [hd]

/-- The result array after the run. -/
theorem final (c : Dev nD)
    (hf : FinD (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)))
    (G : FVec Ideal S16384x2048 .bf16)
    (hG : ∀ (R : Fin 16384) (C : Fin 2048), G (ix2 R C) = spec (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))
      ⟨C.val / 256, by omega⟩ R ⟨C.val % 256, by omega⟩) :
    (dats m 0 c).arrAt 10 (cfgs 0).N = G := by
  refine (dats m 0 c).arrAt_eq_of_covers 10 G (by decide +kernel) fun t _ y => ?_
  blk_simp
  rw [after0_10]
  have ht : t.val < 256 := lt_of_lt_of_eq t.isLt Gen.N_0
  have h0 : (y 0).val < 512 := (y 0).isLt
  have h1 : (y 1).val < 256 := (y 1).isLt
  refine (out_at m c t y).trans ?_
  refine (congrArg (attB m c t) (show y = ix2 (⟨(y 0).val, h0⟩ : Fin 512) (⟨(y 1).val, h1⟩ : Fin 256) from funext fun a => by fin_cases a <;> rfl)).trans ?_
  refine (point m c t hf _ _ ⟨t.val / 16 % 8, by omega⟩ ⟨(t.val / 128 * 16 + t.val % 16) * 512 + (y 0).val, by omega⟩ rfl rfl).trans ?_
  refine Eq.trans ?_ ((hG ⟨(t.val / 128 * 16 + t.val % 16) * 512 + (y 0).val, by omega⟩ ⟨t.val / 16 % 8 * 256 + (y 1).val, by omega⟩).symm.trans ?_)
  · congr 1
    · exact Fin.ext (by show t.val / 16 % 8 = (t.val / 16 % 8 * 256 + (y 1).val) / 256; omega)
    · exact Fin.ext (by show (y 1).val = (t.val / 16 % 8 * 256 + (y 1).val) % 256; omega)
  · blk_ext [idx_val t]

end Cert.Kernel8Ideal.Hand

end
-- ==== Proof.Diff.Ref.lean ====
/- The reference's result at an index: the formula of the differential attention. -/
module

public import proofs.«01_k».proof.Proof.Ref
public import proofs.«01_k».proof.Proof.Diff.Spec
public import proofs.«01_k».proof.Proof.Gen.Reference8Ideal.Run

@[expose] public section

set_option maxRecDepth 16384

noncomputable section

namespace Cert.Reference8Ideal.Hand

open Cert.Reference8Ideal Cert.Reference8Ideal.Gen Idealize.ShloMosaic Idealize.ShloMosaic.TcCoe Idealize.SL.Sem Cert.Soft
open Cert.KernelIdeal.Hand (sum_mul_real)
open Cert.ReferenceIdeal.Hand (ofBits_two ofBits_bot sum_split)
open Cert.Kernel8Ideal.Hand (scL scC vlL vlC wsum av lam od normed spec FinD lam_real soft_one sum_mix)

/-- The scores times `log 2`. -/
def sco (A0 : FVec Ideal S52x16384x128 .bf16) (A2 : FVec Ideal S52x512x128 .bf16) : FVec Ideal S2x8x2x8192x8448 .f32 :=
  mulf (Host.dotGeneral dot_S8x2x2x8192x128_S8x2x2x8448x128_S2x8x2x8192x8448_4_4_3_3_201_201 none (extf .f32 (shapeCast _ (extractStridedSlice S16x16384x128 ![20, 0, 0] A0 slices_S52x16384x128_S16x16384x128_20_0_0) shapeCasts_S16x16384x128_S8x2x2x8192x128) bitsLt_bf16_f32) (concatenate S8x2x2x8448x128 3 [⟨S8x2x2x8192x128, (extf .f32 (shapeCast _ (extractStridedSlice S16x16384x128 ![36, 0, 0] A0 slices_S52x16384x128_S16x16384x128_36_0_0) shapeCasts_S16x16384x128_S8x2x2x8192x128) bitsLt_bf16_f32)⟩, ⟨S8x2x2x256x128, (extf .f32 (shapeCast _ (extractStridedSlice S16x512x128 ![36, 0, 0] A2 slices_S52x512x128_S16x512x128_36_0_0) shapeCasts_S16x512x128_S8x2x2x256x128) bitsLt_bf16_f32)⟩] concatenates_S8x2x2x8192x128_S8x2x2x256x128_S8x2x2x8448x128_d3)) (broadcastInDim S2x8x2x8192x8448 ![] bcast_S_S2x8x2x8192x8448 (Host.log (constant S_ .f32 0x40000000#32)))

/-- The values, latent then context. -/
def vals (A1 : FVec Ideal S72x16384x128 .bf16) (A3 : FVec Ideal S72x512x128 .bf16) : FVec Ideal S8x2x2x8448x128 .f32 :=
  concatenate S8x2x2x8448x128 3 [⟨S8x2x2x8192x128, (extf .f32 (shapeCast _ (extractStridedSlice S16x16384x128 ![56, 0, 0] A1 slices_S72x16384x128_S16x16384x128_56_0_0) shapeCasts_S16x16384x128_S8x2x2x8192x128) bitsLt_bf16_f32)⟩, ⟨S8x2x2x256x128, (extf .f32 (shapeCast _ (extractStridedSlice S16x512x128 ![56, 0, 0] A3 slices_S72x512x128_S16x512x128_56_0_0) shapeCasts_S16x512x128_S8x2x2x256x128) bitsLt_bf16_f32)⟩] concatenates_S8x2x2x8192x128_S8x2x2x256x128_S8x2x2x8448x128_d3

/-- A row's greatest score. -/
def rmax (s : FVec Ideal S2x8x2x8192x8448 .f32) : FVec Ideal S2x8x2x8192 .f32 :=
  maximumf (broadcastInDim S2x8x2x8192 ![] bcast_S_S2x8x2x8192 (constant S_ .f32 0xFF800000#32)) (Host.reduce FloatOps.maximumf s (constant S_ .f32 0xFF800000#32) reducesTo_S2x8x2x8192x8448_S2x8x2x8192_d4 h_S_)

/-- The exponentials of the scores less `M`. -/
def expo (s : FVec Ideal S2x8x2x8192x8448 .f32) (M : FVec Ideal S2x8x2x8192 .f32) : FVec Ideal S2x8x2x8192x8448 .f32 :=
  Host.exp (subf s (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 M)))

/-- The exponentials over their sum. -/
def quot (E : FVec Ideal S2x8x2x8192x8448 .f32) : FVec Ideal S2x8x2x8192x8448 .f32 :=
  Host.divf E (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 (Host.reduceAdd E (constant S_ .f32 0x00000000#32) reducesTo_S2x8x2x8192x8448_S2x8x2x8192_d4 h_S_)))

/-- The factor of the second map. -/
def lamR (x₁ y₁ x₂ y₂ : FVec Ideal S128 .f32) : FVec Ideal S_ .f32 :=
  addf (subf (Host.exp (Host.reduceAdd (mulf x₁ y₁) (constant S_ .f32 0x00000000#32) reducesTo_S128_S_d0 h_S_)) (Host.exp (Host.reduceAdd (mulf x₂ y₂) (constant S_ .f32 0x00000000#32) reducesTo_S128_S_d0 h_S_))) (constant S_ .f32 0x3E4CCCCD#32)

/-- The first map's weights less the second's times `l`. -/
def mixR (p : FVec Ideal S2x8x2x8192x8448 .f32) (l : FVec Ideal S_ .f32) : FVec Ideal S2x8x8192x8448 .f32 :=
  subf (shapeCast _ (extractStridedSlice S2x8x1x8192x8448 ![0, 0, 0, 0, 0] p slices_S2x8x2x8192x8448_S2x8x1x8192x8448_0_0_0_0_0) shapeCasts_S2x8x1x8192x8448_S2x8x8192x8448) (mulf (broadcastInDim S2x8x8192x8448 ![] bcast_S_S2x8x8192x8448 l) (shapeCast _ (extractStridedSlice S2x8x1x8192x8448 ![0, 0, 1, 0, 0] p slices_S2x8x2x8192x8448_S2x8x1x8192x8448_0_0_1_0_0) shapeCasts_S2x8x1x8192x8448_S2x8x8192x8448))

/-- The values weighted. -/
def prod (v : FVec Ideal S8x2x2x8448x128 .f32) (a : FVec Ideal S2x8x8192x8448 .f32) : FVec Ideal S2x8192x8x256 .f32 :=
  shapeCast _ (transpose S2x8192x8x2x128 [0, 4, 1, 2, 3] (Host.dotGeneral dot_S8x2x2x8448x128_S2x8x8192x8448_S2x8x2x128x8192_3_3_14_2_20_01 none v a) transposes_S2x8x2x128x8192_S2x8192x8x2x128_0_4_1_2_3) shapeCasts_S2x8192x8x2x128_S2x8192x8x256

/-- The sums of the squares of the rows. -/
def sqs (o : FVec Ideal S2x8192x8x256 .f32) : FVec Ideal S2x8192x8 .f32 :=
  Host.reduceAdd (mulf o o) (constant S_ .f32 0x00000000#32) reducesTo_S2x8192x8x256_S2x8192x8_d3 h_S_

/-- The rows over the root of their mean square, scaled. -/
def nrmR (o : FVec Ideal S2x8192x8x256 .f32) (q : FVec Ideal S2x8192x8 .f32) (g : FVec Ideal S256 .f32) : FVec Ideal S16384x2048 .bf16 :=
  truncf .bf16 (shapeCast _ (mulf (mulf (mulf o (broadcastInDim S2x8192x8x256 ![0, 1, 2, 3] bcast_S2x8192x8x1_S2x8192x8x256_0_1_2_3 (Host.rsqrt (addf (Host.divf (broadcastInDim S2x8192x8x1 ![0, 1, 2] bcast_S2x8192x8_S2x8192x8x1_0_1_2 q) (broadcastInDim S2x8192x8x1 ![] bcast_S_S2x8192x8x1 (constant S_ .f32 0x43800000#32))) (broadcastInDim S2x8192x8x1 ![] bcast_S_S2x8192x8x1 (constant S_ .f32 0x358637BD#32)))))) (broadcastInDim S2x8192x8x256 ![0, 1, 2, 3] bcast_S1x1x1x256_S2x8192x8x256_0_1_2_3 (broadcastInDim S1x1x1x256 ![3] bcast_S256_S1x1x1x256_3 g))) (broadcastInDim S2x8192x8x256 ![] bcast_S_S2x8192x8x256 (constant S_ .f32 0x3F4CCCCD#32))) shapeCasts_S2x8192x8x256_S16384x2048) bitsLt_bf16_f32

/-- The difference that is normed. -/
def difR (s : FVec Ideal S2x8x2x8192x8448 .f32) (v : FVec Ideal S8x2x2x8448x128 .f32) (l : FVec Ideal S_ .f32) : FVec Ideal S2x8192x8x256 .f32 :=
  prod v (mixR (quot (expo s (rmax s))) l)

/-- The result from scores, values, factor and gain. -/
def outp (s : FVec Ideal S2x8x2x8192x8448 .f32) (v : FVec Ideal S8x2x2x8448x128 .f32) (l : FVec Ideal S_ .f32) (g : FVec Ideal S256 .f32) : FVec Ideal S16384x2048 .bf16 :=
  nrmR (difR s v l) (sqs (difR s v l)) g

theorem res_eq (m : (ℓ : Loc nD τ sig) → Buf (Elt Ideal) ℓ) (c : Dev nD) :
    Value.res_main_v66 m c = outp (sco (m ((c.tc : Thread nD τ).loc main_arg0)) (m ((c.tc : Thread nD τ).loc main_arg2))) (vals (m ((c.tc : Thread nD τ).loc main_arg1)) (m ((c.tc : Thread nD τ).loc main_arg3)))
      (lamR (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := rfl

/-- A score: the product with a latent key or a context key, times `log 2`. -/
theorem sco_at (A0 : FVec Ideal S52x16384x128 .bf16) (A2 : FVec Ideal S52x512x128 .bf16) (b : Fin 2) (h : Fin 8) (k : Fin 2) (q : Fin 8192) (n : Fin 8448) :
    sco A0 A2 (ix5 b h k q n) = (∑ e, A0 (ix3 ⟨20 + (h.val * 2 + k.val), by omega⟩ ⟨b.val * 8192 + q.val, by omega⟩ e) *
      if hn : n.val < 8192 then A0 (ix3 ⟨36 + (h.val * 2 + k.val), by omega⟩ ⟨b.val * 8192 + n.val, by omega⟩ e)
      else A2 (ix3 ⟨36 + (h.val * 2 + k.val), by omega⟩ ⟨b.val * 256 + (n.val - 8192), by omega⟩ e)) * Ideal.log (Ideal.ofBits FTy.f32 0x40000000#32) := by
  pointwise [sco]

/-- A value, latent or context. -/
theorem vals_at (A1 : FVec Ideal S72x16384x128 .bf16) (A3 : FVec Ideal S72x512x128 .bf16) (h : Fin 8) (k : Fin 2) (b : Fin 2) (n : Fin 8448) (d : Fin 128) :
    vals A1 A3 (ix5 h k b n d) = if hn : n.val < 8192 then A1 (ix3 ⟨56 + (h.val * 2 + k.val), by omega⟩ ⟨b.val * 8192 + n.val, by omega⟩ d)
      else A3 (ix3 ⟨56 + (h.val * 2 + k.val), by omega⟩ ⟨b.val * 256 + (n.val - 8192), by omega⟩ d) := by
  pointwise [vals]

theorem rred_at (s : FVec Ideal S2x8x2x8192x8448 .f32) (b : Fin 2) (h : Fin 8) (k : Fin 2) (q : Fin 8192) :
    Host.reduce FloatOps.maximumf s (constant S_ .f32 0xFF800000#32) reducesTo_S2x8x2x8192x8448_S2x8x2x8192_d4 h_S_ (ix4 b h k q)
      = Finset.univ.fold max (Ideal.ofBits FTy.f32 0xFF800000#32) fun n => s (ix5 b h k q n) := by
  pointwise

theorem gmax_at (N : FVec Ideal S2x8x2x8192 .f32) (b : Fin 2) (h : Fin 8) (k : Fin 2) (q : Fin 8192) :
    maximumf (broadcastInDim S2x8x2x8192 ![] bcast_S_S2x8x2x8192 (constant S_ .f32 0xFF800000#32)) N (ix4 b h k q)
      = max (Ideal.ofBits FTy.f32 0xFF800000#32) (N (ix4 b h k q)) := by
  pointwise

theorem rmax_at (s : FVec Ideal S2x8x2x8192x8448 .f32) (b : Fin 2) (h : Fin 8) (k : Fin 2) (q : Fin 8192) :
    rmax s (ix4 b h k q) = Finset.univ.fold max ⊥ fun n => s (ix5 b h k q n) := by
  refine (gmax_at _ b h k q).trans ?_
  rw [rred_at, ofBits_bot, max_eq_right bot_le]

theorem expo_at (s : FVec Ideal S2x8x2x8192x8448 .f32) (M : FVec Ideal S2x8x2x8192 .f32) (b : Fin 2) (h : Fin 8) (k : Fin 2) (q : Fin 8192) (n : Fin 8448) :
    expo s M (ix5 b h k q n) = Ideal.exp (s (ix5 b h k q n) - M (ix4 b h k q)) := by
  pointwise [expo]

theorem rsum_at (E : FVec Ideal S2x8x2x8192x8448 .f32) (b : Fin 2) (h : Fin 8) (k : Fin 2) (q : Fin 8192) :
    Host.reduceAdd E (constant S_ .f32 0x00000000#32) reducesTo_S2x8x2x8192x8448_S2x8x2x8192_d4 h_S_ (ix4 b h k q) = ∑ n, E (ix5 b h k q n) := by
  pointwise

theorem div_at (E : FVec Ideal S2x8x2x8192x8448 .f32) (L : FVec Ideal S2x8x2x8192 .f32) (b : Fin 2) (h : Fin 8) (k : Fin 2) (q : Fin 8192) (n : Fin 8448) :
    Host.divf E (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 L)) (ix5 b h k q n)
      = Ideal.div (E (ix5 b h k q n)) (L (ix4 b h k q)) := by
  pointwise

theorem quot_at (E : FVec Ideal S2x8x2x8192x8448 .f32) (b : Fin 2) (h : Fin 8) (k : Fin 2) (q : Fin 8192) (n : Fin 8448) :
    quot E (ix5 b h k q n) = Ideal.div (E (ix5 b h k q n)) (∑ n, E (ix5 b h k q n)) :=
  (div_at _ _ b h k q n).trans (congrArg (Ideal.div _) (rsum_at _ b h k q))

theorem lamR_at (x₁ y₁ x₂ y₂ : FVec Ideal S128 .f32) : lamR x₁ y₁ x₂ y₂ ix0 = lam x₁ y₁ x₂ y₂ := by
  unfold lam
  pointwise [lamR]

theorem mixR_at (p : FVec Ideal S2x8x2x8192x8448 .f32) (l : FVec Ideal S_ .f32) (b : Fin 2) (h : Fin 8) (q : Fin 8192) (n : Fin 8448) :
    mixR p l (ix4 b h q n) = p (ix5 b h 0 q n) - l ix0 * p (ix5 b h 1 q n) := by
  pointwise [mixR]

theorem prod_at (v : FVec Ideal S8x2x2x8448x128 .f32) (a : FVec Ideal S2x8x8192x8448 .f32) (b : Fin 2) (q : Fin 8192) (h : Fin 8) (d : Fin 256) :
    prod v a (ix4 b q h d) = ∑ n, v (ix5 h ⟨d.val / 128, by omega⟩ b n ⟨d.val % 128, by omega⟩) * a (ix4 b h q n) := by
  pointwise [prod]

theorem sqs_at (o : FVec Ideal S2x8192x8x256 .f32) (b : Fin 2) (q : Fin 8192) (h : Fin 8) :
    sqs o (ix3 b q h) = ∑ d, o (ix4 b q h d) * o (ix4 b q h d) := by
  pointwise [sqs]

theorem nrmR_at (o : FVec Ideal S2x8192x8x256 .f32) (q : FVec Ideal S2x8192x8 .f32) (g : FVec Ideal S256 .f32) (R : Fin 16384) (C : Fin 2048) :
    nrmR o q g (ix2 R C) = o (ix4 ⟨R.val / 8192, by omega⟩ ⟨R.val % 8192, by omega⟩ ⟨C.val / 256, by omega⟩ ⟨C.val % 256, by omega⟩)
      * Ideal.rsqrt (Ideal.div (q (ix3 ⟨R.val / 8192, by omega⟩ ⟨R.val % 8192, by omega⟩ ⟨C.val / 256, by omega⟩)) (Ideal.ofBits .f32 0x43800000#32) + Ideal.ofBits .f32 0x358637BD#32)
      * g (ix1 ⟨C.val % 256, by omega⟩) * Ideal.ofBits .f32 0x3F4CCCCD#32 := by
  pointwise [nrmR]

/-- A weight, from scores that are real numbers times `log 2`. -/
theorem prob_at (s : FVec Ideal S2x8x2x8192x8448 .f32) (b : Fin 2) (h : Fin 8) (k : Fin 2) (q : Fin 8192) (n : Fin 8448) (σ : Fin 8448 → ℝ)
    (hs : ∀ n, s (ix5 b h k q n) = ((σ n * Real.log 2 : ℝ) : EReal)) :
    quot (expo s (rmax s)) (ix5 b h k q n) = (((1 / ∑ n, pw (σ n)) * pw (σ n) : ℝ) : EReal) := by
  rw [quot_at]
  simp only [expo_at, rmax_at]
  exact soft_one σ (fun n => s (ix5 b h k q n)) _ hs rfl n

/-- The scores of a row, latent then context. -/
def scs (A0 : FVec Ideal S52x16384x128 .bf16) (A2 : FVec Ideal S52x512x128 .bf16) (h : Fin 8) (k : Fin 2) (R : Fin 16384) (n : Fin 8448) : ℝ :=
  if hn : n.val < 8192 then scL A0 h k R ⟨n.val, hn⟩ else scC A0 A2 h k R ⟨n.val - 8192, by omega⟩

section
variable {A0 : FVec Ideal S52x16384x128 .bf16} {A1 : FVec Ideal S72x16384x128 .bf16} {A2 : FVec Ideal S52x512x128 .bf16} {A3 : FVec Ideal S72x512x128 .bf16}
  {x₁ y₁ x₂ y₂ : FVec Ideal S128 .f32} (hf : FinD A0 A1 A2 A3 x₁ y₁ x₂ y₂) (g : FVec Ideal S256 .f32)

include hf in
theorem sco_real (h : Fin 8) (k : Fin 2) (R : Fin 16384) (n : Fin 8448) :
    sco A0 A2 (ix5 ⟨R.val / 8192, by omega⟩ h k ⟨R.val % 8192, by omega⟩ n) = ((scs A0 A2 h k R n * Real.log 2 : ℝ) : EReal) := by
  have e3 : R.val / 8192 * 8192 + R.val % 8192 = R.val := by omega
  have hlog : Ideal.log (Ideal.ofBits FTy.f32 0x40000000#32) = ((Real.log 2 : ℝ) : EReal) := by
    rw [ofBits_two, Ideal.log_coe, if_neg (by norm_num)]
  rw [sco_at, hlog, EReal.coe_mul]
  congr 1
  unfold scs
  simp only [e3, ← Nat.add_assoc]
  by_cases hn : n.val < 8192
  · simp only [dif_pos hn]
    unfold scL
    rw [← sum_mul_real _ _ (fun e => hf.lat _ _ e (by show 20 ≤ 36 + h.val * 2 + k.val; omega)) (fun e => hf.lat _ _ e (by show 20 ≤ 20 + h.val * 2 + k.val; omega))]
    exact Finset.sum_congr rfl fun e _ => mul_comm _ _
  · simp only [dif_neg hn]
    unfold scC
    rw [← sum_mul_real _ _ (fun e => hf.ctx _ _ e (by show 36 ≤ 36 + h.val * 2 + k.val; omega)) (fun e => hf.lat _ _ e (by show 20 ≤ 20 + h.val * 2 + k.val; omega))]
    exact Finset.sum_congr rfl fun e _ => mul_comm _ _

/-- One map's attention, as sums over latent and context keys together. -/
theorem av_eq (h : Fin 8) (k : Fin 2) (R : Fin 16384) (d : Fin 256) :
    av A0 A1 A2 A3 h k R d = ((1 / ∑ n, pw (scs A0 A2 h k R n) : ℝ) : EReal)
      * ∑ n, vals A1 A3 (ix5 h ⟨d.val / 128, by omega⟩ ⟨R.val / 8192, by omega⟩ n ⟨d.val % 128, by omega⟩) * (pw (scs A0 A2 h k R n) : EReal) := by
  unfold av wsum vlL vlC scs
  simp only [vals_at, sum_split]
  have hlt : ∀ i : Fin 8192, i.val < 8192 := fun i => i.isLt
  have hge : ∀ i : Fin 256, ¬ 8192 + i.val < 8192 := fun i => by omega
  simp only [dif_pos (hlt _), dif_neg (hge _), Nat.add_sub_cancel_left, Nat.add_assoc]

include hf in
theorem vals_real (h : Fin 8) (k : Fin 2) (b : Fin 2) (n : Fin 8448) (d : Fin 128) : ((vals A1 A3 (ix5 h k b n d)).toReal : EReal) = vals A1 A3 (ix5 h k b n d) := by
  rw [vals_at]
  split
  · exact hf.vlat _ _ _ (by show 56 ≤ 56 + (h.val * 2 + k.val); omega)
  · exact hf.vctx _ _ _ (by show 56 ≤ 56 + (h.val * 2 + k.val); omega)

include hf in
/-- The difference at an index. -/
theorem dif_at (h : Fin 8) (R : Fin 16384) (d : Fin 256) :
    difR (sco A0 A2) (vals A1 A3) (lamR x₁ y₁ x₂ y₂) (ix4 ⟨R.val / 8192, by omega⟩ ⟨R.val % 8192, by omega⟩ h d) = od A0 A1 A2 A3 x₁ y₁ x₂ y₂ h R d := by
  obtain ⟨r, hr⟩ := lam_real hf
  unfold difR od
  rw [prod_at, av_eq, av_eq, hr]
  refine Eq.trans (Finset.sum_congr rfl fun n _ => ?_) (sum_mix _ (fun n => vals_real hf _ _ _ n _) _ _ _ _ r)
  rw [mixR_at, lamR_at, hr, prob_at _ _ _ _ _ _ _ (sco_real hf h 0 R), prob_at _ _ _ _ _ _ _ (sco_real hf h 1 R)]

include hf in
/-- The reference's result at an index is the formula. -/
theorem ref_at (R : Fin 16384) (C : Fin 2048) :
    outp (sco A0 A2) (vals A1 A3) (lamR x₁ y₁ x₂ y₂) g (ix2 R C) = spec A0 A1 A2 A3 x₁ y₁ x₂ y₂ g ⟨C.val / 256, by omega⟩ R ⟨C.val % 256, by omega⟩ := by
  unfold outp spec normed
  rw [nrmR_at, sqs_at]
  simp only [dif_at hf]
end

/-- The reference's result is the array of the formula. -/
theorem ref_final (m : (ℓ : Loc nD τ sig) → Buf (Elt Ideal) ℓ) (c : Dev nD)
    (hf : FinD (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)))
    (R : Fin 16384) (C : Fin 2048) :
    Value.res_main_v66 m c (ix2 R C) = spec (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ⟨C.val / 256, by omega⟩ R ⟨C.val % 256, by omega⟩ := by
  rw [res_eq]
  exact ref_at hf _ R C

end Cert.Reference8Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_qk
public import proofs.«01_k».proof.Proof.Gen.Pre_finite_mlp
public import proofs.«01_k».proof.Proof.Gen.Pre_finite_diff
public import proofs.«01_k».proof.Proof.Final
public import proofs.«01_k».proof.Proof.Ref
public import proofs.«01_k».proof.Proof.K2.Frame
public import proofs.«01_k».proof.Proof.K2I.Frame
public import proofs.«01_k».proof.Proof.Mlp.Final
public import proofs.«01_k».proof.Proof.Mlp.Ref
public import proofs.«01_k».proof.Proof.K3.Frame
public import proofs.«01_k».proof.Proof.K3I.Frame
public import proofs.«01_k».proof.Proof.Mlp0.Final
public import proofs.«01_k».proof.Proof.Mlp0.Ref
public import proofs.«01_k».proof.Proof.Proj.Even
public import proofs.«01_k».proof.Proof.Proj.Odd
public import proofs.«01_k».proof.Proof.Proj.Out
public import proofs.«01_k».proof.Proof.Proj.OutEven
public import Idealize.ShloMosaic.Lib.Claim
public import Idealize.ShloMosaic.Adequacy
public import Idealize.ShloMosaic.Init
public import proofs.«01_k».proof.Proof.Diff.Final
public import proofs.«01_k».proof.Proof.Diff.Ref

@[expose] public section

set_option maxRecDepth 16384

noncomputable section

namespace Cert.Proof

open Idealize.ShloMosaic Idealize.SL.Sem Cert.Kernel

/-- The reference runs, leaves its arguments unchanged and every semaphore counter at zero. -/
theorem frame_ref1 : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The kernel and the reference leave equal results, where queries and keys are finite. -/
theorem value1 : Cert.algebraic_KernelIdeal_ReferenceIdeal_pre_finite_qk (hKernelIdeal := Cert.KernelIdeal.Gen.facts) (hReferenceIdeal := Cert.ReferenceIdeal.Gen.facts)
    (hPre_finite_qk := Cert.Pre_finite_qk.Gen.facts) := by
  pair_intro
  · run_from Cert.KernelIdeal.Gen.run_main m g
  · refine (θ_run Cert.ReferenceIdeal.defs _ _).mono (fun r h c => ⟨(h c).1.trans ?_, (h c).2⟩) (Cert.ReferenceIdeal.Value.run (F := Ideal) m' g')
    have hk := Cert.KernelIdeal.Hand.fin0_of_pre _ _ _ _ (hpre c)
    obtain ⟨e0, e1, e2, e3⟩ := hagree c
    refine (Cert.KernelIdeal.Hand.final m c hk _ fun R C => ?_).symm
    refine (Cert.ReferenceIdeal.Hand.ref_final m' c ?_ R C).trans ?_
    · rw [e0, e2]; exact hk
    · rw [e0, e1, e2, e3]

/-- So does the feed-forward reference. -/
theorem frame_ref2 : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

/-- The feed-forward kernel and its reference leave equal results, where the gain, the modulation and the weights are finite. -/
theorem value2 : Cert.algebraic_Kernel2Ideal_Reference2Ideal_pre_finite_mlp (hKernel2Ideal := Cert.Kernel2Ideal.Gen.facts)
    (hReference2Ideal := Cert.Reference2Ideal.Gen.facts) (hPre_finite_mlp := Cert.Pre_finite_mlp.Gen.facts) := by
  pair_intro
  · run_from Cert.Kernel2Ideal.Gen.run_main m g
  · refine (θ_run Cert.Reference2Ideal.defs _ _).mono (fun r h c => ⟨(h c).1.trans ?_, (h c).2⟩) (Cert.Reference2Ideal.Value.run (F := Ideal) m' g')
    have hk := Cert.Reference2Ideal.Hand.finM_of_pre _ _ _ _ _ _ (hpre c)
    obtain ⟨e0, e1, e2, e3, e4, e5⟩ := hagree c
    refine (Cert.Kernel2Ideal.Hand.final m c hk _ fun R d => ?_).symm
    refine (Cert.Reference2Ideal.Hand.ref_final m' c R d).trans ?_
    rw [e0, e1, e2, e3, e4, e5]

/-- And the feed-forward reference without a last norm. -/
theorem frame_ref3 : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

/-- The feed-forward kernel without a last norm and its reference leave equal results, where the gain, the modulation and the weights are finite. -/
theorem value3 : Cert.algebraic_Kernel3Ideal_Reference3Ideal_pre_finite_mlp (hKernel3Ideal := Cert.Kernel3Ideal.Gen.facts)
    (hReference3Ideal := Cert.Reference3Ideal.Gen.facts) (hPre_finite_mlp := Cert.Pre_finite_mlp.Gen.facts) := by
  pair_intro
  · run_from Cert.Kernel3Ideal.Gen.run_main m g
  · refine (θ_run Cert.Reference3Ideal.defs _ _).mono (fun r h c => ⟨(h c).1.trans ?_, (h c).2⟩) (Cert.Reference3Ideal.Value.run (F := Ideal) m' g')
    have hk := Cert.Reference2Ideal.Hand.finM_of_pre _ _ _ _ _ _ (hpre c)
    obtain ⟨e0, e1, e2, e3, e4, e5⟩ := hagree c
    refine (Cert.Kernel3Ideal.Hand.final m c hk _ fun R d => ?_).symm
    refine (Cert.Reference3Ideal.Hand.ref_final m' c R d).trans ?_
    rw [e0, e1, e2, e3, e4]

/-- And the reference of the first layer's input projection. -/
theorem frame_ref4 : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Value.run (F := Ideal) m g)

/-- Kernel and reference of the first layer's input projection leave equal results. -/
theorem value4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · refine (θ_run Cert.Reference4Ideal.defs _ _).mono (fun r h c => ⟨(h c).1.trans ?_, (h c).2⟩) (Cert.Reference4Ideal.Value.run (F := Ideal) m' g')
    obtain ⟨e0, e1⟩ := hagree c
    refine (Cert.Kernel4Ideal.Hand.final m c _ fun J R d => ?_).symm
    refine (Cert.Reference4Ideal.Hand.res_at _ _ J R d).trans ?_
    rw [e0, e1]

/-- And the reference of the second layer's input projection. -/
theorem frame_ref5 : Cert.quiescent_Reference5Ideal (hReference5Ideal := Cert.Reference5Ideal.Gen.facts) := by
  intro m g _
  exact (θ_run Cert.Reference5Ideal.defs _ _).mono (fun r h => ⟨fun c => (h c).2, sem_eq_zero_of_no_sems (by decide) r.2⟩)
    (Cert.Reference5Ideal.Value.run (F := Ideal) m g)

/-- Kernel and reference of the second layer's input projection leave equal results. -/
theorem value5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · refine (θ_run Cert.Reference5Ideal.defs _ _).mono (fun r h c => ⟨(h c).1.trans ?_, (h c).2⟩) (Cert.Reference5Ideal.Value.run (F := Ideal) m' g')
    obtain ⟨e0, e1⟩ := hagree c
    refine (Cert.Kernel5Ideal.Hand.final m c _ fun J R d => ?_).symm
    refine (Cert.Reference5Ideal.Hand.res_at _ _ J R d).trans ?_
    rw [e0, e1]

/-- And the reference of the second layer's output projection. -/
theorem frame_ref6 : Cert.quiescent_Reference6Ideal (hReference6Ideal := Cert.Reference6Ideal.Gen.facts) := by
  intro m g _
  exact (θ_run Cert.Reference6Ideal.defs _ _).mono (fun r h => ⟨fun c => (h c).2, sem_eq_zero_of_no_sems (by decide) r.2⟩)
    (Cert.Reference6Ideal.Value.run (F := Ideal) m g)

/-- Kernel and reference of the second layer's output projection leave equal results. -/
theorem value6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · refine (θ_run Cert.Reference6Ideal.defs _ _).mono (fun r h c => ⟨(h c).1.trans ?_, (h c).2⟩) (Cert.Reference6Ideal.Value.run (F := Ideal) m' g')
    obtain ⟨e0, e1, e2, e3⟩ := hagree c
    refine (Cert.Kernel6Ideal.Hand.final m c _ fun R d => ?_).symm
    refine (Cert.Reference6Ideal.Hand.res_at (extf .f32 _ Cert.Reference6Ideal.Gen.bitsLt_bf16_f32) _ _ _ R d).trans ?_
    rw [e0, e1, e2, e3]
    rfl

/-- And the reference of the first layer's output projection. -/
theorem frame_ref7 : Cert.quiescent_Reference7Ideal (hReference7Ideal := Cert.Reference7Ideal.Gen.facts) := by
  intro m g _
  exact (θ_run Cert.Reference7Ideal.defs _ _).mono (fun r h => ⟨fun c => (h c).2, sem_eq_zero_of_no_sems (by decide) r.2⟩)
    (Cert.Reference7Ideal.Value.run (F := Ideal) m g)

/-- Kernel and reference of the first layer's output projection leave equal results. -/
theorem value7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · refine (θ_run Cert.Reference7Ideal.defs _ _).mono (fun r h c => ⟨(h c).1.trans ?_, (h c).2⟩) (Cert.Reference7Ideal.Value.run (F := Ideal) m' g')
    obtain ⟨e0, e1, e2, e3, e4⟩ := hagree c
    refine (Cert.Kernel7Ideal.Hand.final m c _ fun R d => ?_).symm
    refine (Cert.Reference7Ideal.Hand.res_at _ _ _ _ _ R d).trans ?_
    rw [e0, e1, e2, e3, e4]

theorem frame_ref8 : Cert.quiescent_Reference8Ideal (hReference8Ideal := Cert.Reference8Ideal.Gen.facts) := by
  intro m g _
  exact (θ_run Cert.Reference8Ideal.defs _ _).mono (fun r h => ⟨fun c => (h c).2, sem_eq_zero_of_no_sems (by decide) r.2⟩)
    (Cert.Reference8Ideal.Value.run (F := Ideal) m g)

/-- Kernel and reference of the differential attention leave equal results. -/
theorem value8 : Cert.algebraic_Kernel8Ideal_Reference8Ideal_pre_finite_diff (hKernel8Ideal := Cert.Kernel8Ideal.Gen.facts)
    (hReference8Ideal := Cert.Reference8Ideal.Gen.facts) (hPre_finite_diff := Cert.Pre_finite_diff.Gen.facts) := by
  pair_intro
  · run_from Cert.Kernel8Ideal.Gen.run_main m g
  · refine (θ_run Cert.Reference8Ideal.defs _ _).mono (fun r h c => ⟨(h c).1.trans ?_, (h c).2⟩) (Cert.Reference8Ideal.Value.run (F := Ideal) m' g')
    have hk := Cert.Kernel8Ideal.Hand.finD_of_pre _ _ _ _ _ _ _ _ _ (hpre c)
    obtain ⟨e0, e1, e2, e3, e4, e5, e6, e7, e8⟩ := hagree c
    refine (Cert.Kernel8Ideal.Hand.final m c hk _ fun R C => ?_).symm
    refine (Cert.Reference8Ideal.Hand.ref_final m' c ?_ R C).trans ?_
    · rw [e0, e1, e2, e3, e4, e5, e6, e7]; exact hk
    · rw [e0, e1, e2, e3, e4, e5, e6, e7, e8]

/-- Every claim. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_qk.Gen.facts, Cert.Pre_finite_mlp.Gen.facts, Cert.Pre_finite_diff.Gen.facts,
  fun m g _ => Cert.Kernel.Gen.frame m g, fun m g _ => Cert.KernelIdeal.Gen.frame m g, fun m g _ => Cert.KernelIdeal.Gen.frame m g,
  frame_ref1, fun m g _ => frame_ref1 m g trivial,
  fun m g _ => Cert.Kernel2.Gen.frame m g, fun m g _ => Cert.Kernel2Ideal.Gen.frame m g, fun m g _ => Cert.Kernel2Ideal.Gen.frame m g,
  frame_ref2, fun m g _ => frame_ref2 m g trivial,
  fun m g _ => Cert.Kernel3.Gen.frame m g, fun m g _ => Cert.Kernel3Ideal.Gen.frame m g, fun m g _ => Cert.Kernel3Ideal.Gen.frame m g,
  frame_ref3, fun m g _ => frame_ref3 m g trivial,
  fun m g _ => Cert.Kernel4.Gen.frame m g, fun m g _ => Cert.Kernel4Ideal.Gen.frame m g, frame_ref4,
  fun m g _ => Cert.Kernel5.Gen.frame m g, fun m g _ => Cert.Kernel5Ideal.Gen.frame m g, frame_ref5,
  fun m g _ => Cert.Kernel6.Gen.frame m g, fun m g _ => Cert.Kernel6Ideal.Gen.frame m g, frame_ref6,
  fun m g _ => Cert.Kernel7.Gen.frame m g, fun m g _ => Cert.Kernel7Ideal.Gen.frame m g, frame_ref7,
  fun m g _ => Cert.Kernel8.Gen.frame m g, fun m g _ => Cert.Kernel8Ideal.Gen.frame m g, fun m g _ => Cert.Kernel8Ideal.Gen.frame m g,
  frame_ref8, fun m g _ => frame_ref8 m g trivial,
  trivial, value1, trivial, value2, trivial, value3, trivial, value4, trivial, value5, trivial, value6, trivial, value7, trivial, value8⟩

end Cert.Proof

end
